-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v47_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_v51) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v35) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v4_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v59) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v4_0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v59) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_below_infinity (hKernelIdeal := hKernelIdeal) (hReferenceIdeal := hReferenceIdeal) (hPre_below_infinity := hPre_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_below_infinity.lean ====
abbrev S8448x5120 : Shape := ⟨2, ![8448, 5120]⟩
abbrev S2x1024 : Shape := ⟨2, ![2, 1024]⟩
abbrev S8448x1024 : Shape := ⟨2, ![8448, 1024]⟩
abbrev S132x8x128x128 : Shape := ⟨4, ![132, 8, 128, 128]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S8448x5120 .f32) (main_arg1 : FVec F S2x1024 .f32) (main_arg2 : FVec F S8448x1024 .f32) (main_arg3 : FVec F S132x8x128x128 .f32) : IVec S2x1024 1 :=
  let main_cst : FVec F S_ .f32 := constant S_ .f32 0x7F800000#32
  let main_v0 : FVec F S2x1024 .f32 := broadcastInDim S2x1024 ![] bcast_S_S2x1024 main_cst
  let main_v1 : IVec S2x1024 1 := cmpf .olt main_arg1 main_v0
  main_v1
-- ==== Kernel.lean ====
abbrev S8448x5120 : Shape := ⟨2, ![8448, 5120]⟩
abbrev S2x1024 : Shape := ⟨2, ![2, 1024]⟩
abbrev S8448x1024 : Shape := ⟨2, ![8448, 1024]⟩
abbrev S132x8x128x128 : Shape := ⟨4, ![132, 8, 128, 128]⟩
abbrev S8x1024 : Shape := ⟨2, ![8, 1024]⟩
abbrev S256x1024 : Shape := ⟨2, ![256, 1024]⟩
abbrev S4x8x128x128 : Shape := ⟨4, ![4, 8, 128, 128]⟩
abbrev S8x128x128 : Shape := ⟨3, ![8, 128, 128]⟩
abbrev S64x64 : Shape := ⟨2, ![64, 64]⟩
abbrev S64x1 : Shape := ⟨2, ![64, 1]⟩
abbrev S1x1024 : Shape := ⟨2, ![1, 1024]⟩
abbrev S64x1024 : Shape := ⟨2, ![64, 1024]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x128 : Shape := ⟨2, ![1, 128]⟩
abbrev S128 : Shape := ⟨1, ![128]⟩
abbrev S1024 : Shape := ⟨1, ![1024]⟩

abbrev nBuf : Space → Nat
  | .hbm => 8
  | .vmem => 27
  | .smem => 0
  | _ => 0

abbrev bufTy : (tb : Table) → Fin (tcTables nBuf tb) → BufTy
  | .hbm, ⟨0, _⟩ => ⟨S8448x5120, .f32⟩
  | .hbm, ⟨1, _⟩ => ⟨S2x1024, .f32⟩
  | .hbm, ⟨2, _⟩ => ⟨S8448x1024, .f32⟩
  | .hbm, ⟨3, _⟩ => ⟨S132x8x128x128, .f32⟩
  | .hbm, ⟨4, _⟩ => ⟨S8448x1024, .bf16⟩
  | .hbm, ⟨5, _⟩ => ⟨S8448x1024, .f32⟩
  | .hbm, ⟨6, _⟩ => ⟨S8448x1024, .f32⟩
  | .hbm, ⟨7, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2x1024, .f32⟩
  | .local _ .vmem, ⟨7, _⟩ => ⟨S256x1024, .f32⟩
  | .local _ .vmem, ⟨8, _⟩ => ⟨S256x1024, .f32⟩
  | .local _ .vmem, ⟨9, _⟩ => ⟨S4x8x128x128, .f32⟩
  | .local _ .vmem, ⟨10, _⟩ => ⟨S4x8x128x128, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | .local _ .vmem, ⟨18, _⟩ => ⟨S8x128x128, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S8x1024, .f32⟩
  | _, _ => ⟨S8448x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c64_i32 : BitVec 32 := 64#32
  let v0 : BitVec 32 := Scalar.subi c64_i32 arg0
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let c64_i32 : BitVec 32 := 64#32
  let v0 : BitVec 32 := Scalar.subi c64_i32 arg0
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let c0_i32_3 : BitVec 32 := 0#32
  ![v10.toNat, c2_i32.toNat]

def cc0_transform_2 (i : grid0.Coords) : Fin 2 → Nat :=
  let arg0 : BitVec 32 := BitVec.ofNat 32 (i 0).val
  let c64_i32 : BitVec 32 := 64#32
  let v0 : BitVec 32 := Scalar.subi c64_i32 arg0
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32 : BitVec 32 := 3#32
  let c0_i32_3 : BitVec 32 := 0#32
  ![v10.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c64_i32 : BitVec 32 := 64#32
  let v0 : BitVec 32 := Scalar.subi c64_i32 arg0
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_5 (i : grid0.Coords) : Fin 4 → Nat :=
  let arg0 : BitVec 32 := BitVec.ofNat 32 (i 0).val
  let c64_i32 : BitVec 32 := 64#32
  let v0 : BitVec 32 := Scalar.subi c64_i32 arg0
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  let c0_i32_6 : BitVec 32 := 0#32
  ![v10.toNat, c0_i32_3.toNat, c0_i32_4.toNat, c0_i32_5.toNat]

def cc0_transform_6 (i : grid0.Coords) : Fin 2 → Nat :=
  let arg0 : BitVec 32 := BitVec.ofNat 32 (i 0).val
  let c64_i32 : BitVec 32 := 64#32
  let v0 : BitVec 32 := Scalar.subi c64_i32 arg0
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_7 (i : grid0.Coords) : Fin 2 → Nat :=
  let arg0 : BitVec 32 := BitVec.ofNat 32 (i 0).val
  let c64_i32 : BitVec 32 := 64#32
  let v0 : BitVec 32 := Scalar.subi c64_i32 arg0
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_8 (i : grid0.Coords) : Fin 2 → Nat :=
  let arg0 : BitVec 32 := BitVec.ofNat 32 (i 0).val
  let c64_i32 : BitVec 32 := 64#32
  let v0 : BitVec 32 := Scalar.subi c64_i32 arg0
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8448x5120 : Shape := ⟨2, ![8448, 5120]⟩
abbrev S2x1024 : Shape := ⟨2, ![2, 1024]⟩
abbrev S8448x1024 : Shape := ⟨2, ![8448, 1024]⟩
abbrev S132x8x128x128 : Shape := ⟨4, ![132, 8, 128, 128]⟩
abbrev S1x1024 : Shape := ⟨2, ![1, 1024]⟩
abbrev S1024 : Shape := ⟨1, ![1024]⟩
abbrev S8x128 : Shape := ⟨2, ![8, 128]⟩
abbrev S_ : Shape := ⟨0, ![]⟩
abbrev S1x8448x1024 : Shape := ⟨3, ![1, 8448, 1024]⟩
abbrev S1x256x1024 : Shape := ⟨3, ![1, 256, 1024]⟩
abbrev S1x8192x1024 : Shape := ⟨3, ![1, 8192, 1024]⟩
abbrev S1x8448x8x128 : Shape := ⟨4, ![1, 8448, 8, 128]⟩
abbrev S1x1x8x128 : Shape := ⟨4, ![1, 1, 8, 128]⟩
abbrev S4x8x128x128 : Shape := ⟨4, ![4, 8, 128, 128]⟩
abbrev S128x8x128x128 : Shape := ⟨4, ![128, 8, 128, 128]⟩
abbrev S132x1x8x128x128 : Shape := ⟨5, ![132, 1, 8, 128, 128]⟩
abbrev S1x132x64x8x128 : Shape := ⟨5, ![1, 132, 64, 8, 128]⟩
abbrev S132x1x8x64x128 : Shape := ⟨5, ![132, 1, 8, 64, 128]⟩
abbrev S1x8x128x128 : Shape := ⟨4, ![1, 8, 128, 128]⟩
abbrev S1x1x8x128x128 : Shape := ⟨5, ![1, 1, 8, 128, 128]⟩
abbrev S1x1x8x64x128 : Shape := ⟨5, ![1, 1, 8, 64, 128]⟩
abbrev S1x8x64x128 : Shape := ⟨4, ![1, 8, 64, 128]⟩
abbrev S64x64 : Shape := ⟨2, ![64, 64]⟩
abbrev S1x8x1x128 : Shape := ⟨4, ![1, 8, 1, 128]⟩
abbrev S1x8x64x64 : Shape := ⟨4, ![1, 8, 64, 64]⟩
abbrev S1x8x128 : Shape := ⟨3, ![1, 8, 128]⟩
abbrev S1x8x128x1 : Shape := ⟨4, ![1, 8, 128, 1]⟩
abbrev S1x8x128x64 : Shape := ⟨4, ![1, 8, 128, 64]⟩

abbrev nBuf : Space → Nat
  | .hbm => 276
  | .vmem => 0
  | .smem => 0
  | _ => 0

abbrev hbmTy0_0 (i : Nat) : BufTy := match i % 128 with
  | 0 => ⟨S8448x5120, .f32⟩
  | 1 => ⟨S2x1024, .f32⟩
  | 2 => ⟨S8448x1024, .f32⟩
  | 3 => ⟨S132x8x128x128, .f32⟩
  | 4 => ⟨S1x1024, .f32⟩
  | 5 => ⟨S1024, .f32⟩
  | 6 => ⟨S8x128, .f32⟩
  | 7 => ⟨S_, .f32⟩
  | 8 => ⟨S8x128, .f32⟩
  | 9 => ⟨S8x128, .f32⟩
  | 10 => ⟨S8448x1024, .f32⟩
  | 11 => ⟨S1x8448x1024, .f32⟩
  | 12 => ⟨S1x256x1024, .f32⟩
  | 13 => ⟨S1x8192x1024, .f32⟩
  | 14 => ⟨S1x8448x1024, .f32⟩
  | 15 => ⟨S1x8448x8x128, .f32⟩
  | 16 => ⟨S1x8448x8x128, .f32⟩
  | 17 => ⟨S1x8448x8x128, .f32⟩
  | 18 => ⟨S_, .f32⟩
  | 19 => ⟨S1x8448x8x128, .f32⟩
  | 20 => ⟨S1x8448x8x128, .f32⟩
  | 21 => ⟨S_, .f32⟩
  | 22 => ⟨S1x8448x8x128, .f32⟩
  | 23 => ⟨S1x8448x8x128, .f32⟩
  | 24 => ⟨S1x1x8x128, .f32⟩
  | 25 => ⟨S1x8448x8x128, .f32⟩
  | 26 => ⟨S1x8448x8x128, .f32⟩
  | 27 => ⟨S1x1x8x128, .f32⟩
  | 28 => ⟨S1x8448x8x128, .f32⟩
  | 29 => ⟨S1x8448x8x128, .f32⟩
  | 30 => ⟨S_, .f32⟩
  | 31 => ⟨S1x8448x8x128, .f32⟩
  | 32 => ⟨S1x8448x8x128, .f32⟩
  | 33 => ⟨S1x8448x8x128, .f32⟩
  | 34 => ⟨S8448x1024, .f32⟩
  | 35 => ⟨S1x8448x1024, .f32⟩
  | 36 => ⟨S1x256x1024, .f32⟩
  | 37 => ⟨S1x8192x1024, .f32⟩
  | 38 => ⟨S1x8448x1024, .f32⟩
  | 39 => ⟨S1x8448x8x128, .f32⟩
  | 40 => ⟨S8448x1024, .f32⟩
  | 41 => ⟨S1x8448x1024, .f32⟩
  | 42 => ⟨S1x256x1024, .f32⟩
  | 43 => ⟨S1x8192x1024, .f32⟩
  | 44 => ⟨S1x8448x1024, .f32⟩
  | 45 => ⟨S1x8448x8x128, .f32⟩
  | 46 => ⟨S1x8448x8x128, .f32⟩
  | 47 => ⟨S1x8448x8x128, .f32⟩
  | 48 => ⟨S_, .f32⟩
  | 49 => ⟨S1x8448x8x128, .f32⟩
  | 50 => ⟨S1x8448x8x128, .f32⟩
  | 51 => ⟨S_, .f32⟩
  | 52 => ⟨S1x8448x8x128, .f32⟩
  | 53 => ⟨S1x8448x8x128, .f32⟩
  | 54 => ⟨S1x8448x8x128, .f32⟩
  | 55 => ⟨S4x8x128x128, .f32⟩
  | 56 => ⟨S128x8x128x128, .f32⟩
  | 57 => ⟨S132x8x128x128, .f32⟩
  | 58 => ⟨S132x8x128x128, .f32⟩
  | 59 => ⟨S132x1x8x128x128, .f32⟩
  | 60 => ⟨S1x8448x1024, .f32⟩
  | 61 => ⟨S1x256x1024, .f32⟩
  | 62 => ⟨S1x8192x1024, .f32⟩
  | 63 => ⟨S1x8448x1024, .f32⟩
  | 64 => ⟨S1x8448x8x128, .f32⟩
  | 65 => ⟨S1x132x64x8x128, .f32⟩
  | 66 => ⟨S132x1x8x64x128, .f32⟩
  | 67 => ⟨S_, .f32⟩
  | 68 => ⟨S1x8x128x128, .f32⟩
  | 69 => ⟨S1x132x64x8x128, .f32⟩
  | 70 => ⟨S132x1x8x64x128, .f32⟩
  | 71 => ⟨S1x132x64x8x128, .f32⟩
  | 72 => ⟨S132x1x8x64x128, .f32⟩
  | 73 => ⟨S1x132x64x8x128, .f32⟩
  | 74 => ⟨S132x1x8x64x128, .f32⟩
  | 75 => ⟨S1x132x64x8x128, .f32⟩
  | 76 => ⟨S132x1x8x64x128, .f32⟩
  | 77 => ⟨S_, .f32⟩
  | 78 => ⟨S132x1x8x64x128, .f32⟩
  | 79 => ⟨S_, .f32⟩
  | 80 => ⟨S132x1x8x64x128, .f32⟩
  | 81 => ⟨S_, .i32⟩
  | 82 => ⟨S132x1x8x128x128, .f32⟩
  | 83 => ⟨S132x1x8x64x128, .f32⟩
  | 84 => ⟨S132x1x8x64x128, .f32⟩
  | 85 => ⟨S132x1x8x64x128, .f32⟩
  | 86 => ⟨S132x1x8x64x128, .f32⟩
  | 87 => ⟨S132x1x8x64x128, .f32⟩
  | 88 => ⟨S_, .i32⟩
  | 89 => ⟨S1x8x128x128, .f32⟩
  | 90 => ⟨S132x1x8x64x128, .f32⟩
  | 91 => ⟨S132x1x8x64x128, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S1x1x8x128x128, .f32⟩
  | 103 => ⟨S1x8x128x128, .f32⟩
  | 104 => ⟨S_, .i32⟩
  | 105 => ⟨S_, .i32⟩
  | 106 => ⟨S_, .i32⟩
  | 107 => ⟨S_, .i32⟩
  | 108 => ⟨S1x1x8x64x128, .f32⟩
  | 109 => ⟨S1x8x64x128, .f32⟩
  | 110 => ⟨S_, .i32⟩
  | 111 => ⟨S_, .i32⟩
  | 112 => ⟨S_, .i32⟩
  | 113 => ⟨S_, .i32⟩
  | 114 => ⟨S1x1x8x64x128, .f32⟩
  | 115 => ⟨S1x8x64x128, .f32⟩
  | 116 => ⟨S_, .i32⟩
  | 117 => ⟨S_, .i32⟩
  | 118 => ⟨S_, .i32⟩
  | 119 => ⟨S_, .i32⟩
  | 120 => ⟨S1x1x8x64x128, .f32⟩
  | 121 => ⟨S1x8x64x128, .f32⟩
  | 122 => ⟨S_, .i32⟩
  | 123 => ⟨S_, .i32⟩
  | 124 => ⟨S_, .i32⟩
  | 125 => ⟨S_, .i32⟩
  | 126 => ⟨S1x1x8x64x128, .f32⟩
  | 127 => ⟨S1x8x64x128, .f32⟩
  | _ => ⟨S8448x5120, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x1x8x64x128, .f32⟩
  | 5 => ⟨S1x8x64x128, .f32⟩
  | 6 => ⟨S_, .i1⟩
  | 7 => ⟨S64x64, .i1⟩
  | 8 => ⟨S64x64, .i32⟩
  | 9 => ⟨S_, .i32⟩
  | 10 => ⟨S64x64, .i32⟩
  | 11 => ⟨S64x64, .i32⟩
  | 12 => ⟨S64x64, .i32⟩
  | 13 => ⟨S64x64, .i1⟩
  | 14 => ⟨S_, .i1⟩
  | 15 => ⟨S64x64, .i1⟩
  | 16 => ⟨S64x64, .i1⟩
  | 17 => ⟨S_, .f32⟩
  | 18 => ⟨S_, .f32⟩
  | 19 => ⟨S1x8x64x128, .f32⟩
  | 20 => ⟨S1x8x1x128, .f32⟩
  | 21 => ⟨S1x8x1x128, .f32⟩
  | 22 => ⟨S1x8x64x128, .f32⟩
  | 23 => ⟨S1x8x64x128, .f32⟩
  | 24 => ⟨S1x8x64x128, .f32⟩
  | 25 => ⟨S1x8x64x128, .f32⟩
  | 26 => ⟨S1x8x64x128, .f32⟩
  | 27 => ⟨S1x8x64x128, .f32⟩
  | 28 => ⟨S1x8x64x128, .f32⟩
  | 29 => ⟨S1x8x64x128, .f32⟩
  | 30 => ⟨S1x8x64x128, .f32⟩
  | 31 => ⟨S1x8x64x128, .f32⟩
  | 32 => ⟨S1x8x64x128, .f32⟩
  | 33 => ⟨S1x8x64x64, .f32⟩
  | 34 => ⟨S_, .f32⟩
  | 35 => ⟨S_, .f32⟩
  | 36 => ⟨S1x8x64x64, .i1⟩
  | 37 => ⟨S1x8x64x64, .f32⟩
  | 38 => ⟨S1x8x64x64, .f32⟩
  | 39 => ⟨S_, .f32⟩
  | 40 => ⟨S1x8x64x64, .f32⟩
  | 41 => ⟨S1x8x64x128, .f32⟩
  | 42 => ⟨S1x8x128, .f32⟩
  | 43 => ⟨S1x8x128x1, .f32⟩
  | 44 => ⟨S1x8x128x1, .f32⟩
  | 45 => ⟨S1x8x128x128, .f32⟩
  | 46 => ⟨S1x8x128x128, .f32⟩
  | 47 => ⟨S1x8x64x128, .f32⟩
  | 48 => ⟨S1x8x64x128, .f32⟩
  | 49 => ⟨S1x8x64x128, .f32⟩
  | 50 => ⟨S1x8x64x128, .f32⟩
  | 51 => ⟨S1x8x128x128, .f32⟩
  | 52 => ⟨S1x8x128x128, .f32⟩
  | 53 => ⟨S1x8x64x128, .f32⟩
  | 54 => ⟨S1x8x128x64, .f32⟩
  | 55 => ⟨S1x8x64x128, .f32⟩
  | 56 => ⟨S1x8x128x64, .f32⟩
  | 57 => ⟨S1x8x64x128, .f32⟩
  | 58 => ⟨S1x8x64x128, .f32⟩
  | 59 => ⟨S1x8x64x128, .f32⟩
  | 60 => ⟨S1x8x64x128, .f32⟩
  | 61 => ⟨S_, .f32⟩
  | 62 => ⟨S1x8x128, .f32⟩
  | 63 => ⟨S1x8x1x128, .f32⟩
  | 64 => ⟨S1x8x64x128, .f32⟩
  | 65 => ⟨S1x8x128x128, .f32⟩
  | 66 => ⟨S1x8x128x128, .f32⟩
  | 67 => ⟨S1x8x128x128, .f32⟩
  | 68 => ⟨S_, .f32⟩
  | 69 => ⟨S1x8x128, .f32⟩
  | 70 => ⟨S1x8x128x1, .f32⟩
  | 71 => ⟨S1x8x128x1, .f32⟩
  | 72 => ⟨S_, .f32⟩
  | 73 => ⟨S8x128, .f32⟩
  | 74 => ⟨S1x8x128, .f32⟩
  | 75 => ⟨S1x8x1x128, .f32⟩
  | 76 => ⟨S1x8x1x128, .f32⟩
  | 77 => ⟨S1x8x128x64, .f32⟩
  | 78 => ⟨S1x8x64x128, .f32⟩
  | 79 => ⟨S1x8x64x128, .f32⟩
  | 80 => ⟨S1x8x64x64, .f32⟩
  | 81 => ⟨S_, .f32⟩
  | 82 => ⟨S1x8x64x64, .f32⟩
  | 83 => ⟨S1x8x64x64, .f32⟩
  | 84 => ⟨S1x8x64x128, .f32⟩
  | 85 => ⟨S1x8x64x128, .f32⟩
  | 86 => ⟨S1x8x64x128, .f32⟩
  | 87 => ⟨S1x8x64x128, .f32⟩
  | 88 => ⟨S1x8x64x128, .f32⟩
  | 89 => ⟨S1x8x64x128, .f32⟩
  | 90 => ⟨S_, .f32⟩
  | 91 => ⟨S1x8x128, .f32⟩
  | 92 => ⟨S1x8x1x128, .f32⟩
  | 93 => ⟨S1x8x64x128, .f32⟩
  | 94 => ⟨S1x8x64x128, .f32⟩
  | 95 => ⟨S1x8x64x128, .f32⟩
  | 96 => ⟨S1x8x64x128, .f32⟩
  | 97 => ⟨S1x8x64x128, .f32⟩
  | 98 => ⟨S1x8x64x128, .f32⟩
  | 99 => ⟨S_, .f32⟩
  | 100 => ⟨S1x8x128, .f32⟩
  | 101 => ⟨S1x8x1x128, .f32⟩
  | 102 => ⟨S1x8x64x128, .f32⟩
  | 103 => ⟨S1x8x1x128, .f32⟩
  | 104 => ⟨S1x8x128x128, .f32⟩
  | 105 => ⟨S1x8x128x128, .f32⟩
  | 106 => ⟨S1x8x128x128, .f32⟩
  | 107 => ⟨S1x8x64x128, .f32⟩
  | 108 => ⟨S1x8x64x128, .f32⟩
  | 109 => ⟨S1x8x64x128, .f32⟩
  | 110 => ⟨S1x8x64x128, .f32⟩
  | 111 => ⟨S1x8x64x128, .f32⟩
  | 112 => ⟨S1x8x64x128, .f32⟩
  | 113 => ⟨S_, .f32⟩
  | 114 => ⟨S1x8x64x128, .f32⟩
  | 115 => ⟨S1x8x64x128, .f32⟩
  | 116 => ⟨S_, .f32⟩
  | 117 => ⟨S1x8x64x128, .f32⟩
  | 118 => ⟨S1x8x64x128, .f32⟩
  | 119 => ⟨S_, .f32⟩
  | 120 => ⟨S_, .f32⟩
  | 121 => ⟨S1x8x64x128, .f32⟩
  | 122 => ⟨S1x1x8x64x128, .f32⟩
  | 123 => ⟨S_, .i32⟩
  | 124 => ⟨S_, .i32⟩
  | 125 => ⟨S_, .i32⟩
  | 126 => ⟨S_, .i32⟩
  | 127 => ⟨S132x1x8x64x128, .f32⟩
  | _ => ⟨S8448x5120, .f32⟩

abbrev hbmTy0_2 (i : Nat) : BufTy := match i % 128 with
  | 0 => ⟨S1x1x8x64x128, .f32⟩
  | 1 => ⟨S_, .i32⟩
  | 2 => ⟨S_, .i32⟩
  | 3 => ⟨S_, .i32⟩
  | 4 => ⟨S_, .i32⟩
  | 5 => ⟨S132x1x8x64x128, .f32⟩
  | 6 => ⟨S_, .i32⟩
  | 7 => ⟨S_, .i32⟩
  | 8 => ⟨S1x132x64x8x128, .f32⟩
  | 9 => ⟨S1x8448x1024, .f32⟩
  | 10 => ⟨S1x8192x1024, .f32⟩
  | 11 => ⟨S1x256x1024, .f32⟩
  | 12 => ⟨S1x8448x1024, .f32⟩
  | 13 => ⟨S8448x1024, .f32⟩
  | 14 => ⟨S1x132x64x8x128, .f32⟩
  | 15 => ⟨S1x8448x1024, .f32⟩
  | 16 => ⟨S1x8192x1024, .f32⟩
  | 17 => ⟨S1x256x1024, .f32⟩
  | 18 => ⟨S1x8448x1024, .f32⟩
  | 19 => ⟨S8448x1024, .f32⟩
  | _ => ⟨S8448x5120, .f32⟩

abbrev hbmTy (i : Nat) : BufTy := match i / 128 with
  | 0 => hbmTy0_0 i
  | 1 => hbmTy0_1 i
  | 2 => hbmTy0_2 i
  | _ => ⟨S8448x5120, .f32⟩

abbrev bufTy : (tb : Table) → Fin (tcTables nBuf tb) → BufTy
  | .hbm, ⟨i, _⟩ => hbmTy i
  | _, _ => ⟨S8448x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_3 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_c : Ref sig .tc := ⟨.hbm, 81, rfl⟩
abbrev main_v62_0 : Ref sig .tc := ⟨.hbm, 82, rfl⟩
abbrev main_v62_1 : Ref sig .tc := ⟨.hbm, 83, rfl⟩
abbrev main_v62_2 : Ref sig .tc := ⟨.hbm, 84, rfl⟩
abbrev main_v62_3 : Ref sig .tc := ⟨.hbm, 85, rfl⟩
abbrev main_v62_4 : Ref sig .tc := ⟨.hbm, 86, rfl⟩
abbrev main_v62_5 : Ref sig .tc := ⟨.hbm, 87, rfl⟩
abbrev main_v62_6 : Ref sig .tc := ⟨.hbm, 88, rfl⟩
abbrev main_v62_7 : Ref sig .tc := ⟨.hbm, 89, rfl⟩
abbrev main_v62_8 : Ref sig .tc := ⟨.hbm, 90, rfl⟩
abbrev main_v62_9 : Ref sig .tc := ⟨.hbm, 91, rfl⟩
abbrev main_while0c_c_15 : Ref sig .tc := ⟨.hbm, 92, rfl⟩
abbrev main_while0c_v75 : Ref sig .tc := ⟨.hbm, 93, rfl⟩
abbrev main_while0b_c_15 : Ref sig .tc := ⟨.hbm, 94, rfl⟩
abbrev main_while0b_v75 : Ref sig .tc := ⟨.hbm, 95, rfl⟩
abbrev main_while0b_c_16 : Ref sig .tc := ⟨.hbm, 96, rfl⟩
abbrev main_while0b_v76 : Ref sig .tc := ⟨.hbm, 97, rfl⟩
abbrev main_while0b_call1_c : Ref sig .tc := ⟨.hbm, 98, rfl⟩
abbrev main_while0b_call1_c_0 : Ref sig .tc := ⟨.hbm, 99, rfl⟩
abbrev main_while0b_call1_c_1 : Ref sig .tc := ⟨.hbm, 100, rfl⟩
abbrev main_while0b_call1_c_2 : Ref sig .tc := ⟨.hbm, 101, rfl⟩
abbrev main_while0b_call1_v0 : Ref sig .tc := ⟨.hbm, 102, rfl⟩
abbrev main_while0b_v77 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_c_1 : Ref sig .tc := ⟨.hbm, 106, rfl⟩
abbrev main_while0b_call2_c_2 : Ref sig .tc := ⟨.hbm, 107, rfl⟩
abbrev main_while0b_call2_v0 : Ref sig .tc := ⟨.hbm, 108, rfl⟩
abbrev main_while0b_v78 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_c_1 : Ref sig .tc := ⟨.hbm, 112, rfl⟩
abbrev main_while0b_call3_c_2 : Ref sig .tc := ⟨.hbm, 113, rfl⟩
abbrev main_while0b_call3_v0 : Ref sig .tc := ⟨.hbm, 114, rfl⟩
abbrev main_while0b_v79 : Ref sig .tc := ⟨.hbm, 115, rfl⟩
abbrev main_while0b_call4_c : Ref sig .tc := ⟨.hbm, 116, rfl⟩
abbrev main_while0b_call4_c_0 : Ref sig .tc := ⟨.hbm, 117, rfl⟩
abbrev main_while0b_call4_c_1 : Ref sig .tc := ⟨.hbm, 118, rfl⟩
abbrev main_while0b_call4_c_2 : Ref sig .tc := ⟨.hbm, 119, rfl⟩
abbrev main_while0b_call4_v0 : Ref sig .tc := ⟨.hbm, 120, rfl⟩
abbrev main_while0b_v80 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_c_1 : Ref sig .tc := ⟨.hbm, 124, rfl⟩
abbrev main_while0b_call5_c_2 : Ref sig .tc := ⟨.hbm, 125, rfl⟩
abbrev main_while0b_call5_v0 : Ref sig .tc := ⟨.hbm, 126, rfl⟩
abbrev main_while0b_v81 : Ref sig .tc := ⟨.hbm, 127, rfl⟩
abbrev main_while0b_call6_c : Ref sig .tc := ⟨.hbm, 128, rfl⟩
abbrev main_while0b_call6_c_0 : Ref sig .tc := ⟨.hbm, 129, rfl⟩
abbrev main_while0b_call6_c_1 : Ref sig .tc := ⟨.hbm, 130, rfl⟩
abbrev main_while0b_call6_c_2 : Ref sig .tc := ⟨.hbm, 131, rfl⟩
abbrev main_while0b_call6_v0 : Ref sig .tc := ⟨.hbm, 132, rfl⟩
abbrev main_while0b_v82 : Ref sig .tc := ⟨.hbm, 133, rfl⟩
abbrev main_while0b_c_17 : Ref sig .tc := ⟨.hbm, 134, rfl⟩
abbrev main_while0b_v83 : Ref sig .tc := ⟨.hbm, 135, rfl⟩
abbrev main_while0b_call7_v0 : Ref sig .tc := ⟨.hbm, 136, rfl⟩
abbrev main_while0b_call7_c : Ref sig .tc := ⟨.hbm, 137, rfl⟩
abbrev main_while0b_call7_v1 : Ref sig .tc := ⟨.hbm, 138, rfl⟩
abbrev main_while0b_call7_v2 : Ref sig .tc := ⟨.hbm, 139, rfl⟩
abbrev main_while0b_call7_v3 : Ref sig .tc := ⟨.hbm, 140, rfl⟩
abbrev main_while0b_call7_v4 : Ref sig .tc := ⟨.hbm, 141, rfl⟩
abbrev main_while0b_call7_c_0 : Ref sig .tc := ⟨.hbm, 142, rfl⟩
abbrev main_while0b_call7_v5 : Ref sig .tc := ⟨.hbm, 143, rfl⟩
abbrev main_while0b_v84 : Ref sig .tc := ⟨.hbm, 144, rfl⟩
abbrev main_while0b_call8_call0_cst : Ref sig .tc := ⟨.hbm, 145, rfl⟩
abbrev main_while0b_call8_call0_v0 : Ref sig .tc := ⟨.hbm, 146, rfl⟩
abbrev main_while0b_v85 : Ref sig .tc := ⟨.hbm, 147, rfl⟩
abbrev main_while0b_v86 : Ref sig .tc := ⟨.hbm, 148, rfl⟩
abbrev main_while0b_v87 : Ref sig .tc := ⟨.hbm, 149, rfl⟩
abbrev main_while0b_v88 : Ref sig .tc := ⟨.hbm, 150, rfl⟩
abbrev main_while0b_v89 : Ref sig .tc := ⟨.hbm, 151, rfl⟩
abbrev main_while0b_v90 : Ref sig .tc := ⟨.hbm, 152, rfl⟩
abbrev main_while0b_v91 : Ref sig .tc := ⟨.hbm, 153, rfl⟩
abbrev main_while0b_v92 : Ref sig .tc := ⟨.hbm, 154, rfl⟩
abbrev main_while0b_v93 : Ref sig .tc := ⟨.hbm, 155, rfl⟩
abbrev main_while0b_v94 : Ref sig .tc := ⟨.hbm, 156, rfl⟩
abbrev main_while0b_v95 : Ref sig .tc := ⟨.hbm, 157, rfl⟩
abbrev main_while0b_v96 : Ref sig .tc := ⟨.hbm, 158, rfl⟩
abbrev main_while0b_v97 : Ref sig .tc := ⟨.hbm, 159, rfl⟩
abbrev main_while0b_v98 : Ref sig .tc := ⟨.hbm, 160, rfl⟩
abbrev main_while0b_v99 : Ref sig .tc := ⟨.hbm, 161, rfl⟩
abbrev main_while0b_cst_18 : Ref sig .tc := ⟨.hbm, 162, rfl⟩
abbrev main_while0b_call9_v0 : Ref sig .tc := ⟨.hbm, 163, rfl⟩
abbrev main_while0b_v100_1 : Ref sig .tc := ⟨.hbm, 164, rfl⟩
abbrev main_while0b_call9_v2 : Ref sig .tc := ⟨.hbm, 165, rfl⟩
abbrev main_while0b_v100_0 : Ref sig .tc := ⟨.hbm, 166, rfl⟩
abbrev main_while0b_call9_cst : Ref sig .tc := ⟨.hbm, 167, rfl⟩
abbrev main_while0b_v100_2 : Ref sig .tc := ⟨.hbm, 168, rfl⟩
abbrev main_while0b_v101 : Ref sig .tc := ⟨.hbm, 169, rfl⟩
abbrev main_while0b_v102 : Ref sig .tc := ⟨.hbm, 170, rfl⟩
abbrev main_while0b_v103 : Ref sig .tc := ⟨.hbm, 171, rfl⟩
abbrev main_while0b_v104 : Ref sig .tc := ⟨.hbm, 172, rfl⟩
abbrev main_while0b_v105 : Ref sig .tc := ⟨.hbm, 173, rfl⟩
abbrev main_while0b_v106 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_v111 : Ref sig .tc := ⟨.hbm, 179, rfl⟩
abbrev main_while0b_v112 : Ref sig .tc := ⟨.hbm, 180, rfl⟩
abbrev main_while0b_v113 : Ref sig .tc := ⟨.hbm, 181, rfl⟩
abbrev main_while0b_v114 : Ref sig .tc := ⟨.hbm, 182, rfl⟩
abbrev main_while0b_v115 : Ref sig .tc := ⟨.hbm, 183, rfl⟩
abbrev main_while0b_v116 : Ref sig .tc := ⟨.hbm, 184, rfl⟩
abbrev main_while0b_v117 : Ref sig .tc := ⟨.hbm, 185, rfl⟩
abbrev main_while0b_v118 : Ref sig .tc := ⟨.hbm, 186, rfl⟩
abbrev main_while0b_v119 : Ref sig .tc := ⟨.hbm, 187, rfl⟩
abbrev main_while0b_v120 : Ref sig .tc := ⟨.hbm, 188, rfl⟩
abbrev main_while0b_cst_19 : Ref sig .tc := ⟨.hbm, 189, rfl⟩
abbrev main_while0b_v121 : Ref sig .tc := ⟨.hbm, 190, rfl⟩
abbrev main_while0b_v122 : Ref sig .tc := ⟨.hbm, 191, rfl⟩
abbrev main_while0b_v123 : Ref sig .tc := ⟨.hbm, 192, rfl⟩
abbrev main_while0b_v124 : Ref sig .tc := ⟨.hbm, 193, rfl⟩
abbrev main_while0b_v125 : Ref sig .tc := ⟨.hbm, 194, rfl⟩
abbrev main_while0b_v126 : Ref sig .tc := ⟨.hbm, 195, rfl⟩
abbrev main_while0b_cst_20 : Ref sig .tc := ⟨.hbm, 196, rfl⟩
abbrev main_while0b_v127 : Ref sig .tc := ⟨.hbm, 197, rfl⟩
abbrev main_while0b_v128 : Ref sig .tc := ⟨.hbm, 198, rfl⟩
abbrev main_while0b_v129 : Ref sig .tc := ⟨.hbm, 199, rfl⟩
abbrev main_while0b_cst_21 : Ref sig .tc := ⟨.hbm, 200, rfl⟩
abbrev main_while0b_v130 : Ref sig .tc := ⟨.hbm, 201, rfl⟩
abbrev main_while0b_v131 : Ref sig .tc := ⟨.hbm, 202, rfl⟩
abbrev main_while0b_v132 : Ref sig .tc := ⟨.hbm, 203, rfl⟩
abbrev main_while0b_v133 : Ref sig .tc := ⟨.hbm, 204, rfl⟩
abbrev main_while0b_v134 : Ref sig .tc := ⟨.hbm, 205, rfl⟩
abbrev main_while0b_v135 : Ref sig .tc := ⟨.hbm, 206, rfl⟩
abbrev main_while0b_v136 : Ref sig .tc := ⟨.hbm, 207, rfl⟩
abbrev main_while0b_v137 : Ref sig .tc := ⟨.hbm, 208, rfl⟩
abbrev main_while0b_call10_cst : Ref sig .tc := ⟨.hbm, 209, rfl⟩
abbrev main_while0b_call10_v0 : Ref sig .tc := ⟨.hbm, 210, rfl⟩
abbrev main_while0b_v138 : Ref sig .tc := ⟨.hbm, 211, rfl⟩
abbrev main_while0b_v139 : Ref sig .tc := ⟨.hbm, 212, rfl⟩
abbrev main_while0b_v140 : Ref sig .tc := ⟨.hbm, 213, rfl⟩
abbrev main_while0b_v141 : Ref sig .tc := ⟨.hbm, 214, rfl⟩
abbrev main_while0b_v142 : Ref sig .tc := ⟨.hbm, 215, rfl⟩
abbrev main_while0b_v143 : Ref sig .tc := ⟨.hbm, 216, rfl⟩
abbrev main_while0b_v144 : Ref sig .tc := ⟨.hbm, 217, rfl⟩
abbrev main_while0b_cst_22 : Ref sig .tc := ⟨.hbm, 218, rfl⟩
abbrev main_while0b_v145 : Ref sig .tc := ⟨.hbm, 219, rfl⟩
abbrev main_while0b_v146 : Ref sig .tc := ⟨.hbm, 220, rfl⟩
abbrev main_while0b_v147 : Ref sig .tc := ⟨.hbm, 221, rfl⟩
abbrev main_while0b_v148 : Ref sig .tc := ⟨.hbm, 222, rfl⟩
abbrev main_while0b_v149 : Ref sig .tc := ⟨.hbm, 223, rfl⟩
abbrev main_while0b_v150 : Ref sig .tc := ⟨.hbm, 224, rfl⟩
abbrev main_while0b_v151 : Ref sig .tc := ⟨.hbm, 225, rfl⟩
abbrev main_while0b_v152 : Ref sig .tc := ⟨.hbm, 226, rfl⟩
abbrev main_while0b_cst_23 : Ref sig .tc := ⟨.hbm, 227, rfl⟩
abbrev main_while0b_v153 : Ref sig .tc := ⟨.hbm, 228, rfl⟩
abbrev main_while0b_v154 : Ref sig .tc := ⟨.hbm, 229, rfl⟩
abbrev main_while0b_v155 : Ref sig .tc := ⟨.hbm, 230, rfl⟩
abbrev main_while0b_v156 : Ref sig .tc := ⟨.hbm, 231, rfl⟩
abbrev main_while0b_v157 : Ref sig .tc := ⟨.hbm, 232, rfl⟩
abbrev main_while0b_v158 : Ref sig .tc := ⟨.hbm, 233, rfl⟩
abbrev main_while0b_v159 : Ref sig .tc := ⟨.hbm, 234, rfl⟩
abbrev main_while0b_v160 : Ref sig .tc := ⟨.hbm, 235, rfl⟩
abbrev main_while0b_v161 : Ref sig .tc := ⟨.hbm, 236, rfl⟩
abbrev main_while0b_v162 : Ref sig .tc := ⟨.hbm, 237, rfl⟩
abbrev main_while0b_v163 : Ref sig .tc := ⟨.hbm, 238, rfl⟩
abbrev main_while0b_v164 : Ref sig .tc := ⟨.hbm, 239, rfl⟩
abbrev main_while0b_v165 : Ref sig .tc := ⟨.hbm, 240, rfl⟩
abbrev main_while0b_cst_24 : Ref sig .tc := ⟨.hbm, 241, rfl⟩
abbrev main_while0b_v166 : Ref sig .tc := ⟨.hbm, 242, rfl⟩
abbrev main_while0b_v167 : Ref sig .tc := ⟨.hbm, 243, rfl⟩
abbrev main_while0b_cst_25 : Ref sig .tc := ⟨.hbm, 244, rfl⟩
abbrev main_while0b_v168 : Ref sig .tc := ⟨.hbm, 245, rfl⟩
abbrev main_while0b_v169 : Ref sig .tc := ⟨.hbm, 246, rfl⟩
abbrev main_while0b_call11_call0_cst : Ref sig .tc := ⟨.hbm, 247, rfl⟩
abbrev main_while0b_call11_call0_v0 : Ref sig .tc := ⟨.hbm, 248, rfl⟩
abbrev main_while0b_v170 : Ref sig .tc := ⟨.hbm, 249, rfl⟩
abbrev main_while0b_call12_v0 : Ref sig .tc := ⟨.hbm, 250, rfl⟩
abbrev main_while0b_call12_c : Ref sig .tc := ⟨.hbm, 251, rfl⟩
abbrev main_while0b_call12_c_0 : Ref sig .tc := ⟨.hbm, 252, rfl⟩
abbrev main_while0b_call12_c_1 : Ref sig .tc := ⟨.hbm, 253, rfl⟩
abbrev main_while0b_call12_c_2 : Ref sig .tc := ⟨.hbm, 254, rfl⟩
abbrev main_while0b_v171 : Ref sig .tc := ⟨.hbm, 255, rfl⟩
abbrev main_while0b_call13_v0 : Ref sig .tc := ⟨.hbm, 256, rfl⟩
abbrev main_while0b_call13_c : Ref sig .tc := ⟨.hbm, 257, rfl⟩
abbrev main_while0b_call13_c_0 : Ref sig .tc := ⟨.hbm, 258, rfl⟩
abbrev main_while0b_call13_c_1 : Ref sig .tc := ⟨.hbm, 259, rfl⟩
abbrev main_while0b_call13_c_2 : Ref sig .tc := ⟨.hbm, 260, rfl⟩
abbrev main_while0b_v172 : Ref sig .tc := ⟨.hbm, 261, rfl⟩
abbrev main_while0b_c_26 : Ref sig .tc := ⟨.hbm, 262, rfl⟩
abbrev main_while0b_v173 : Ref sig .tc := ⟨.hbm, 263, rfl⟩
abbrev main_v63 : Ref sig .tc := ⟨.hbm, 264, rfl⟩
abbrev main_v64 : Ref sig .tc := ⟨.hbm, 265, rfl⟩
abbrev main_v65 : Ref sig .tc := ⟨.hbm, 266, rfl⟩
abbrev main_v66 : Ref sig .tc := ⟨.hbm, 267, rfl⟩
abbrev main_v67 : Ref sig .tc := ⟨.hbm, 268, rfl⟩
abbrev main_v68 : Ref sig .tc := ⟨.hbm, 269, rfl⟩
abbrev main_v69 : Ref sig .tc := ⟨.hbm, 270, rfl⟩
abbrev main_v70 : Ref sig .tc := ⟨.hbm, 271, rfl⟩
abbrev main_v71 : Ref sig .tc := ⟨.hbm, 272, rfl⟩
abbrev main_v72 : Ref sig .tc := ⟨.hbm, 273, rfl⟩
abbrev main_v73 : Ref sig .tc := ⟨.hbm, 274, rfl⟩
abbrev main_v74 : Ref sig .tc := ⟨.hbm, 275, rfl⟩

abbrev nD : Nat := 1
abbrev τ : Topo := Topo.v7x

variable {F : FTy → Type} [FloatOps F]

abbrev main_while0_count : Scf.Loop 32 := ⟨0#32, 132#32, 1#32⟩
-- ==== Kernel2.lean ====
abbrev S8448x1024 : Shape := ⟨2, ![8448, 1024]⟩
abbrev S1024 : Shape := ⟨1, ![1024]⟩
abbrev S2x8x1024 : Shape := ⟨3, ![2, 8, 1024]⟩
abbrev S1024x4096 : Shape := ⟨2, ![1024, 4096]⟩
abbrev S4096x1024 : Shape := ⟨2, ![4096, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S1x1x1024 : Shape := ⟨3, ![1, 1, 1024]⟩
abbrev S8448x4096 : Shape := ⟨2, ![8448, 4096]⟩
abbrev S1024x4x1024 : Shape := ⟨3, ![1024, 4, 1024]⟩
abbrev S4x1024x1024 : Shape := ⟨3, ![4, 1024, 1024]⟩
abbrev S8x128 : Shape := ⟨2, ![8, 128]⟩
abbrev S8x1024 : Shape := ⟨2, ![8, 1024]⟩
abbrev S256x1024 : Shape := ⟨2, ![256, 1024]⟩
abbrev S256x4096 : Shape := ⟨2, ![256, 4096]⟩
abbrev S1x8x1024 : Shape := ⟨3, ![1, 8, 1024]⟩
abbrev S256 : Shape := ⟨1, ![256]⟩
abbrev S256x1 : Shape := ⟨2, ![256, 1]⟩
abbrev S1024x1024 : Shape := ⟨2, ![1024, 1024]⟩
abbrev S1x1024x1024 : Shape := ⟨3, ![1, 1024, 1024]⟩

abbrev nBuf : Space → Nat
  | .hbm => 73
  | .vmem => 22
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S2x8x1024, .f32⟩
  | .hbm, ⟨4, _⟩ => ⟨S1024x4096, .f32⟩
  | .hbm, ⟨5, _⟩ => ⟨S4096x1024, .f32⟩
  | .hbm, ⟨6, _⟩ => ⟨S8448x1024, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1024, .f32⟩
  | .hbm, ⟨18, _⟩ => ⟨S8448x1024, .f32⟩
  | .hbm, ⟨19, _⟩ => ⟨S1x1024, .f32⟩
  | .hbm, ⟨20, _⟩ => ⟨S8448x1024, .f32⟩
  | .hbm, ⟨21, _⟩ => ⟨S8448x1024, .f32⟩
  | .hbm, ⟨22, _⟩ => ⟨S8448, .i32⟩
  | .hbm, ⟨23, _⟩ => ⟨S8448x1, .i32⟩
  | .hbm, ⟨24, _⟩ => ⟨S_, .i32⟩
  | .hbm, ⟨25, _⟩ => ⟨S8448x1, .i32⟩
  | .hbm, ⟨26, _⟩ => ⟨S8448x1, .i1⟩
  | .hbm, ⟨27, _⟩ => ⟨S1x1x1024, .f32⟩
  | .hbm, ⟨28, _⟩ => ⟨S1024, .f32⟩
  | .hbm, ⟨29, _⟩ => ⟨S1x1x1024, .f32⟩
  | .hbm, ⟨30, _⟩ => ⟨S1024, .f32⟩
  | .hbm, ⟨31, _⟩ => ⟨S8448x1024, .i1⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448, .i32⟩
  | .hbm, ⟨36, _⟩ => ⟨S8448x1, .i32⟩
  | .hbm, ⟨37, _⟩ => ⟨S_, .i32⟩
  | .hbm, ⟨38, _⟩ => ⟨S8448x1, .i32⟩
  | .hbm, ⟨39, _⟩ => ⟨S8448x1, .i1⟩
  | .hbm, ⟨40, _⟩ => ⟨S1x1x1024, .f32⟩
  | .hbm, ⟨41, _⟩ => ⟨S1024, .f32⟩
  | .hbm, ⟨42, _⟩ => ⟨S1x1x1024, .f32⟩
  | .hbm, ⟨43, _⟩ => ⟨S1024, .f32⟩
  | .hbm, ⟨44, _⟩ => ⟨S8448x1024, .i1⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S_, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x4096, .f32⟩
  | .hbm, ⟨54, _⟩ => ⟨S_, .f32⟩
  | .hbm, ⟨55, _⟩ => ⟨S8448x4096, .f32⟩
  | .hbm, ⟨56, _⟩ => ⟨S8448x4096, .f32⟩
  | .hbm, ⟨57, _⟩ => ⟨S8448x4096, .f32⟩
  | .hbm, ⟨58, _⟩ => ⟨S8448x1024, .f32⟩
  | .hbm, ⟨59, _⟩ => ⟨S8448x1024, .bf16⟩
  | .hbm, ⟨60, _⟩ => ⟨S1024x4096, .bf16⟩
  | .hbm, ⟨61, _⟩ => ⟨S1024x4x1024, .bf16⟩
  | .hbm, ⟨62, _⟩ => ⟨S4x1024x1024, .bf16⟩
  | .hbm, ⟨63, _⟩ => ⟨S8448x4096, .bf16⟩
  | .hbm, ⟨64, _⟩ => ⟨S1x1024, .f32⟩
  | .hbm, ⟨65, _⟩ => ⟨S4096x1024, .bf16⟩
  | .hbm, ⟨66, _⟩ => ⟨S_, .f32⟩
  | .hbm, ⟨67, _⟩ => ⟨S8x128, .f32⟩
  | .hbm, ⟨68, _⟩ => ⟨S8448x1024, .f32⟩
  | .hbm, ⟨69, _⟩ => ⟨S8448x1024, .bf16⟩
  | .hbm, ⟨70, _⟩ => ⟨S8448x4096, .bf16⟩
  | .hbm, ⟨71, _⟩ => ⟨S8448x1024, .bf16⟩
  | .hbm, ⟨72, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x8x1024, .f32⟩
  | .local _ .vmem, ⟨10, _⟩ => ⟨S1x8x1024, .f32⟩
  | .local _ .vmem, ⟨11, _⟩ => ⟨S4x1024x1024, .bf16⟩
  | .local _ .vmem, ⟨12, _⟩ => ⟨S4096x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x4096, .bf16⟩
  | .local _ .vmem, ⟨18, _⟩ => ⟨S256x4096, .bf16⟩
  | .local _ .vmem, ⟨19, _⟩ => ⟨S256x1024, .bf16⟩
  | .local _ .vmem, ⟨20, _⟩ => ⟨S256x1024, .bf16⟩
  | .local _ .vmem, ⟨21, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call2_cst : Ref sig .tc := ⟨.hbm, 54, rfl⟩
abbrev main_call2_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v47_2 : Ref sig .tc := ⟨.hbm, 70, rfl⟩
abbrev main_v47_3 : Ref sig .tc := ⟨.hbm, 71, rfl⟩
abbrev main_v47_4 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8448x1024 : Shape := ⟨2, ![8448, 1024]⟩
abbrev S1024 : Shape := ⟨1, ![1024]⟩
abbrev S2x8x1024 : Shape := ⟨3, ![2, 8, 1024]⟩
abbrev S1024x4096 : Shape := ⟨2, ![1024, 4096]⟩
abbrev S4096x1024 : Shape := ⟨2, ![4096, 1024]⟩
abbrev S8448 : Shape := ⟨1, ![8448]⟩
abbrev S8448x1 : Shape := ⟨2, ![8448, 1]⟩
abbrev S_ : Shape := ⟨0, ![]⟩
abbrev S1x1x1024 : Shape := ⟨3, ![1, 1, 1024]⟩
abbrev S1x1024 : Shape := ⟨2, ![1, 1024]⟩
abbrev S8448x4096 : Shape := ⟨2, ![8448, 4096]⟩

abbrev nBuf : Space → Nat
  | .hbm => 115
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S2x8x1024, .f32⟩
  | .hbm, ⟨4, _⟩ => ⟨S1024x4096, .f32⟩
  | .hbm, ⟨5, _⟩ => ⟨S4096x1024, .f32⟩
  | .hbm, ⟨6, _⟩ => ⟨S8448, .i32⟩
  | .hbm, ⟨7, _⟩ => ⟨S8448x1, .i32⟩
  | .hbm, ⟨8, _⟩ => ⟨S_, .i32⟩
  | .hbm, ⟨9, _⟩ => ⟨S8448x1, .i32⟩
  | .hbm, ⟨10, _⟩ => ⟨S8448x1, .i1⟩
  | .hbm, ⟨11, _⟩ => ⟨S1x1x1024, .f32⟩
  | .hbm, ⟨12, _⟩ => ⟨S1024, .f32⟩
  | .hbm, ⟨13, _⟩ => ⟨S1x1x1024, .f32⟩
  | .hbm, ⟨14, _⟩ => ⟨S1024, .f32⟩
  | .hbm, ⟨15, _⟩ => ⟨S8448x1024, .i1⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S8448, .i32⟩
  | .hbm, ⟨40, _⟩ => ⟨S8448x1, .i32⟩
  | .hbm, ⟨41, _⟩ => ⟨S_, .i32⟩
  | .hbm, ⟨42, _⟩ => ⟨S8448x1, .i32⟩
  | .hbm, ⟨43, _⟩ => ⟨S8448x1, .i1⟩
  | .hbm, ⟨44, _⟩ => ⟨S1x1x1024, .f32⟩
  | .hbm, ⟨45, _⟩ => ⟨S1024, .f32⟩
  | .hbm, ⟨46, _⟩ => ⟨S1x1x1024, .f32⟩
  | .hbm, ⟨47, _⟩ => ⟨S1024, .f32⟩
  | .hbm, ⟨48, _⟩ => ⟨S8448x1024, .i1⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448, .i32⟩
  | .hbm, ⟨53, _⟩ => ⟨S8448x1, .i32⟩
  | .hbm, ⟨54, _⟩ => ⟨S_, .i32⟩
  | .hbm, ⟨55, _⟩ => ⟨S8448x1, .i32⟩
  | .hbm, ⟨56, _⟩ => ⟨S8448x1, .i1⟩
  | .hbm, ⟨57, _⟩ => ⟨S1x1x1024, .f32⟩
  | .hbm, ⟨58, _⟩ => ⟨S1024, .f32⟩
  | .hbm, ⟨59, _⟩ => ⟨S1x1x1024, .f32⟩
  | .hbm, ⟨60, _⟩ => ⟨S1024, .f32⟩
  | .hbm, ⟨61, _⟩ => ⟨S8448x1024, .i1⟩
  | .hbm, ⟨62, _⟩ => ⟨S8448x1024, .f32⟩
  | .hbm, ⟨63, _⟩ => ⟨S8448x1024, .f32⟩
  | .hbm, ⟨64, _⟩ => ⟨S8448x1024, .f32⟩
  | .hbm, ⟨65, _⟩ => ⟨S_, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S8448x4096, .f32⟩
  | .hbm, ⟨71, _⟩ => ⟨S_, .f32⟩
  | .hbm, ⟨72, _⟩ => ⟨S8448x4096, .f32⟩
  | .hbm, ⟨73, _⟩ => ⟨S8448x4096, .f32⟩
  | .hbm, ⟨74, _⟩ => ⟨S_, .f32⟩
  | .hbm, ⟨75, _⟩ => ⟨S8448x4096, .f32⟩
  | .hbm, ⟨76, _⟩ => ⟨S8448x4096, .i1⟩
  | .hbm, ⟨77, _⟩ => ⟨S_, .f32⟩
  | .hbm, ⟨78, _⟩ => ⟨S8448x4096, .f32⟩
  | .hbm, ⟨79, _⟩ => ⟨S8448x4096, .f32⟩
  | .hbm, ⟨80, _⟩ => ⟨S_, .f32⟩
  | .hbm, ⟨81, _⟩ => ⟨S8448x4096, .f32⟩
  | .hbm, ⟨82, _⟩ => ⟨S8448x4096, .f32⟩
  | .hbm, ⟨83, _⟩ => ⟨S8448x1024, .f32⟩
  | .hbm, ⟨84, _⟩ => ⟨S8448x1024, .f32⟩
  | .hbm, ⟨85, _⟩ => ⟨S8448x1024, .f32⟩
  | .hbm, ⟨86, _⟩ => ⟨S8448x1024, .f32⟩
  | .hbm, ⟨87, _⟩ => ⟨S8448x1024, .f32⟩
  | .hbm, ⟨88, _⟩ => ⟨S8448x4096, .f32⟩
  | .hbm, ⟨89, _⟩ => ⟨S8448x4096, .f32⟩
  | .hbm, ⟨90, _⟩ => ⟨S_, .f32⟩
  | .hbm, ⟨91, _⟩ => ⟨S8448x4096, .f32⟩
  | .hbm, ⟨92, _⟩ => ⟨S8448x4096, .f32⟩
  | .hbm, ⟨93, _⟩ => ⟨S8448x1024, .f32⟩
  | .hbm, ⟨94, _⟩ => ⟨S8448x1024, .f32⟩
  | .hbm, ⟨95, _⟩ => ⟨S8448x1024, .f32⟩
  | .hbm, ⟨96, _⟩ => ⟨S8448x1024, .f32⟩
  | .hbm, ⟨97, _⟩ => ⟨S8448x1024, .f32⟩
  | .hbm, ⟨98, _⟩ => ⟨S_, .f32⟩
  | .hbm, ⟨99, _⟩ => ⟨S8448, .f32⟩
  | .hbm, ⟨100, _⟩ => ⟨S8448x1, .f32⟩
  | .hbm, ⟨101, _⟩ => ⟨S8448x1024, .f32⟩
  | .hbm, ⟨102, _⟩ => ⟨S8448x1024, .f32⟩
  | .hbm, ⟨103, _⟩ => ⟨S8448x1024, .f32⟩
  | .hbm, ⟨104, _⟩ => ⟨S8448x1, .f32⟩
  | .hbm, ⟨105, _⟩ => ⟨S_, .f32⟩
  | .hbm, ⟨106, _⟩ => ⟨S8448x1, .f32⟩
  | .hbm, ⟨107, _⟩ => ⟨S8448x1, .f32⟩
  | .hbm, ⟨108, _⟩ => ⟨S_, .f32⟩
  | .hbm, ⟨109, _⟩ => ⟨S8448, .f32⟩
  | .hbm, ⟨110, _⟩ => ⟨S8448x1024, .f32⟩
  | .hbm, ⟨111, _⟩ => ⟨S8448x1024, .f32⟩
  | .hbm, ⟨112, _⟩ => ⟨S8448x1024, .f32⟩
  | .hbm, ⟨113, _⟩ => ⟨S8448x1024, .f32⟩
  | .hbm, ⟨114, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call3_cst : Ref sig .tc := ⟨.hbm, 71, rfl⟩
abbrev main_call3_v0 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_10 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_11 : Ref sig .tc := ⟨.hbm, 105, rfl⟩
abbrev main_v75 : Ref sig .tc := ⟨.hbm, 106, rfl⟩
abbrev main_v76 : Ref sig .tc := ⟨.hbm, 107, rfl⟩
abbrev main_cst_12 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]
-- ==== Kernel3.lean ====
abbrev S8448x4096 : Shape := ⟨2, ![8448, 4096]⟩
abbrev S8448x1024 : Shape := ⟨2, ![8448, 1024]⟩
abbrev S_ : Shape := ⟨0, ![]⟩
abbrev S8x128 : Shape := ⟨2, ![8, 128]⟩
abbrev S4x1024x1024 : Shape := ⟨3, ![4, 1024, 1024]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S_, .f32⟩
  | .hbm, ⟨3, _⟩ => ⟨S8x128, .f32⟩
  | .hbm, ⟨4, _⟩ => ⟨S4x1024x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8448x4096 : Shape := ⟨2, ![8448, 4096]⟩
abbrev S8448x1024 : Shape := ⟨2, ![8448, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S8448x4096, .f32⟩
  | .hbm, ⟨3, _⟩ => ⟨S8448x1024, .f32⟩
  | .hbm, ⟨4, _⟩ => ⟨S_, .f32⟩
  | .hbm, ⟨5, _⟩ => ⟨S4096x1024, .f32⟩
  | .hbm, ⟨6, _⟩ => ⟨S8448x4096, .f32⟩
  | .hbm, ⟨7, _⟩ => ⟨S8448x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | .hbm, ⟨11, _⟩ => ⟨S4x1024x1024, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8448x1024 : Shape := ⟨2, ![8448, 1024]⟩
abbrev S8448x4096 : Shape := ⟨2, ![8448, 4096]⟩
abbrev S_ : Shape := ⟨0, ![]⟩
abbrev S8x128 : Shape := ⟨2, ![8, 128]⟩
abbrev S4x1024x1024 : Shape := ⟨3, ![4, 1024, 1024]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S_, .f32⟩
  | .hbm, ⟨3, _⟩ => ⟨S8x128, .f32⟩
  | .hbm, ⟨4, _⟩ => ⟨S4x1024x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8448x1024 : Shape := ⟨2, ![8448, 1024]⟩
abbrev S8448x4096 : Shape := ⟨2, ![8448, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S8448x1024, .f32⟩
  | .hbm, ⟨3, _⟩ => ⟨S8448x4096, .f32⟩
  | .hbm, ⟨4, _⟩ => ⟨S_, .f32⟩
  | .hbm, ⟨5, _⟩ => ⟨S1024x4096, .f32⟩
  | .hbm, ⟨6, _⟩ => ⟨S8448x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8448x1024 : Shape := ⟨2, ![8448, 1024]⟩
abbrev S_ : Shape := ⟨0, ![]⟩
abbrev S8x128 : Shape := ⟨2, ![8, 128]⟩
abbrev S1x1024x1024 : Shape := ⟨3, ![1, 1024, 1024]⟩
abbrev S2816x1024 : Shape := ⟨2, ![2816, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S8x128, .f32⟩
  | .hbm, ⟨4, _⟩ => ⟨S1x1024x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8448x1024 : Shape := ⟨2, ![8448, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .f32⟩
  | .hbm, ⟨3, _⟩ => ⟨S8448x1024, .f32⟩
  | .hbm, ⟨4, _⟩ => ⟨S_, .f32⟩
  | .hbm, ⟨5, _⟩ => ⟨S1024x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1x1024, .bf16⟩
  | .hbm, ⟨11, _⟩ => ⟨S1x1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8448x1024 : Shape := ⟨2, ![8448, 1024]⟩
abbrev S8448x5120 : Shape := ⟨2, ![8448, 5120]⟩
abbrev S_ : Shape := ⟨0, ![]⟩
abbrev S8x128 : Shape := ⟨2, ![8, 128]⟩
abbrev S4x1024x1280 : Shape := ⟨3, ![4, 1024, 1280]⟩
abbrev S2816x1024 : Shape := ⟨2, ![2816, 1024]⟩
abbrev S2816x1280 : Shape := ⟨2, ![2816, 1280]⟩
abbrev S1x1024x1280 : Shape := ⟨3, ![1, 1024, 1280]⟩
abbrev S1024x1280 : Shape := ⟨2, ![1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x5120, .bf16⟩
  | .hbm, ⟨2, _⟩ => ⟨S_, .f32⟩
  | .hbm, ⟨3, _⟩ => ⟨S8x128, .f32⟩
  | .hbm, ⟨4, _⟩ => ⟨S4x1024x1280, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1280, .bf16⟩
  | .local _ .vmem, ⟨3, _⟩ => ⟨S2816x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x1280, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8448x1024 : Shape := ⟨2, ![8448, 1024]⟩
abbrev S8448x5120 : Shape := ⟨2, ![8448, 5120]⟩
abbrev S_ : Shape := ⟨0, ![]⟩
abbrev S1024x5120 : Shape := ⟨2, ![1024, 5120]⟩
abbrev S5120x1024 : Shape := ⟨2, ![5120, 1024]⟩
abbrev S1024x4x1280 : Shape := ⟨3, ![1024, 4, 1280]⟩
abbrev S4x1024x1280 : Shape := ⟨3, ![4, 1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5120, .bf16⟩
  | .hbm, ⟨2, _⟩ => ⟨S8448x1024, .f32⟩
  | .hbm, ⟨3, _⟩ => ⟨S8448x5120, .f32⟩
  | .hbm, ⟨4, _⟩ => ⟨S_, .f32⟩
  | .hbm, ⟨5, _⟩ => ⟨S1024x5120, .f32⟩
  | .hbm, ⟨6, _⟩ => ⟨S8448x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | .hbm, ⟨10, _⟩ => ⟨S1024x4x1280, .bf16⟩
  | .hbm, ⟨11, _⟩ => ⟨S4x1024x1280, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8448x1024 : Shape := ⟨2, ![8448, 1024]⟩
abbrev S8448x3072 : Shape := ⟨2, ![8448, 3072]⟩
abbrev S_ : Shape := ⟨0, ![]⟩
abbrev S8x128 : Shape := ⟨2, ![8, 128]⟩
abbrev S4x1024x768 : Shape := ⟨3, ![4, 1024, 768]⟩
abbrev S2816x1024 : Shape := ⟨2, ![2816, 1024]⟩
abbrev S2816x768 : Shape := ⟨2, ![2816, 768]⟩
abbrev S1x1024x768 : Shape := ⟨3, ![1, 1024, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x3072, .bf16⟩
  | .hbm, ⟨2, _⟩ => ⟨S_, .f32⟩
  | .hbm, ⟨3, _⟩ => ⟨S8x128, .f32⟩
  | .hbm, ⟨4, _⟩ => ⟨S4x1024x768, .bf16⟩
  | .local _ .vmem, ⟨0, _⟩ => ⟨S2816x1024, .bf16⟩
  | .local _ .vmem, ⟨1, _⟩ => ⟨S2816x1024, .bf16⟩
  | .local _ .vmem, ⟨2, _⟩ => ⟨S2816x768, .bf16⟩
  | .local _ .vmem, ⟨3, _⟩ => ⟨S2816x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8448x1024 : Shape := ⟨2, ![8448, 1024]⟩
abbrev S8448x3072 : Shape := ⟨2, ![8448, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x3072, .bf16⟩
  | .hbm, ⟨2, _⟩ => ⟨S8448x1024, .f32⟩
  | .hbm, ⟨3, _⟩ => ⟨S8448x3072, .f32⟩
  | .hbm, ⟨4, _⟩ => ⟨S_, .f32⟩
  | .hbm, ⟨5, _⟩ => ⟨S1024x3072, .f32⟩
  | .hbm, ⟨6, _⟩ => ⟨S8448x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S1024x4x768, .bf16⟩
  | .hbm, ⟨11, _⟩ => ⟨S4x1024x768, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S8448x1024 : Shape := ⟨2, ![8448, 1024]⟩
abbrev S1024 : Shape := ⟨1, ![1024]⟩
abbrev S2x8x1024 : Shape := ⟨3, ![2, 8, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S8448x4096 : Shape := ⟨2, ![8448, 4096]⟩
abbrev S256x1024 : Shape := ⟨2, ![256, 1024]⟩
abbrev S1x8x1024 : Shape := ⟨3, ![1, 8, 1024]⟩
abbrev S256x4096 : Shape := ⟨2, ![256, 4096]⟩
abbrev S1x1x1024 : Shape := ⟨3, ![1, 1, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x8x1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S1x1024, .f32⟩
  | .hbm, ⟨9, _⟩ => ⟨S4096x1024, .bf16⟩
  | .hbm, ⟨10, _⟩ => ⟨S8448x1024, .f32⟩
  | .hbm, ⟨11, _⟩ => ⟨S8448x1024, .bf16⟩
  | .hbm, ⟨12, _⟩ => ⟨S8448x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x8x1024, .f32⟩
  | .local _ .vmem, ⟨4, _⟩ => ⟨S1x8x1024, .f32⟩
  | .local _ .vmem, ⟨5, _⟩ => ⟨S4x1024x1024, .bf16⟩
  | .local _ .vmem, ⟨6, _⟩ => ⟨S4096x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x4096, .bf16⟩
  | .local _ .vmem, ⟨12, _⟩ => ⟨S256x4096, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8448x1024 : Shape := ⟨2, ![8448, 1024]⟩
abbrev S1024 : Shape := ⟨1, ![1024]⟩
abbrev S2x8x1024 : Shape := ⟨3, ![2, 8, 1024]⟩
abbrev S1024x4096 : Shape := ⟨2, ![1024, 4096]⟩
abbrev S4096x1024 : Shape := ⟨2, ![4096, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S1x1x1024 : Shape := ⟨3, ![1, 1, 1024]⟩
abbrev S8448x4096 : Shape := ⟨2, ![8448, 4096]⟩

abbrev nBuf : Space → Nat
  | .hbm => 75
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x8x1024, .f32⟩
  | .hbm, ⟨3, _⟩ => ⟨S1024x4096, .f32⟩
  | .hbm, ⟨4, _⟩ => ⟨S4096x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1024, .f32⟩
  | .hbm, ⟨17, _⟩ => ⟨S8448x1024, .f32⟩
  | .hbm, ⟨18, _⟩ => ⟨S1x1024, .f32⟩
  | .hbm, ⟨19, _⟩ => ⟨S8448x1024, .f32⟩
  | .hbm, ⟨20, _⟩ => ⟨S8448x1024, .f32⟩
  | .hbm, ⟨21, _⟩ => ⟨S8448, .i32⟩
  | .hbm, ⟨22, _⟩ => ⟨S8448x1, .i32⟩
  | .hbm, ⟨23, _⟩ => ⟨S_, .i32⟩
  | .hbm, ⟨24, _⟩ => ⟨S8448x1, .i32⟩
  | .hbm, ⟨25, _⟩ => ⟨S8448x1, .i1⟩
  | .hbm, ⟨26, _⟩ => ⟨S1x1x1024, .f32⟩
  | .hbm, ⟨27, _⟩ => ⟨S1024, .f32⟩
  | .hbm, ⟨28, _⟩ => ⟨S1x1x1024, .f32⟩
  | .hbm, ⟨29, _⟩ => ⟨S1024, .f32⟩
  | .hbm, ⟨30, _⟩ => ⟨S8448x1024, .i1⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448, .i32⟩
  | .hbm, ⟨35, _⟩ => ⟨S8448x1, .i32⟩
  | .hbm, ⟨36, _⟩ => ⟨S_, .i32⟩
  | .hbm, ⟨37, _⟩ => ⟨S8448x1, .i32⟩
  | .hbm, ⟨38, _⟩ => ⟨S8448x1, .i1⟩
  | .hbm, ⟨39, _⟩ => ⟨S1x1x1024, .f32⟩
  | .hbm, ⟨40, _⟩ => ⟨S1024, .f32⟩
  | .hbm, ⟨41, _⟩ => ⟨S1x1x1024, .f32⟩
  | .hbm, ⟨42, _⟩ => ⟨S1024, .f32⟩
  | .hbm, ⟨43, _⟩ => ⟨S8448x1024, .i1⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S_, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x4096, .f32⟩
  | .hbm, ⟨53, _⟩ => ⟨S_, .f32⟩
  | .hbm, ⟨54, _⟩ => ⟨S8448x4096, .f32⟩
  | .hbm, ⟨55, _⟩ => ⟨S8448x4096, .f32⟩
  | .hbm, ⟨56, _⟩ => ⟨S8448x4096, .f32⟩
  | .hbm, ⟨57, _⟩ => ⟨S8448x1024, .f32⟩
  | .hbm, ⟨58, _⟩ => ⟨S8448, .i32⟩
  | .hbm, ⟨59, _⟩ => ⟨S8448x1, .i32⟩
  | .hbm, ⟨60, _⟩ => ⟨S_, .i32⟩
  | .hbm, ⟨61, _⟩ => ⟨S8448x1, .i32⟩
  | .hbm, ⟨62, _⟩ => ⟨S8448x1, .i1⟩
  | .hbm, ⟨63, _⟩ => ⟨S1x1x1024, .f32⟩
  | .hbm, ⟨64, _⟩ => ⟨S1024, .f32⟩
  | .hbm, ⟨65, _⟩ => ⟨S1x1x1024, .f32⟩
  | .hbm, ⟨66, _⟩ => ⟨S1024, .f32⟩
  | .hbm, ⟨67, _⟩ => ⟨S8448x1024, .i1⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S8448x1024, .bf16⟩
  | .hbm, ⟨74, _⟩ => ⟨S8448x4096, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call2_cst : Ref sig .tc := ⟨.hbm, 53, rfl⟩
abbrev main_call2_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Kernel9.lean ====
abbrev S8448x1024 : Shape := ⟨2, ![8448, 1024]⟩
abbrev S1024 : Shape := ⟨1, ![1024]⟩
abbrev S2x8x1024 : Shape := ⟨3, ![2, 8, 1024]⟩
abbrev S1024x5120 : Shape := ⟨2, ![1024, 5120]⟩
abbrev S1x1024 : Shape := ⟨2, ![1, 1024]⟩
abbrev S1024x4x1280 : Shape := ⟨3, ![1024, 4, 1280]⟩
abbrev S4x1024x1280 : Shape := ⟨3, ![4, 1024, 1280]⟩
abbrev S8448x5120 : Shape := ⟨2, ![8448, 5120]⟩
abbrev S256x1024 : Shape := ⟨2, ![256, 1024]⟩
abbrev S1x8x1024 : Shape := ⟨3, ![1, 8, 1024]⟩
abbrev S256x5120 : Shape := ⟨2, ![256, 5120]⟩
abbrev S1x1x1024 : Shape := ⟨3, ![1, 1, 1024]⟩
abbrev S256 : Shape := ⟨1, ![256]⟩
abbrev S256x1 : Shape := ⟨2, ![256, 1]⟩
abbrev S1x1024x1280 : Shape := ⟨3, ![1, 1024, 1280]⟩
abbrev S1024x1280 : Shape := ⟨2, ![1024, 1280]⟩
abbrev S256x1280 : Shape := ⟨2, ![256, 1280]⟩

abbrev nBuf : Space → Nat
  | .hbm => 9
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x8x1024, .f32⟩
  | .hbm, ⟨3, _⟩ => ⟨S1024x5120, .f32⟩
  | .hbm, ⟨4, _⟩ => ⟨S1x1024, .f32⟩
  | .hbm, ⟨5, _⟩ => ⟨S1024x5120, .bf16⟩
  | .hbm, ⟨6, _⟩ => ⟨S1024x4x1280, .bf16⟩
  | .hbm, ⟨7, _⟩ => ⟨S4x1024x1280, .bf16⟩
  | .hbm, ⟨8, _⟩ => ⟨S8448x5120, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x8x1024, .f32⟩
  | .local _ .vmem, ⟨4, _⟩ => ⟨S1x8x1024, .f32⟩
  | .local _ .vmem, ⟨5, _⟩ => ⟨S4x1024x1280, .bf16⟩
  | .local _ .vmem, ⟨6, _⟩ => ⟨S256x5120, .f32⟩
  | .local _ .vmem, ⟨7, _⟩ => ⟨S256x5120, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8448x1024 : Shape := ⟨2, ![8448, 1024]⟩
abbrev S1024 : Shape := ⟨1, ![1024]⟩
abbrev S2x8x1024 : Shape := ⟨3, ![2, 8, 1024]⟩
abbrev S1024x5120 : Shape := ⟨2, ![1024, 5120]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S1x1x1024 : Shape := ⟨3, ![1, 1, 1024]⟩
abbrev S8448x5120 : Shape := ⟨2, ![8448, 5120]⟩

abbrev nBuf : Space → Nat
  | .hbm => 52
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x8x1024, .f32⟩
  | .hbm, ⟨3, _⟩ => ⟨S1024x5120, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S1x1024, .f32⟩
  | .hbm, ⟨18, _⟩ => ⟨S8448x1024, .f32⟩
  | .hbm, ⟨19, _⟩ => ⟨S8448x1024, .f32⟩
  | .hbm, ⟨20, _⟩ => ⟨S8448, .i32⟩
  | .hbm, ⟨21, _⟩ => ⟨S8448x1, .i32⟩
  | .hbm, ⟨22, _⟩ => ⟨S_, .i32⟩
  | .hbm, ⟨23, _⟩ => ⟨S8448x1, .i32⟩
  | .hbm, ⟨24, _⟩ => ⟨S8448x1, .i1⟩
  | .hbm, ⟨25, _⟩ => ⟨S1x1x1024, .f32⟩
  | .hbm, ⟨26, _⟩ => ⟨S1024, .f32⟩
  | .hbm, ⟨27, _⟩ => ⟨S1x1x1024, .f32⟩
  | .hbm, ⟨28, _⟩ => ⟨S1024, .f32⟩
  | .hbm, ⟨29, _⟩ => ⟨S8448x1024, .i1⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448, .i32⟩
  | .hbm, ⟨34, _⟩ => ⟨S8448x1, .i32⟩
  | .hbm, ⟨35, _⟩ => ⟨S_, .i32⟩
  | .hbm, ⟨36, _⟩ => ⟨S8448x1, .i32⟩
  | .hbm, ⟨37, _⟩ => ⟨S8448x1, .i1⟩
  | .hbm, ⟨38, _⟩ => ⟨S1x1x1024, .f32⟩
  | .hbm, ⟨39, _⟩ => ⟨S1024, .f32⟩
  | .hbm, ⟨40, _⟩ => ⟨S1x1x1024, .f32⟩
  | .hbm, ⟨41, _⟩ => ⟨S1024, .f32⟩
  | .hbm, ⟨42, _⟩ => ⟨S8448x1024, .i1⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S_, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x5120, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel10.lean ====
abbrev S8448x1024 : Shape := ⟨2, ![8448, 1024]⟩
abbrev S1024 : Shape := ⟨1, ![1024]⟩
abbrev S2x8x1024 : Shape := ⟨3, ![2, 8, 1024]⟩
abbrev S1024x3072 : Shape := ⟨2, ![1024, 3072]⟩
abbrev S1x1024 : Shape := ⟨2, ![1, 1024]⟩
abbrev S1024x4x768 : Shape := ⟨3, ![1024, 4, 768]⟩
abbrev S4x1024x768 : Shape := ⟨3, ![4, 1024, 768]⟩
abbrev S8448x3072 : Shape := ⟨2, ![8448, 3072]⟩
abbrev S256x1024 : Shape := ⟨2, ![256, 1024]⟩
abbrev S1x8x1024 : Shape := ⟨3, ![1, 8, 1024]⟩
abbrev S256x3072 : Shape := ⟨2, ![256, 3072]⟩
abbrev S1x1x1024 : Shape := ⟨3, ![1, 1, 1024]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩
abbrev S256x768 : Shape := ⟨2, ![256, 768]⟩

abbrev nBuf : Space → Nat
  | .hbm => 9
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x8x1024, .f32⟩
  | .hbm, ⟨3, _⟩ => ⟨S1024x3072, .f32⟩
  | .hbm, ⟨4, _⟩ => ⟨S1x1024, .f32⟩
  | .hbm, ⟨5, _⟩ => ⟨S1024x3072, .bf16⟩
  | .hbm, ⟨6, _⟩ => ⟨S1024x4x768, .bf16⟩
  | .hbm, ⟨7, _⟩ => ⟨S4x1024x768, .bf16⟩
  | .hbm, ⟨8, _⟩ => ⟨S8448x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x8x1024, .f32⟩
  | .local _ .vmem, ⟨4, _⟩ => ⟨S1x8x1024, .f32⟩
  | .local _ .vmem, ⟨5, _⟩ => ⟨S4x1024x768, .bf16⟩
  | .local _ .vmem, ⟨6, _⟩ => ⟨S256x3072, .bf16⟩
  | .local _ .vmem, ⟨7, _⟩ => ⟨S256x3072, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8448x1024 : Shape := ⟨2, ![8448, 1024]⟩
abbrev S1024 : Shape := ⟨1, ![1024]⟩
abbrev S2x8x1024 : Shape := ⟨3, ![2, 8, 1024]⟩
abbrev S1024x3072 : Shape := ⟨2, ![1024, 3072]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S1x1x1024 : Shape := ⟨3, ![1, 1, 1024]⟩
abbrev S8448x3072 : Shape := ⟨2, ![8448, 3072]⟩

abbrev nBuf : Space → Nat
  | .hbm => 53
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x8x1024, .f32⟩
  | .hbm, ⟨3, _⟩ => ⟨S1024x3072, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S1x1024, .f32⟩
  | .hbm, ⟨18, _⟩ => ⟨S8448x1024, .f32⟩
  | .hbm, ⟨19, _⟩ => ⟨S8448x1024, .f32⟩
  | .hbm, ⟨20, _⟩ => ⟨S8448, .i32⟩
  | .hbm, ⟨21, _⟩ => ⟨S8448x1, .i32⟩
  | .hbm, ⟨22, _⟩ => ⟨S_, .i32⟩
  | .hbm, ⟨23, _⟩ => ⟨S8448x1, .i32⟩
  | .hbm, ⟨24, _⟩ => ⟨S8448x1, .i1⟩
  | .hbm, ⟨25, _⟩ => ⟨S1x1x1024, .f32⟩
  | .hbm, ⟨26, _⟩ => ⟨S1024, .f32⟩
  | .hbm, ⟨27, _⟩ => ⟨S1x1x1024, .f32⟩
  | .hbm, ⟨28, _⟩ => ⟨S1024, .f32⟩
  | .hbm, ⟨29, _⟩ => ⟨S8448x1024, .i1⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448, .i32⟩
  | .hbm, ⟨34, _⟩ => ⟨S8448x1, .i32⟩
  | .hbm, ⟨35, _⟩ => ⟨S_, .i32⟩
  | .hbm, ⟨36, _⟩ => ⟨S8448x1, .i32⟩
  | .hbm, ⟨37, _⟩ => ⟨S8448x1, .i1⟩
  | .hbm, ⟨38, _⟩ => ⟨S1x1x1024, .f32⟩
  | .hbm, ⟨39, _⟩ => ⟨S1024, .f32⟩
  | .hbm, ⟨40, _⟩ => ⟨S1x1x1024, .f32⟩
  | .hbm, ⟨41, _⟩ => ⟨S1024, .f32⟩
  | .hbm, ⟨42, _⟩ => ⟨S8448x1024, .i1⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S_, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x3072, .f32⟩
  | .hbm, ⟨52, _⟩ => ⟨S8448x3072, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Kernel11.lean ====
abbrev S8448x1024 : Shape := ⟨2, ![8448, 1024]⟩
abbrev S1024 : Shape := ⟨1, ![1024]⟩
abbrev S2x8x1024 : Shape := ⟨3, ![2, 8, 1024]⟩
abbrev S1024x5120 : Shape := ⟨2, ![1024, 5120]⟩
abbrev S1024x4x1280 : Shape := ⟨3, ![1024, 4, 1280]⟩
abbrev S4x1024x1280 : Shape := ⟨3, ![4, 1024, 1280]⟩
abbrev S1x1024 : Shape := ⟨2, ![1, 1024]⟩
abbrev S8x1024 : Shape := ⟨2, ![8, 1024]⟩
abbrev S8448x5120 : Shape := ⟨2, ![8448, 5120]⟩
abbrev S256x1024 : Shape := ⟨2, ![256, 1024]⟩
abbrev S1x8x1024 : Shape := ⟨3, ![1, 8, 1024]⟩
abbrev S256x5120 : Shape := ⟨2, ![256, 5120]⟩
abbrev S1x1x1024 : Shape := ⟨3, ![1, 1, 1024]⟩
abbrev S256 : Shape := ⟨1, ![256]⟩
abbrev S256x1 : Shape := ⟨2, ![256, 1]⟩
abbrev S256x1280 : Shape := ⟨2, ![256, 1280]⟩
abbrev S1x1024x1280 : Shape := ⟨3, ![1, 1024, 1280]⟩
abbrev S1024x1280 : Shape := ⟨2, ![1024, 1280]⟩

abbrev nBuf : Space → Nat
  | .hbm => 18
  | .vmem => 25
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x1024, .bf16⟩
  | .hbm, ⟨5, _⟩ => ⟨S8448x1024, .f32⟩
  | .hbm, ⟨6, _⟩ => ⟨S1024, .f32⟩
  | .hbm, ⟨7, _⟩ => ⟨S2x8x1024, .f32⟩
  | .hbm, ⟨8, _⟩ => ⟨S1024x5120, .f32⟩
  | .hbm, ⟨9, _⟩ => ⟨S8448x1024, .f32⟩
  | .hbm, ⟨10, _⟩ => ⟨S1024x5120, .bf16⟩
  | .hbm, ⟨11, _⟩ => ⟨S1024x4x1280, .bf16⟩
  | .hbm, ⟨12, _⟩ => ⟨S4x1024x1280, .bf16⟩
  | .hbm, ⟨13, _⟩ => ⟨S1x1024, .f32⟩
  | .hbm, ⟨14, _⟩ => ⟨S8448x1024, .f32⟩
  | .hbm, ⟨15, _⟩ => ⟨S8448x1024, .bf16⟩
  | .hbm, ⟨16, _⟩ => ⟨S8x1024, .f32⟩
  | .hbm, ⟨17, _⟩ => ⟨S8448x5120, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S4x1024x1280, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x8x1024, .f32⟩
  | .local _ .vmem, ⟨15, _⟩ => ⟨S1x8x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | .local _ .vmem, ⟨23, _⟩ => ⟨S256x5120, .bf16⟩
  | .local _ .vmem, ⟨24, _⟩ => ⟨S256x5120, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x5120 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S8448x1024 : Shape := ⟨2, ![8448, 1024]⟩
abbrev S1024 : Shape := ⟨1, ![1024]⟩
abbrev S2x8x1024 : Shape := ⟨3, ![2, 8, 1024]⟩
abbrev S1024x5120 : Shape := ⟨2, ![1024, 5120]⟩
abbrev S8448x5120 : Shape := ⟨2, ![8448, 5120]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x1024, .bf16⟩
  | .hbm, ⟨5, _⟩ => ⟨S8448x1024, .f32⟩
  | .hbm, ⟨6, _⟩ => ⟨S1024, .f32⟩
  | .hbm, ⟨7, _⟩ => ⟨S2x8x1024, .f32⟩
  | .hbm, ⟨8, _⟩ => ⟨S1024x5120, .f32⟩
  | .hbm, ⟨9, _⟩ => ⟨S8448x1024, .f32⟩
  | .hbm, ⟨10, _⟩ => ⟨S8448x5120, .bf16⟩
  | .hbm, ⟨11, _⟩ => ⟨S8448x5120, .f32⟩
  | .hbm, ⟨12, _⟩ => ⟨S8448x1024, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1, .f32⟩
  | .hbm, ⟨23, _⟩ => ⟨S8448x1, .f32⟩
  | .hbm, ⟨24, _⟩ => ⟨S_, .f32⟩
  | .hbm, ⟨25, _⟩ => ⟨S8448x1, .f32⟩
  | .hbm, ⟨26, _⟩ => ⟨S8448x1, .f32⟩
  | .hbm, ⟨27, _⟩ => ⟨S8448x1024, .f32⟩
  | .hbm, ⟨28, _⟩ => ⟨S8448x1024, .f32⟩
  | .hbm, ⟨29, _⟩ => ⟨S1x1024, .f32⟩
  | .hbm, ⟨30, _⟩ => ⟨S8448x1024, .f32⟩
  | .hbm, ⟨31, _⟩ => ⟨S8448x1024, .f32⟩
  | .hbm, ⟨32, _⟩ => ⟨S8448, .i32⟩
  | .hbm, ⟨33, _⟩ => ⟨S8448x1, .i32⟩
  | .hbm, ⟨34, _⟩ => ⟨S_, .i32⟩
  | .hbm, ⟨35, _⟩ => ⟨S8448x1, .i32⟩
  | .hbm, ⟨36, _⟩ => ⟨S8448x1, .i1⟩
  | .hbm, ⟨37, _⟩ => ⟨S1x1x1024, .f32⟩
  | .hbm, ⟨38, _⟩ => ⟨S1024, .f32⟩
  | .hbm, ⟨39, _⟩ => ⟨S1x1x1024, .f32⟩
  | .hbm, ⟨40, _⟩ => ⟨S1024, .f32⟩
  | .hbm, ⟨41, _⟩ => ⟨S8448x1024, .i1⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S8448, .i32⟩
  | .hbm, ⟨46, _⟩ => ⟨S8448x1, .i32⟩
  | .hbm, ⟨47, _⟩ => ⟨S_, .i32⟩
  | .hbm, ⟨48, _⟩ => ⟨S8448x1, .i32⟩
  | .hbm, ⟨49, _⟩ => ⟨S8448x1, .i1⟩
  | .hbm, ⟨50, _⟩ => ⟨S1x1x1024, .f32⟩
  | .hbm, ⟨51, _⟩ => ⟨S1024, .f32⟩
  | .hbm, ⟨52, _⟩ => ⟨S1x1x1024, .f32⟩
  | .hbm, ⟨53, _⟩ => ⟨S1024, .f32⟩
  | .hbm, ⟨54, _⟩ => ⟨S8448x1024, .i1⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S_, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1024, .f32⟩
  | .hbm, ⟨63, _⟩ => ⟨S8448x5120, .f32⟩
  | .hbm, ⟨64, _⟩ => ⟨S8448x1024, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S_, .f32⟩
  | .hbm, ⟨70, _⟩ => ⟨S8448, .f32⟩
  | .hbm, ⟨71, _⟩ => ⟨S8448x1, .f32⟩
  | .hbm, ⟨72, _⟩ => ⟨S8448x1024, .f32⟩
  | .hbm, ⟨73, _⟩ => ⟨S8448x1024, .f32⟩
  | .hbm, ⟨74, _⟩ => ⟨S8448x1024, .f32⟩
  | .hbm, ⟨75, _⟩ => ⟨S8448x1, .f32⟩
  | .hbm, ⟨76, _⟩ => ⟨S_, .f32⟩
  | .hbm, ⟨77, _⟩ => ⟨S8448x1, .f32⟩
  | .hbm, ⟨78, _⟩ => ⟨S8448x1, .f32⟩
  | .hbm, ⟨79, _⟩ => ⟨S_, .f32⟩
  | .hbm, ⟨80, _⟩ => ⟨S8448, .f32⟩
  | .hbm, ⟨81, _⟩ => ⟨S8448x1024, .f32⟩
  | .hbm, ⟨82, _⟩ => ⟨S8448x1024, .f32⟩
  | .hbm, ⟨83, _⟩ => ⟨S8448x1024, .f32⟩
  | .hbm, ⟨84, _⟩ => ⟨S8448x1024, .f32⟩
  | .hbm, ⟨85, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Kernel12.lean ====
abbrev S8448x1024 : Shape := ⟨2, ![8448, 1024]⟩
abbrev S1024 : Shape := ⟨1, ![1024]⟩
abbrev S2x8x1024 : Shape := ⟨3, ![2, 8, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S1x1024 : Shape := ⟨2, ![1, 1024]⟩
abbrev S8x1024 : Shape := ⟨2, ![8, 1024]⟩
abbrev S8448x3072 : Shape := ⟨2, ![8448, 3072]⟩
abbrev S256x1024 : Shape := ⟨2, ![256, 1024]⟩
abbrev S1x8x1024 : Shape := ⟨3, ![1, 8, 1024]⟩
abbrev S256x3072 : Shape := ⟨2, ![256, 3072]⟩
abbrev S1x1x1024 : Shape := ⟨3, ![1, 1, 1024]⟩
abbrev S256 : Shape := ⟨1, ![256]⟩
abbrev S256x1 : Shape := ⟨2, ![256, 1]⟩
abbrev S256x768 : Shape := ⟨2, ![256, 768]⟩
abbrev S1x1024x768 : Shape := ⟨3, ![1, 1024, 768]⟩
abbrev S1024x768 : Shape := ⟨2, ![1024, 768]⟩

abbrev nBuf : Space → Nat
  | .hbm => 16
  | .vmem => 21
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .f32⟩
  | .hbm, ⟨4, _⟩ => ⟨S1024, .f32⟩
  | .hbm, ⟨5, _⟩ => ⟨S2x8x1024, .f32⟩
  | .hbm, ⟨6, _⟩ => ⟨S1024x3072, .f32⟩
  | .hbm, ⟨7, _⟩ => ⟨S8448x1024, .f32⟩
  | .hbm, ⟨8, _⟩ => ⟨S1024x3072, .bf16⟩
  | .hbm, ⟨9, _⟩ => ⟨S1024x4x768, .bf16⟩
  | .hbm, ⟨10, _⟩ => ⟨S4x1024x768, .bf16⟩
  | .hbm, ⟨11, _⟩ => ⟨S1x1024, .f32⟩
  | .hbm, ⟨12, _⟩ => ⟨S8448x1024, .f32⟩
  | .hbm, ⟨13, _⟩ => ⟨S8448x1024, .bf16⟩
  | .hbm, ⟨14, _⟩ => ⟨S8x1024, .f32⟩
  | .hbm, ⟨15, _⟩ => ⟨S8448x3072, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S4x1024x768, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x8x1024, .f32⟩
  | .local _ .vmem, ⟨11, _⟩ => ⟨S1x8x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | .local _ .vmem, ⟨19, _⟩ => ⟨S256x3072, .bf16⟩
  | .local _ .vmem, ⟨20, _⟩ => ⟨S256x3072, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference12Ideal.lean ====
abbrev S8448x1024 : Shape := ⟨2, ![8448, 1024]⟩
abbrev S1024 : Shape := ⟨1, ![1024]⟩
abbrev S2x8x1024 : Shape := ⟨3, ![2, 8, 1024]⟩
abbrev S1024x3072 : Shape := ⟨2, ![1024, 3072]⟩
abbrev S8448x3072 : Shape := ⟨2, ![8448, 3072]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .f32⟩
  | .hbm, ⟨4, _⟩ => ⟨S1024, .f32⟩
  | .hbm, ⟨5, _⟩ => ⟨S2x8x1024, .f32⟩
  | .hbm, ⟨6, _⟩ => ⟨S1024x3072, .f32⟩
  | .hbm, ⟨7, _⟩ => ⟨S8448x1024, .f32⟩
  | .hbm, ⟨8, _⟩ => ⟨S8448x3072, .bf16⟩
  | .hbm, ⟨9, _⟩ => ⟨S8448x3072, .f32⟩
  | .hbm, ⟨10, _⟩ => ⟨S8448x1024, .f32⟩
  | .hbm, ⟨11, _⟩ => ⟨S_, .f32⟩
  | .hbm, ⟨12, _⟩ => ⟨S8448, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S8448x1024, .f32⟩
  | .hbm, ⟨26, _⟩ => ⟨S8448x1024, .f32⟩
  | .hbm, ⟨27, _⟩ => ⟨S1x1024, .f32⟩
  | .hbm, ⟨28, _⟩ => ⟨S8448x1024, .f32⟩
  | .hbm, ⟨29, _⟩ => ⟨S8448x1024, .f32⟩
  | .hbm, ⟨30, _⟩ => ⟨S8448, .i32⟩
  | .hbm, ⟨31, _⟩ => ⟨S8448x1, .i32⟩
  | .hbm, ⟨32, _⟩ => ⟨S_, .i32⟩
  | .hbm, ⟨33, _⟩ => ⟨S8448x1, .i32⟩
  | .hbm, ⟨34, _⟩ => ⟨S8448x1, .i1⟩
  | .hbm, ⟨35, _⟩ => ⟨S1x1x1024, .f32⟩
  | .hbm, ⟨36, _⟩ => ⟨S1024, .f32⟩
  | .hbm, ⟨37, _⟩ => ⟨S1x1x1024, .f32⟩
  | .hbm, ⟨38, _⟩ => ⟨S1024, .f32⟩
  | .hbm, ⟨39, _⟩ => ⟨S8448x1024, .i1⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S8448, .i32⟩
  | .hbm, ⟨44, _⟩ => ⟨S8448x1, .i32⟩
  | .hbm, ⟨45, _⟩ => ⟨S_, .i32⟩
  | .hbm, ⟨46, _⟩ => ⟨S8448x1, .i32⟩
  | .hbm, ⟨47, _⟩ => ⟨S8448x1, .i1⟩
  | .hbm, ⟨48, _⟩ => ⟨S1x1x1024, .f32⟩
  | .hbm, ⟨49, _⟩ => ⟨S1024, .f32⟩
  | .hbm, ⟨50, _⟩ => ⟨S1x1x1024, .f32⟩
  | .hbm, ⟨51, _⟩ => ⟨S1024, .f32⟩
  | .hbm, ⟨52, _⟩ => ⟨S8448x1024, .i1⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S_, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S8448x3072, .f32⟩
  | .hbm, ⟨62, _⟩ => ⟨S8448x1024, .f32⟩
  | .hbm, ⟨63, _⟩ => ⟨S8448x1024, .f32⟩
  | .hbm, ⟨64, _⟩ => ⟨S8448x1024, .f32⟩
  | .hbm, ⟨65, _⟩ => ⟨S8448x1024, .f32⟩
  | .hbm, ⟨66, _⟩ => ⟨S8448x1024, .f32⟩
  | .hbm, ⟨67, _⟩ => ⟨S_, .f32⟩
  | .hbm, ⟨68, _⟩ => ⟨S8448, .f32⟩
  | .hbm, ⟨69, _⟩ => ⟨S8448x1, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S8448x1, .f32⟩
  | .hbm, ⟨74, _⟩ => ⟨S_, .f32⟩
  | .hbm, ⟨75, _⟩ => ⟨S8448x1, .f32⟩
  | .hbm, ⟨76, _⟩ => ⟨S8448x1, .f32⟩
  | .hbm, ⟨77, _⟩ => ⟨S_, .f32⟩
  | .hbm, ⟨78, _⟩ => ⟨S8448, .f32⟩
  | .hbm, ⟨79, _⟩ => ⟨S8448x1024, .f32⟩
  | .hbm, ⟨80, _⟩ => ⟨S8448x1024, .f32⟩
  | .hbm, ⟨81, _⟩ => ⟨S8448x1024, .f32⟩
  | .hbm, ⟨82, _⟩ => ⟨S8448x1024, .f32⟩
  | .hbm, ⟨83, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Proof.Tile.lean ====
/- What one grid point of the kernel computes on its tile of 256 rows, in the kernel's own operations: the gate, its cumulated logarithm,
   keys and queries of each of the four chunks of 64 rows, and, head by head, the adjoint state's recurrence over the chunks and the
   two gradients. Everything is a function of the chunk `ci : Fin 4` and the head `h : Fin 8`. -/
module

public import proofs.«01_k».proof.Proof.Gen.KernelIdeal.Frame
public import Idealize.ShloMosaic.Lib.Pipeline.ReadBack
public import Idealize.ShloMosaic.Lib.ValueIdx
public import Idealize.ShloMosaic.Lib.ValueLayout
public import Idealize.ShloMosaic.Lib.Pipeline.ValueKit.Tiles
public import Idealize.ShloMosaic.Lib.Pipeline.ValueKit.Acc

@[expose] public section

set_option maxRecDepth 16384

noncomputable section

namespace Cert.Tile

open Idealize.ShloMosaic Idealize.ShloMosaic.TcCoe Idealize.ShloMosaic.ValueIdx
open Cert.KernelIdeal Cert.KernelIdeal.Gen

variable {F : FTy → Type} [FloatOps F] [Named F]

theorem rows_in : ∀ (ci : Fin 4) (a : Fin S256x1024.rank), (![64 * ci.val, 0] : Fin 2 → ℕ) a + S64x1024.size a ≤ S256x1024.size a := by decide
theorem cols_in : ∀ h : Fin 8, S64x1024.Slices ![0, 128 * h.val] S64x128 := by decide
theorem cols1_in : ∀ h : Fin 8, S1x1024.Slices ![0, 128 * h.val] S1x128 := by decide
theorem head_in : ∀ (h : Fin 8) (a : Fin S8x128x128.rank), (![h.val, 0, 0] : Fin 3 → ℕ) a + S1x128x128.size a ≤ S8x128x128.size a := by decide
theorem saved_in : ∀ (ci : Fin 4) (h : Fin 8) (a : Fin S4x8x128x128.rank),
    (![ci.val, h.val, 0, 0] : Fin 4 → ℕ) a + S1x1x128x128.size a ≤ S4x8x128x128.size a := by decide

/-- The 64 rows of chunk `ci` of a tile. -/
def rows (x : Vec F S256x1024 .f32) (ci : Fin 4) : Vec F S64x1024 .f32 := View.ld x (Rect.unit (s := S256x1024) ![64 * ci.val, 0] S64x1024.size (rows_in ci))

/-- The lower bound of the direction: the first row of `lb2`. -/
def bound (x3 : Vec F S2x1024 .f32) : Vec F S1x1024 .f32 := View.ld x3 (Rect.unit (s := S2x1024) ![0, 0] S1x1024.size inb_S2x1024_S1x1024_0_0)

/-- The columns of head `h`. -/
def cols {t : FTy} (x : FVec F S64x1024 t) (h : Fin 8) : FVec F S64x128 t := extractStridedSlice S64x128 ![0, 128 * h.val] x (cols_in h)

/-- The columns of head `h` of a single row. -/
def cols1 (x : FVec F S1x1024 .f32) (h : Fin 8) : FVec F S1x128 .f32 := extractStridedSlice S1x128 ![0, 128 * h.val] x (cols1_in h)

/-- Row `r` of a chunk, kept as one row. -/
def row (x : FVec F S64x1024 .f32) (r : Fin 64) : FVec F S1x1024 .f32 := fun j => x (ix2 r (j 1))

/-- A row repeated over the chunk. -/
def spread (x : FVec F S1x1024 .f32) : FVec F S64x1024 .f32 := broadcastTo S64x1024 x broadcasts_S1x1024_S64x1024

abbrev zero : F .f32 := FloatOps.ofBits .f32 0x00000000#32
abbrev one : F .f32 := FloatOps.ofBits .f32 0x3F800000#32

/-- The logistic function of a chunk. -/
def sigm (z : FVec F S64x1024 .f32) : FVec F S64x1024 .f32 :=
  divf (broadcast S64x1024 one) (addf (broadcast S64x1024 one) (exp (subf (broadcast S64x1024 zero) z)))

/-- The forget gate of a chunk. -/
def gate (lb : FVec F S1x1024 .f32) (z : FVec F S64x1024 .f32) : FVec F S64x1024 .f32 :=
  addf (spread lb) (mulf (spread (subf (broadcast S1x1024 one) lb)) (sigm z))

/-- The lower triangle of ones. -/
def tri : FVec F S64x64 .bf16 :=
  truncf .bf16 (sitofp .f32 (extui 32 (cmpi .sge (iota .tc S64x64 32 [0]) (iota .tc S64x64 32 [1])))) bitsLt_bf16_f32

/-- The gate's logarithm to base two. -/
def logGate (f : FVec F S64x1024 .f32) : FVec F S64x1024 .f32 :=
  mulf (log f) (broadcast S64x1024 (Named.named κ "log2e" 0x3FB8AA3B#32))

/-- Its high part and its remainder, each summed up to every row. -/
def cumOf (g : FVec F S64x1024 .f32) : FVec F S64x1024 .f32 :=
  addf
    (matmul dot_S64x64_S64x1024_S64x1024_1_0_0_1_n_n none tri (truncf .bf16 g bitsLt_bf16_f32) (constant S64x1024 .f32 0x00000000#32))
    (matmul dot_S64x64_S64x1024_S64x1024_1_0_0_1_n_n none tri
      (truncf .bf16 (subf g (extf .f32 (truncf .bf16 g bitsLt_bf16_f32) bitsLt_bf16_f32)) bitsLt_bf16_f32) (constant S64x1024 .f32 0x00000000#32))

/-- A chunk as the scratch buffers store it. -/
abbrev stored (x : FVec F S64x1024 .f32) : FVec F S64x1024 .f32 := shapeCast S64x1024 x shapeCasts_S64x1024_S64x1024

section Chunk

variable (x0 x2 : Vec F S256x1024 .f32) (x3 : Vec F S2x1024 .f32) (ci : Fin 4)

/-- The chunk's forget gate, -/
def gateAt : FVec F S64x1024 .f32 := gate (bound x3) (rows x0 ci)
/-- its cumulated logarithm, -/
def cum : FVec F S64x1024 .f32 := stored (cumOf (logGate (gateAt x0 x3 ci)))
/-- its keys, -/
def key : FVec F S64x1024 .f32 := stored (subf (broadcast S64x1024 one) (gateAt x0 x3 ci))
/-- its queries. -/
def query : FVec F S64x1024 .f32 := stored (mulf (rows x2 ci) (sigm (rows x2 ci)))

/-- The cumulated logarithm in the middle of the chunk and at its end. -/
def mid : FVec F S1x1024 .f32 := row (cum x0 x3 ci) 31
def last : FVec F S1x1024 .f32 := row (cum x0 x3 ci) 63

/-- The decays the chunk's products carry. -/
def eh : FVec F S64x1024 .f32 := exp2 (cum x0 x3 ci)
def et : FVec F S64x1024 .f32 := exp2 (subf (cum x0 x3 ci) (spread (mid x0 x3 ci)))
def ekt : FVec F S64x1024 .f32 := exp2 (subf (spread (mid x0 x3 ci)) (cum x0 x3 ci))
def ekb : FVec F S64x1024 .f32 := exp2 (subf (spread (last x0 x3 ci)) (cum x0 x3 ci))
def el : FVec F S1x1024 .f32 := exp2 (last x0 x3 ci)

/-- Queries and keys with their decays. -/
def qh : FVec F S64x1024 .bf16 := truncf .bf16 (mulf (query x2 ci) (eh x0 x3 ci)) bitsLt_bf16_f32
def qt : FVec F S64x1024 .bf16 := truncf .bf16 (mulf (query x2 ci) (et x0 x3 ci)) bitsLt_bf16_f32
def kt : FVec F S64x1024 .bf16 := truncf .bf16 (mulf (key x0 x3 ci) (ekt x0 x3 ci)) bitsLt_bf16_f32
def kb : FVec F S64x1024 .bf16 := truncf .bf16 (mulf (key x0 x3 ci) (ekb x0 x3 ci)) bitsLt_bf16_f32

end Chunk

/-- A block of rows as the products take it. -/
def narrow (x : Vec F S256x1024 .f32) (ci : Fin 4) : FVec F S64x1024 .bf16 := truncf .bf16 (rows x ci) bitsLt_bf16_f32

/-- A score matrix, kept on and below (or on and above) its diagonal. -/
def lower (a : FVec F S64x64 .f32) : FVec F S64x64 .bf16 :=
  truncf .bf16 (select (cmpi .sge (iota .tc S64x64 32 [0]) (iota .tc S64x64 32 [1])) a (broadcast S64x64 zero)) bitsLt_bf16_f32
def upper (a : FVec F S64x64 .f32) : FVec F S64x64 .bf16 :=
  truncf .bf16 (select (cmpi .sle (iota .tc S64x64 32 [0]) (iota .tc S64x64 32 [1])) a (broadcast S64x64 zero)) bitsLt_bf16_f32

/-- The four products of a head. -/
def scores (a b : FVec F S64x128 .bf16) : FVec F S64x64 .f32 :=
  matmul dot_S64x128_S64x128_S64x64_1_1_0_0_n_n none a b (constant S64x64 .f32 0x00000000#32)
def apply (a : FVec F S64x64 .bf16) (b : FVec F S64x128 .bf16) : FVec F S64x128 .f32 :=
  matmul dot_S64x64_S64x128_S64x128_1_0_0_1_n_n none a b (constant S64x128 .f32 0x00000000#32)
def outer (a b : FVec F S64x128 .bf16) : FVec F S128x128 .f32 :=
  matmul dot_S64x128_S64x128_S128x128_0_0_1_1_n_n none a b (constant S128x128 .f32 0x00000000#32)
def through (a : FVec F S64x128 .bf16) (s : FVec F S128x128 .bf16) : FVec F S64x128 .f32 :=
  matmul dot_S64x128_S128x128_S64x128_1_1_0_0_n_n none a s (constant S64x128 .f32 0x00000000#32)
def across (a : FVec F S64x128 .bf16) (s : FVec F S128x128 .bf16) : FVec F S64x128 .f32 :=
  matmul dot_S64x128_S128x128_S64x128_1_0_0_1_n_n none a s (constant S64x128 .f32 0x00000000#32)

section Head

variable (x0 x1 x2 : Vec F S256x1024 .f32) (x3 : Vec F S2x1024 .f32) (x4 : Vec F S256x1024 .f32) (x5 : Vec F S4x8x128x128 .f32)
  (ci : Fin 4) (h : Fin 8)

/-- The forward state the chunk started from. -/
def saved : FVec F S128x128 .f32 :=
  shapeCast S128x128 (View.ld x5 (Rect.unit (s := S4x8x128x128) ![ci.val, h.val, 0, 0] S1x1x128x128.size (saved_in ci h)) : Vec F S1x1x128x128 .f32)
    shapeCasts_S1x1x128x128_S128x128

/-- One step of the adjoint state's recurrence. -/
def advance (ds : FVec F S128x128 .f32) : FVec F S128x128 .f32 :=
  addf (mulf ds (broadcastTo S128x128 (cols1 (el x0 x3 ci) h) broadcasts_S1x128_S128x128))
    (outer (cols (narrow x4 ci) h) (cols (qh x0 x2 x3 ci) h))

/-- The gradient of the chunk's values, -/
def dvOf (ds : FVec F S128x128 .f32) : FVec F S64x128 .f32 :=
  addf (apply (upper (scores (cols (kt x0 x3 ci) h) (cols (qt x0 x2 x3 ci) h))) (cols (narrow x4 ci) h))
    (through (cols (kb x0 x3 ci) h) (truncf .bf16 ds bitsLt_bf16_f32))

/-- and of its queries. -/
def dqOf : FVec F S64x128 .f32 :=
  addf (mulf (across (cols (narrow x4 ci) h) (truncf .bf16 (saved x5 ci h) bitsLt_bf16_f32)) (cols (eh x0 x3 ci) h))
    (mulf (apply (lower (scores (cols (narrow x4 ci) h) (cols (narrow x1 ci) h))) (cols (kt x0 x3 ci) h)) (cols (et x0 x3 ci) h))

end Head

/-- The adjoint state of head `h` as the carried scratch holds it. -/
def held (s : Vec F S8x128x128 .f32) (h : Fin 8) : FVec F S128x128 .f32 :=
  shapeCast S128x128 (View.ld s (Rect.unit (s := S8x128x128) ![h.val, 0, 0] S1x128x128.size (head_in h)) : Vec F S1x128x128 .f32)
    shapeCasts_S1x128x128_S128x128

section Sweep

variable (x0 x2 : Vec F S256x1024 .f32) (x3 : Vec F S2x1024 .f32) (x4 : Vec F S256x1024 .f32) (s : Vec F S8x128x128 .f32) (h : Fin 8)

/-- The adjoint state in front of the tile's chunks 3, 2, 1, 0, and behind the last. -/
def ds3 : FVec F S128x128 .f32 := held s h
def ds2 : FVec F S128x128 .f32 := advance x0 x2 x3 x4 3 h (ds3 s h)
def ds1 : FVec F S128x128 .f32 := advance x0 x2 x3 x4 2 h (ds2 x0 x2 x3 x4 s h)
def ds0 : FVec F S128x128 .f32 := advance x0 x2 x3 x4 1 h (ds1 x0 x2 x3 x4 s h)
def dsEnd : FVec F S128x128 .f32 := advance x0 x2 x3 x4 0 h (ds0 x0 x2 x3 x4 s h)

end Sweep

section Tile

variable (x0 x1 x2 : Vec F S256x1024 .f32) (x3 : Vec F S2x1024 .f32) (x4 : Vec F S256x1024 .f32) (x5 : Vec F S4x8x128x128 .f32)
  (s : Vec F S8x128x128 .f32)

/-- The adjoint state in front of chunk `ci` (the sweep goes from chunk 3 down to chunk 0). -/
def dsAt (h : Fin 8) : Fin 4 → FVec F S128x128 .f32 := ![ds0 x0 x2 x3 x4 s h, ds1 x0 x2 x3 x4 s h, ds2 x0 x2 x3 x4 s h, ds3 s h]

/-- The value gradients of chunk `ci` and head `h`, from the state the tile starts with. -/
def dvPiece (ci : Fin 4) (h : Fin 8) : FVec F S64x128 .f32 := dvOf x0 x2 x3 x4 ci h (dsAt x0 x2 x3 x4 s h ci)

/-- The query gradients of chunk `ci` and head `h`, as the scratch holds them. -/
def dqPiece (ci : Fin 4) (h : Fin 8) : FVec F S64x128 .f32 := shapeCast S64x128 (dqOf x0 x1 x3 x4 x5 ci h) shapeCasts_S64x128_S64x128

/-- The scratch of the adjoint state as the first grid point clears it. -/
def cleared : Vec F S8x128x128 .f32 := shapeCast S8x128x128 (broadcast S8x128x128 (zero (F := F))) shapeCasts_S8x128x128_S8x128x128

end Tile

/-! ## Blocks put together from their pieces -/

/-- A tile of one array per chunk and head. -/
def tileOf (f : Fin 4 → Fin 8 → FVec F S64x128 .f32) : Vec F S256x1024 .f32 := fun y =>
  f ⟨(y 0).val / 64, Nat.div_lt_of_lt_mul (y 0).isLt⟩ ⟨(y 1).val / 128, Nat.div_lt_of_lt_mul (y 1).isLt⟩
    (ix2 ⟨(y 0).val % 64, Nat.mod_lt _ (by decide)⟩ ⟨(y 1).val % 128, Nat.mod_lt _ (by decide)⟩)

/-- The tile read inside the piece of chunk `ci` and head `h`. -/
theorem tileOf_at (f : Fin 4 → Fin 8 → FVec F S64x128 .f32) (ci : Fin 4) (h : Fin 8) (x : S64x128.Idx) (y : S256x1024.Idx)
    (hy : ∀ a, (y a).val = (![64 * ci.val, 128 * h.val] : Fin 2 → ℕ) a + (x a).val) : f ci h x = tileOf f y := by
  have h0 : (y 0).val = 64 * ci.val + (x 0).val := hy 0
  have h1 : (y 1).val = 128 * h.val + (x 1).val := hy 1
  have b0 : (x 0).val < 64 := (x 0).isLt
  have b1 : (x 1).val < 128 := (x 1).isLt
  have e0 : (⟨(y 0).val / 64, Nat.div_lt_of_lt_mul (y 0).isLt⟩ : Fin 4) = ci := Fin.ext (by show (y 0).val / 64 = _; omega)
  have e1 : (⟨(y 1).val / 128, Nat.div_lt_of_lt_mul (y 1).isLt⟩ : Fin 8) = h := Fin.ext (by show (y 1).val / 128 = _; omega)
  unfold tileOf
  rw [e0, e1]
  refine congrArg (f ci h) (funext fun a => ?_)
  match a with
  | 0 => exact Fin.ext (by show (x 0).val = (y 0).val % 64; omega)
  | 1 => exact Fin.ext (by show (x 1).val = (y 1).val % 128; omega)

/-- The carried scratch of one square array per head. -/
def headsOf (f : Fin 8 → FVec F S128x128 .f32) : Vec F S8x128x128 .f32 := fun y => f (y 0) (ix2 (y 1) (y 2))

theorem piece_in : ∀ (p : Fin 4 × Fin 8) (a : Fin S256x1024.rank),
    (![64 * p.1.val, 128 * p.2.val] : Fin 2 → ℕ) a + S64x128.size a ≤ S256x1024.size a := by decide

/-- The stores of one array per chunk and head, in the order the list gives, the last store first. -/
def pieces (f : Fin 4 → Fin 8 → FVec F S64x128 .f32) (l : List (Fin 4 × Fin 8)) : List (View.Piece (Elt F) S256x1024 .f32) :=
  l.map fun p => ⟨Rect.unit (s := S256x1024) ![64 * p.1.val, 128 * p.2.val] S64x128.size (piece_in p), f p.1 p.2⟩

/-- The kernel's order: chunk 3 first, in every chunk head 0 first. -/
def order : List (Fin 4 × Fin 8) := [0, 1, 2, 3].flatMap fun ci => [7, 6, 5, 4, 3, 2, 1, 0].map fun h => (ci, h)

/-- An index of the tile the stores reach reads the tile. -/
theorem canon_pieces (f : Fin 4 → Fin 8 → FVec F S64x128 .f32) (l : List (Fin 4 × Fin 8)) (y : S256x1024.Idx)
    (hy : ∃ p ∈ l, p.1.val = (y 0).val / 64 ∧ p.2.val = (y 1).val / 128) : View.canon (pieces f l) y = tileOf f y := by
  refine View.canon_eq_of_allAt _ _ _ ?_ ?_
  · obtain ⟨p, hp, h0, h1⟩ := hy
    refine ⟨_, List.mem_map.mpr ⟨p, hp, rfl⟩, ?_⟩
    refine (Rect.mem_set_unit (inb := piece_in p)).mpr fun a => ?_
    match a with
    | 0 => exact ⟨by show 64 * p.1.val ≤ (y 0).val; omega, by show (y 0).val < 64 * p.1.val + 64; omega⟩
    | 1 => exact ⟨by show 128 * p.2.val ≤ (y 1).val; omega, by show (y 1).val < 128 * p.2.val + 128; omega⟩
  · intro q hq x hx
    obtain ⟨p, hp, rfl⟩ := List.mem_map.mp hq
    refine tileOf_at f p.1 p.2 x y fun a => ?_
    rw [← hx]
    exact Rect.idx_unit_val _ _ (piece_in p) x a

/-- Every index of a tile has its chunk and head in the kernel's order, and in the part of the order that starts with its chunk. -/
theorem mem_order : ∀ (ci : Fin 4) (h : Fin 8), (ci, h) ∈ order.drop (8 * ci.val) := by decide

theorem canon_all (f : Fin 4 → Fin 8 → FVec F S64x128 .f32) : View.canon (pieces f order) = tileOf f := by
  funext y
  refine canon_pieces f order y ⟨(⟨(y 0).val / 64, Nat.div_lt_of_lt_mul (y 0).isLt⟩, ⟨(y 1).val / 128, Nat.div_lt_of_lt_mul (y 1).isLt⟩),
    List.mem_of_mem_drop (mem_order _ _), rfl, rfl⟩

/-- The tile stored a second time, chunk by chunk, each chunk loaded from the scratch the pieces were stored to. -/
def reloaded {sig : RefSig} {κ : Kind} {sp : Space} (v : View sig κ sp S256x1024 .f32) (f : Fin 4 → Fin 8 → FVec F S64x128 .f32) :
    List (View.Piece (Elt F) S256x1024 .f32) :=
  [0, 1, 2, 3].map fun ci : Fin 4 => ⟨Rect.unit (s := S256x1024) ![64 * ci.val, 0] S64x1024.size (rows_in ci),
    v.readCov (pieces f (order.drop (8 * ci.val))) (Rect.unit (s := S256x1024) ![64 * ci.val, 0] S64x1024.size (rows_in ci)).toLoadRect⟩

theorem canon_reloaded {sig : RefSig} {κ : Kind} {sp : Space} (v : View sig κ sp S256x1024 .f32) (f : Fin 4 → Fin 8 → FVec F S64x128 .f32) :
    View.canon (reloaded v f) = tileOf f := by
  funext y
  refine View.canon_eq_of_allAt _ _ _ ?_ ?_
  · have hb : (y 0).val < 256 := (y 0).isLt
    refine ⟨_, List.mem_map.mpr ⟨(⟨(y 0).val / 64, Nat.div_lt_of_lt_mul (y 0).isLt⟩ : Fin 4), ?_, rfl⟩, ?_⟩
    · generalize (⟨(y 0).val / 64, Nat.div_lt_of_lt_mul (y 0).isLt⟩ : Fin 4) = ci
      revert ci; decide
    refine (Rect.mem_set_unit (inb := rows_in ⟨(y 0).val / 64, Nat.div_lt_of_lt_mul (y 0).isLt⟩)).mpr fun a => ?_
    match a with
    | 0 => exact ⟨by show 64 * ((y 0).val / 64) ≤ (y 0).val; omega, by show (y 0).val < 64 * ((y 0).val / 64) + 64; omega⟩
    | 1 => exact ⟨Nat.zero_le _, by show (y 1).val < 0 + 1024; have := (y 1).isLt; exact (Nat.zero_add 1024).symm ▸ (y 1).isLt⟩
  · intro q hq x hx
    obtain ⟨ci, -, rfl⟩ := List.mem_map.mp hq
    show v.readCov _ _ x = _
    rw [View.readCov_eq_canon']
    show View.canon _ ((Rect.unit (s := S256x1024) ![64 * ci.val, 0] S64x1024.size (rows_in ci)).emb x) = _
    have hx' : (Rect.unit (s := S256x1024) ![64 * ci.val, 0] S64x1024.size (rows_in ci)).emb x = y := hx
    rw [hx']
    have h0 : (y 0).val = 64 * ci.val + (x 0).val := by rw [← hx']; exact Rect.idx_unit_val _ _ _ x 0
    have hb : (x 0).val < 64 := (x 0).isLt
    exact canon_pieces f _ y ⟨(ci, ⟨(y 1).val / 128, Nat.div_lt_of_lt_mul (y 1).isLt⟩), mem_order _ _, by show ci.val = _; omega, rfl⟩

/-- The stores of one square array per head, head 0 first, over what was there before. -/
def headPieces (f : Fin 8 → FVec F S128x128 .f32) (L : List (View.Piece (Elt F) S8x128x128 .f32)) : List (View.Piece (Elt F) S8x128x128 .f32) :=
  ([7, 6, 5, 4, 3, 2, 1, 0].map fun h : Fin 8 => (⟨Rect.unit (s := S8x128x128) ![h.val, 0, 0] S1x128x128.size (head_in h),
    shapeCast S1x128x128 (f h) shapeCasts_S128x128_S1x128x128⟩ : View.Piece (Elt F) S8x128x128 .f32)) ++ L

theorem canon_headPieces (f : Fin 8 → FVec F S128x128 .f32) (L : List (View.Piece (Elt F) S8x128x128 .f32)) :
    View.canon (headPieces f L) = headsOf f := by
  funext y
  refine View.canon_append_of_pieces (headsOf f) L _ ?_ y ?_
  · intro q hq x
    obtain ⟨h, -, rfl⟩ := List.mem_map.mp hq
    have hx : x = ix3 0 (x 1) (x 2) := by
      funext a
      match a with
      | 0 => exact Fin.ext (by have := (x 0).isLt; show (x 0).val = 0; exact Nat.lt_one_iff.mp this)
      | 1 => rfl
      | 2 => rfl
    show shapeCast S1x128x128 (f h) shapeCasts_S128x128_S1x128x128 x = headsOf f ((Rect.unit (s := S8x128x128) ![h.val, 0, 0] S1x128x128.size (head_in h)).emb x)
    have hb0 : (x 0).val = 0 := Nat.lt_one_iff.mp (x 0).isLt
    have e : (Rect.unit (s := S8x128x128) ![h.val, 0, 0] S1x128x128.size (head_in h)).emb x = ix3 h (x 1) (x 2) := by
      funext a
      refine Fin.ext ((Rect.idx_unit_val _ _ (head_in h) x a).trans ?_)
      match a with
      | 0 => show h.val + (x 0).val = h.val; omega
      | 1 => exact Nat.zero_add _
      | 2 => exact Nat.zero_add _
    rw [e]
    refine Eq.trans (congrArg _ hx) ?_
    exact shapeCast_ab_1ab_apply (f h) shapeCasts_S128x128_S1x128x128 0 (x 1) (x 2)
  · refine ⟨_, List.mem_map.mpr ⟨y 0, ?_, rfl⟩, ?_⟩
    · exact (by decide : ∀ h : Fin 8, h ∈ ([7, 6, 5, 4, 3, 2, 1, 0] : List (Fin 8))) (y 0)
    refine (Rect.mem_set_unit (inb := head_in (y 0))).mpr fun a => ?_
    match a with
    | 0 => exact ⟨le_refl (y 0).val, Nat.lt_succ_self (y 0).val⟩
    | 1 => exact ⟨Nat.zero_le _, (Nat.zero_add 128).symm ▸ (y 1).isLt⟩
    | 2 => exact ⟨Nat.zero_le _, (Nat.zero_add 128).symm ▸ (y 2).isLt⟩

/-- A load of one row inside the piece stored last. -/
theorem readCov_row {Val : EltTy → Type} [∀ e, Nonempty (Val e)] {sig : RefSig} {κ : Kind} {sp : Space} {e : EltTy}
    (v : View sig κ sp S256x1024 e) (o r : ℕ) (inb : ∀ a : Fin S256x1024.rank, (![o, 0] : Fin 2 → ℕ) a + S64x1024.size a ≤ S256x1024.size a)
    (inb' : ∀ a : Fin S256x1024.rank, (![r, 0] : Fin 2 → ℕ) a + S1x1024.size a ≤ S256x1024.size a)
    (w : S64x1024.Idx → Val e) (L : List (View.Piece Val S256x1024 e)) (h : o ≤ r) (h' : r - o < 64) :
    v.readCov (⟨Rect.unit (s := S256x1024) ![o, 0] S64x1024.size inb, w⟩ :: L) (Rect.unit (s := S256x1024) ![r, 0] S1x1024.size inb').toLoadRect
      = fun j => w (ix2 ⟨r - o, h'⟩ (j 1)) := by
  rw [View.readCov_eq_canon']
  funext j
  have e1 : (Rect.unit (s := S256x1024) ![r, 0] S1x1024.size inb').toLoadRect.idx j
      = (Rect.unit (s := S256x1024) ![o, 0] S64x1024.size inb).emb (ix2 ⟨r - o, h'⟩ (j 1)) := by
    funext a
    match a with
    | 0 =>
      have hj : (j 0).val < 1 := (j 0).isLt
      exact Fin.ext (by show r + 1 * (j 0).val = o + 1 * (r - o); omega)
    | 1 => exact Fin.ext (by show 0 + 1 * (j 1).val = 0 + 1 * (j 1).val; omega)
  rw [e1]
  exact View.canon_cons_emb (Rect.unit (s := S256x1024) ![o, 0] S64x1024.size inb) w L _

end Cert.Tile

end
-- ==== Proof.Chunk.lean ====
/- One chunk of 64 rows of one head, and what the backward pass does with it, element by element: the gradients of its values and
   its queries from the adjoint of the state behind it, and the adjoint of the state in front of it. -/
module

public import Idealize.ShloMosaic.Lib.Pointwise.Index
public import Idealize.ShloMosaic.PureOps.Ideal
public import Mathlib.Algebra.BigOperators.Fin

@[expose] public section

noncomputable section

namespace Cert.Chunk

open Idealize.ShloMosaic

/-- Queries, keys, values, the gates' logarithms and the output's gradient of a chunk, and the state in front of it (value by key). -/
structure Data where
  q : Fin 64 → Fin 128 → EReal
  k : Fin 64 → Fin 128 → EReal
  v : Fin 64 → Fin 128 → EReal
  g : Fin 64 → Fin 128 → EReal
  o : Fin 64 → Fin 128 → EReal
  s : Fin 128 → Fin 128 → EReal

/-- The logistic function, -/
def sg (z : EReal) : EReal := Ideal.div 1 (1 + Ideal.exp (-z))

/-- the forget gate. -/
def gate (lb z : EReal) : EReal := lb + (1 - lb) * sg z

variable (b : Data)

/-- The gates' logarithms summed up to a row. -/
def cum (r : Fin 64) (k : Fin 128) : EReal := ∑ s : Fin 64, if s ≤ r then b.g s k else 0

/-- Queries and keys with the decays they carry. -/
def qh (r : Fin 64) (k : Fin 128) : EReal := b.q r k * Ideal.exp (cum b r k)
def qt (r : Fin 64) (k : Fin 128) : EReal := b.q r k * Ideal.exp (cum b r k - cum b 31 k)
def kt (r : Fin 64) (k : Fin 128) : EReal := b.k r k * Ideal.exp (cum b 31 k - cum b r k)
def kb (r : Fin 64) (k : Fin 128) : EReal := b.k r k * Ideal.exp (cum b 63 k - cum b r k)

/-- The gradient of the values, from the adjoint `ds` of the state behind the chunk (value by key). -/
def dv (ds : Fin 128 → Fin 128 → EReal) (r : Fin 64) (d : Fin 128) : EReal :=
  (∑ s : Fin 64, (if r ≤ s then ∑ k : Fin 128, kt b r k * qt b s k else 0) * b.o s d) + ∑ k : Fin 128, kb b r k * ds d k

/-- The gradient of the queries. -/
def dq (r : Fin 64) (k : Fin 128) : EReal :=
  (∑ d : Fin 128, b.o r d * b.s d k) * Ideal.exp (cum b r k)
    + (∑ s : Fin 64, (if s ≤ r then ∑ d : Fin 128, b.o r d * b.v s d else 0) * kt b s k) * Ideal.exp (cum b r k - cum b 31 k)

/-- The adjoint of the state in front of the chunk. -/
def next (ds : Fin 128 → Fin 128 → EReal) (d k : Fin 128) : EReal :=
  ds d k * Ideal.exp (cum b 63 k) + ∑ r : Fin 64, b.o r d * qh b r k

/-! ## The chunks of the whole arrays -/

/-- Row `r` of chunk `M`, and column `k` of head `h`. -/
def rowOf (M : Fin 132) (r : Fin 64) : Fin 8448 := ⟨64 * M.val + r.val, by omega⟩
def colOf (h : Fin 8) (k : Fin 128) : Fin 1024 := ⟨128 * h.val + k.val, by omega⟩
/-- Column `k` of head `h` in part `j` of the projection. -/
def partOf (j : Fin 5) (h : Fin 8) (k : Fin 128) : Fin 5120 := ⟨1024 * j.val + (128 * h.val + k.val), by omega⟩

variable (p : (⟨2, ![8448, 5120]⟩ : Shape).Idx → EReal) (lb : (⟨2, ![2, 1024]⟩ : Shape).Idx → EReal)
  (o : (⟨2, ![8448, 1024]⟩ : Shape).Idx → EReal) (st : (⟨4, ![132, 8, 128, 128]⟩ : Shape).Idx → EReal)

/-- Chunk `M` (in the order the rows lie in) of head `h`. -/
def chunk (M : Fin 132) (h : Fin 8) : Data where
  q r k := p (ix2 (rowOf M r) (partOf 3 h k)) * sg (p (ix2 (rowOf M r) (partOf 3 h k)))
  k r k := 1 - gate (lb (ix2 0 (colOf h k))) (p (ix2 (rowOf M r) (partOf 0 h k)))
  v r d := p (ix2 (rowOf M r) (partOf 2 h d))
  g r k := Ideal.log (gate (lb (ix2 0 (colOf h k))) (p (ix2 (rowOf M r) (partOf 0 h k))))
  o r d := o (ix2 (rowOf M r) (colOf h d))
  s d k := st (ix4 M h d k)

/-- The chunk the backward pass takes at step `j`: the latent rows' chunks backwards, then the context's, which lie behind them. -/
def chunkAt (j : ℕ) : Fin 132 := ⟨if j < 128 then 127 - j else (259 - j) % 132, by split <;> omega⟩

/-- The step the backward pass takes chunk `M` at. -/
def stepOf (M : Fin 132) : ℕ := if M.val < 128 then 127 - M.val else 259 - M.val

theorem chunkAt_stepOf (M : Fin 132) : chunkAt (stepOf M) = M := by
  refine Fin.ext ?_
  show (if stepOf M < 128 then 127 - stepOf M else (259 - stepOf M) % 132) = M.val
  unfold stepOf
  split <;> split <;> omega

/-- The adjoint of the state after `n` steps. -/
def adjoint (h : Fin 8) : ℕ → Fin 128 → Fin 128 → EReal
  | 0 => fun _ _ => 0
  | n + 1 => next (chunk p lb o st (chunkAt n) h) (adjoint h n)

/-- The two results, at row `y 0` and column `y 1`. -/
def dvAll (y : (⟨2, ![8448, 1024]⟩ : Shape).Idx) : EReal :=
  let M : Fin 132 := ⟨(y 0).val / 64, Nat.div_lt_of_lt_mul (y 0).isLt⟩
  let h : Fin 8 := ⟨(y 1).val / 128, Nat.div_lt_of_lt_mul (y 1).isLt⟩
  dv (chunk p lb o st M h) (adjoint p lb o st h (stepOf M)) ⟨(y 0).val % 64, Nat.mod_lt _ (by decide)⟩ ⟨(y 1).val % 128, Nat.mod_lt _ (by decide)⟩

def dqAll (y : (⟨2, ![8448, 1024]⟩ : Shape).Idx) : EReal :=
  let M : Fin 132 := ⟨(y 0).val / 64, Nat.div_lt_of_lt_mul (y 0).isLt⟩
  let h : Fin 8 := ⟨(y 1).val / 128, Nat.div_lt_of_lt_mul (y 1).isLt⟩
  dq (chunk p lb o st M h) ⟨(y 0).val % 64, Nat.mod_lt _ (by decide)⟩ ⟨(y 1).val % 128, Nat.mod_lt _ (by decide)⟩

end Cert.Chunk

end
-- ==== Proof.Scale.lean ====
/- Powers of two of logarithms to base two are powers of e: the arithmetic of extended reals the cumulated gates need. -/
module

public import Idealize.ShloMosaic.PureOps.Ideal
public import Mathlib.Algebra.BigOperators.Fin

@[expose] public section

namespace Cert.Scale

open Idealize.ShloMosaic

/-- The reciprocal of the logarithm of two. -/
noncomputable def L : ℝ := (Real.log 2)⁻¹

theorem L_pos : 0 < L := inv_pos.mpr (Real.log_pos (by norm_num))

/-- Scaling by a positive real keeps sums, -/
theorem add_scale (x y : EReal) : (x + y) * (L : EReal) = x * L + y * L :=
  EReal.right_distrib_of_nonneg_of_ne_top (EReal.coe_nonneg.mpr L_pos.le) (EReal.coe_ne_top L) x y

/-- differences, -/
theorem sub_scale (x y : EReal) : (x - y) * (L : EReal) = x * L - y * L := by
  rw [sub_eq_add_neg, add_scale, EReal.neg_mul, ← sub_eq_add_neg]

/-- and finite sums. -/
theorem sum_scale {n : ℕ} (f : Fin n → EReal) : (∑ i, f i) * (L : EReal) = ∑ i, f i * L := by
  have key : ∀ s : Finset (Fin n), (∑ i ∈ s, f i) * (L : EReal) = ∑ i ∈ s, f i * L := by
    intro s
    induction s using Finset.cons_induction with
    | empty => simp
    | cons a s ha ih => rw [Finset.sum_cons, Finset.sum_cons, add_scale, ih]
  exact key _

/-- Two to the scaled power. -/
theorem exp2_scale (x : EReal) : Ideal.exp2 (x * (L : EReal)) = Ideal.exp x := by
  induction x using EReal.rec with
  | bot => rw [EReal.bot_mul_coe_of_pos L_pos]; rfl
  | top => rw [EReal.top_mul_coe_of_pos L_pos]; rfl
  | coe r =>
    rw [← EReal.coe_mul]
    show ((Real.rpow 2 (r * L) : ℝ) : EReal) = ((Real.exp r : ℝ) : EReal)
    refine congrArg _ ?_
    show (2 : ℝ) ^ (r * L) = _
    rw [Real.rpow_def_of_pos (by norm_num)]
    refine congrArg Real.exp ?_
    have : Real.log 2 ≠ 0 := (Real.log_pos (by norm_num)).ne'
    unfold L
    field_simp

/-- What is split off a number below infinity adds nothing to it. -/
theorem add_sub_self {x : EReal} (h : x ≠ ⊤) : x + (x - x) = x := by
  induction x using EReal.rec with
  | bot => rfl
  | top => exact absurd rfl h
  | coe r => rw [← EReal.coe_sub, ← EReal.coe_add, sub_self, add_zero]

/-- A scaled number is below infinity where the number is. -/
theorem scale_ne_top {x : EReal} (h : x ≠ ⊤) : x * (L : EReal) ≠ ⊤ := by
  induction x using EReal.rec with
  | bot => rw [EReal.bot_mul_coe_of_pos L_pos]; exact bot_ne_top
  | top => exact absurd rfl h
  | coe r => rw [← EReal.coe_mul]; exact EReal.coe_ne_top _

/-- The two sums of a number's parts are one sum of the numbers. -/
theorem sum_parts {n : ℕ} (c : Fin n → Prop) [DecidablePred c] (g : Fin n → EReal) (hg : ∀ i, g i ≠ ⊤) :
    (∑ i, if c i then g i * (L : EReal) else 0) + (∑ i, if c i then g i * (L : EReal) - g i * L else 0)
      = (∑ i, if c i then g i else 0) * L := by
  rw [sum_scale, ← Finset.sum_add_distrib]
  refine Finset.sum_congr rfl fun i _ => ?_
  by_cases h : c i
  · simp only [if_pos h]; exact add_sub_self (scale_ne_top (hg i))
  · simp only [if_neg h, add_zero, zero_mul]

/-- The logistic function is a real between zero and one. -/
theorem logistic_real (z : EReal) : ∃ r : ℝ, 0 ≤ r ∧ Ideal.div 1 (1 + Ideal.exp (-z)) = r := by
  induction z using EReal.rec with
  | bot =>
    refine ⟨0, le_refl _, ?_⟩
    show Ideal.div 1 (1 + ⊤) = _
    rw [EReal.add_top_of_ne_bot (by decide)]
    show (if (⊤ : EReal) = 0 then _ else _) = _
    rw [if_neg (by decide), EReal.inv_top, mul_zero]
    rfl
  | top =>
    refine ⟨1, zero_le_one, ?_⟩
    show Ideal.div 1 (1 + 0) = _
    rw [add_zero]
    show (if (1 : EReal) = 0 then _ else _) = _
    rw [if_neg one_ne_zero, inv_one, mul_one]
    rfl
  | coe r =>
    have hp : (0 : ℝ) < 1 + Real.exp (-r) := by have := Real.exp_pos (-r); linarith
    refine ⟨(1 + Real.exp (-r))⁻¹, (inv_pos.mpr hp).le, ?_⟩
    show (if (1 : EReal) + ((Real.exp (-r) : ℝ) : EReal) = 0 then _ else _) = _
    have e : (1 : EReal) + ((Real.exp (-r) : ℝ) : EReal) = ((1 + Real.exp (-r) : ℝ) : EReal) := (EReal.coe_add 1 _).symm
    rw [e, if_neg (fun h => hp.ne' (EReal.coe_eq_zero.mp h)), one_mul, EReal.coe_inv, ← e]
    rfl

/-- A gate's logarithm is below infinity where its lower bound is. -/
theorem log_gate_ne_top {lb : EReal} (h : lb < ⊤) (z : EReal) :
    Ideal.log (lb + (1 - lb) * Ideal.div 1 (1 + Ideal.exp (-z))) ≠ ⊤ := by
  obtain ⟨r, h0, hr⟩ := logistic_real z
  rw [hr]
  induction lb using EReal.rec with
  | bot => rw [EReal.bot_add]; exact bot_ne_top
  | top => exact absurd h (lt_irrefl _)
  | coe l =>
    rw [show (1 : EReal) = ((1 : ℝ) : EReal) from rfl, ← EReal.coe_sub, ← EReal.coe_mul, ← EReal.coe_add]
    show (if _ ≤ (0 : ℝ) then (⊥ : EReal) else _) ≠ ⊤
    split
    · exact bot_ne_top
    · exact EReal.coe_ne_top _

end Cert.Scale

end
-- ==== Proof.TileRead.lean ====
/- One grid point's vocabulary read at an index, over the extended reals: each of its arrays is the chunk's quantity of the same name. -/
module

public import proofs.«01_k».proof.Proof.Tile
public import proofs.«01_k».proof.Proof.Chunk
public import proofs.«01_k».proof.Proof.Scale
public import Idealize.ShloMosaic.Lib.Pointwise
public import Idealize.ShloMosaic.Lib.WordCmp

@[expose] public section

set_option maxRecDepth 65536

noncomputable section

namespace Cert.TileRead

open Idealize.ShloMosaic
open Cert.KernelIdeal Cert.KernelIdeal.Gen Cert.Tile

/-- Row `r` of chunk `ci` of a tile. -/
def rowIn (ci : Fin 4) (r : Fin 64) : Fin 256 := ⟨64 * ci.val + r.val, by omega⟩

theorem row_apply (x : FVec Ideal S64x1024 .f32) (r : Fin 64) (u : Fin 1) (c : Fin 1024) : row x r (ix2 u c) = x (ix2 r c) :=
  congrArg x (ix2_eq_valueIdx r c).symm

theorem rows_apply (x : Vec Ideal S256x1024 .f32) (ci : Fin 4) (r : Fin 64) (c : Fin 1024) : rows x ci (ix2 r c) = x (ix2 (rowIn ci r) c) := by
  unfold rows View.ld
  refine congrArg x (funext fun a => Fin.ext ((Rect.idx_unit_val _ _ (rows_in ci) _ a).trans ?_))
  match a with
  | 0 => rfl
  | 1 => exact Nat.zero_add _

theorem bound_apply (x : Vec Ideal S2x1024 .f32) (u : Fin 1) (c : Fin 1024) : bound x (ix2 u c) = x (ix2 0 c) := by
  unfold bound View.ld
  refine congrArg x (funext fun a => Fin.ext ((Rect.idx_unit_val _ _ inb_S2x1024_S1x1024_0_0 _ a).trans ?_))
  match a with
  | 0 => exact (Nat.zero_add _).trans (Nat.lt_one_iff.mp u.isLt)
  | 1 => exact Nat.zero_add _

theorem cols_apply {t : FTy} (x : FVec Ideal S64x1024 t) (h : Fin 8) (r : Fin 64) (k : Fin 128) :
    cols x h (ix2 r k) = x (ix2 r (Chunk.colOf h k)) := by
  unfold cols
  pointwise []
  rfl

theorem cols1_apply (x : FVec Ideal S1x1024 .f32) (h : Fin 8) (u : Fin 1) (k : Fin 128) :
    cols1 x h (ix2 u k) = x (ix2 u (Chunk.colOf h k)) := by
  unfold cols1
  pointwise []
  rw [Subsingleton.elim u 0]
  rfl

theorem spread_apply (x : FVec Ideal S1x1024 .f32) (r : Fin 64) (c : Fin 1024) : spread x (ix2 r c) = x (ix2 0 c) := by
  pointwise [spread]

theorem sigm_apply (x : FVec Ideal S64x1024 .f32) (r : Fin 64) (c : Fin 1024) : sigm x (ix2 r c) = Chunk.sg (x (ix2 r c)) := by
  pointwise [sigm, zero, one]
  rw [zero_sub]
  rfl

theorem gate_apply (lb : FVec Ideal S1x1024 .f32) (x : FVec Ideal S64x1024 .f32) (r : Fin 64) (c : Fin 1024) :
    gate lb x (ix2 r c) = Chunk.gate (lb (ix2 0 c)) (x (ix2 r c)) := by
  pointwise [gate, spread_apply, sigm_apply, one]
  rfl

theorem sge_apply (r s : Fin 64) : IntOp.cmpi .sge (BitVec.ofNat 32 r.val) (BitVec.ofNat 32 s.val) = BitVec.ofBool (decide (s ≤ r)) :=
  WordCmp.cmpi_sge_ofNat (by have := r.isLt; omega) (by have := s.isLt; omega)

theorem sle_apply (r s : Fin 64) : IntOp.cmpi .sle (BitVec.ofNat 32 r.val) (BitVec.ofNat 32 s.val) = BitVec.ofBool (decide (r ≤ s)) :=
  WordCmp.cmpi_sle_ofNat (by have := r.isLt; omega) (by have := s.isLt; omega)

/-- A selection by a comparison. -/
theorem select_ofBool {α : Type} (c : Prop) [Decidable c] (a b : α) : Scalar.select (BitVec.ofBool (decide c)) a b = if c then a else b := by
  by_cases h : c <;> simp [Scalar.select, h]

theorem tri_apply (r s : Fin 64) : tri (F := Ideal) (ix2 r s) = if s ≤ r then 1 else 0 := by
  pointwise [tri, sge_apply]
  by_cases h : s ≤ r
  · simp only [decide_eq_true h, if_pos h]
    show (((BitVec.setWidth 32 (BitVec.ofBool true)).toInt : ℝ) : EReal) = 1
    rw [show (BitVec.setWidth 32 (BitVec.ofBool true)).toInt = 1 by decide]
    norm_num
  · simp only [decide_eq_false h, if_neg h]
    show (((BitVec.setWidth 32 (BitVec.ofBool false)).toInt : ℝ) : EReal) = 0
    rw [show (BitVec.setWidth 32 (BitVec.ofBool false)).toInt = 0 by decide]
    norm_num

theorem cumOf_apply (x : FVec Ideal S64x1024 .f32) (r : Fin 64) (c : Fin 1024) :
    cumOf x (ix2 r c) = (∑ s : Fin 64, if s ≤ r then x (ix2 s c) else 0) + ∑ s : Fin 64, if s ≤ r then x (ix2 s c) - x (ix2 s c) else 0 := by
  pointwise [cumOf, tri_apply]
  simp only [ite_mul, one_mul, zero_mul]

theorem logGate_apply (x : FVec Ideal S64x1024 .f32) (r : Fin 64) (c : Fin 1024) :
    logGate x (ix2 r c) = Ideal.log (x (ix2 r c)) * (Scale.L : EReal) := by
  pointwise [logGate]
  rw [IdealRules.named_const.ideal_named_scalar κ "log2e" _ (Scale.L : EReal) rfl]

theorem lower_apply (x : FVec Ideal S64x64 .f32) (r s : Fin 64) : lower x (ix2 r s) = if s ≤ r then x (ix2 r s) else 0 := by
  pointwise [lower, zero, sge_apply, select_ofBool]

theorem upper_apply (x : FVec Ideal S64x64 .f32) (r s : Fin 64) : upper x (ix2 r s) = if r ≤ s then x (ix2 r s) else 0 := by
  pointwise [upper, zero, sle_apply, select_ofBool]

theorem scores_apply (a b : FVec Ideal S64x128 .bf16) (r s : Fin 64) : scores a b (ix2 r s) = ∑ k : Fin 128, a (ix2 r k) * b (ix2 s k) := by
  pointwise [scores]

theorem apply_apply (a : FVec Ideal S64x64 .bf16) (b : FVec Ideal S64x128 .bf16) (r : Fin 64) (k : Fin 128) :
    Tile.apply a b (ix2 r k) = ∑ s : Fin 64, a (ix2 r s) * b (ix2 s k) := by
  pointwise [apply]

theorem outer_apply (a b : FVec Ideal S64x128 .bf16) (d k : Fin 128) : outer a b (ix2 d k) = ∑ r : Fin 64, a (ix2 r d) * b (ix2 r k) := by
  pointwise [outer]

theorem through_apply (a : FVec Ideal S64x128 .bf16) (b : FVec Ideal S128x128 .bf16) (r : Fin 64) (d : Fin 128) :
    through a b (ix2 r d) = ∑ k : Fin 128, a (ix2 r k) * b (ix2 d k) := by
  pointwise [through]

theorem across_apply (a : FVec Ideal S64x128 .bf16) (b : FVec Ideal S128x128 .bf16) (r : Fin 64) (k : Fin 128) :
    across a b (ix2 r k) = ∑ d : Fin 128, a (ix2 r d) * b (ix2 d k) := by
  pointwise [across]

theorem saved_apply (x : Vec Ideal S4x8x128x128 .f32) (ci : Fin 4) (h : Fin 8) (d k : Fin 128) : saved x ci h (ix2 d k) = x (ix4 ci h d k) := by
  have key : ∀ w : Vec Ideal S1x1x128x128 .f32, shapeCast S128x128 w shapeCasts_S1x1x128x128_S128x128 (ix2 d k) = w (ix4 0 0 d k) := by
    intro w; pointwise []
  unfold saved
  refine (key _).trans ?_
  unfold View.ld
  refine congrArg x (funext fun a => Fin.ext ((Rect.idx_unit_val _ _ (saved_in ci h) _ a).trans ?_))
  match a with
  | 0 => rfl
  | 1 => rfl
  | 2 => exact Nat.zero_add _
  | 3 => exact Nat.zero_add _

theorem held_apply (s : Vec Ideal S8x128x128 .f32) (h : Fin 8) (d k : Fin 128) : held s h (ix2 d k) = s (ix3 h d k) := by
  have key : ∀ w : Vec Ideal S1x128x128 .f32, shapeCast S128x128 w shapeCasts_S1x128x128_S128x128 (ix2 d k) = w (ix3 0 d k) := by
    intro w; pointwise []
  unfold held
  refine (key _).trans ?_
  unfold View.ld
  refine congrArg s (funext fun a => Fin.ext ((Rect.idx_unit_val _ _ (head_in h) _ a).trans ?_))
  match a with
  | 0 => rfl
  | 1 => exact Nat.zero_add _
  | 2 => exact Nat.zero_add _

theorem cleared_apply (h : Fin 8) (d k : Fin 128) : cleared (F := Ideal) (ix3 h d k) = 0 := by
  pointwise [cleared, zero]

/-! ## A chunk of a tile -/

variable (x0 x1 x2 : Vec Ideal S256x1024 .f32) (x3 : Vec Ideal S2x1024 .f32) (x4 : Vec Ideal S256x1024 .f32) (x5 : Vec Ideal S4x8x128x128 .f32)
  (ci : Fin 4) (h : Fin 8)

/-- Chunk `ci` of head `h` of the tile. -/
def data : Chunk.Data where
  q r k := x2 (ix2 (rowIn ci r) (Chunk.colOf h k)) * Chunk.sg (x2 (ix2 (rowIn ci r) (Chunk.colOf h k)))
  k r k := 1 - Chunk.gate (x3 (ix2 0 (Chunk.colOf h k))) (x0 (ix2 (rowIn ci r) (Chunk.colOf h k)))
  v r d := x1 (ix2 (rowIn ci r) (Chunk.colOf h d))
  g r k := Ideal.log (Chunk.gate (x3 (ix2 0 (Chunk.colOf h k))) (x0 (ix2 (rowIn ci r) (Chunk.colOf h k))))
  o r d := x4 (ix2 (rowIn ci r) (Chunk.colOf h d))
  s d k := x5 (ix4 ci h d k)

theorem gateAt_apply (r : Fin 64) (c : Fin 1024) : gateAt x0 x3 ci (ix2 r c) = Chunk.gate (x3 (ix2 0 c)) (x0 (ix2 (rowIn ci r) c)) := by
  unfold gateAt
  rw [gate_apply, bound_apply, rows_apply]

theorem query_apply (r : Fin 64) (k : Fin 128) : query x2 ci (ix2 r (Chunk.colOf h k)) = (data x0 x1 x2 x3 x4 x5 ci h).q r k := by
  pointwise [query, stored, sigm_apply, rows_apply]
  rfl

theorem key_apply (r : Fin 64) (k : Fin 128) : key x0 x3 ci (ix2 r (Chunk.colOf h k)) = (data x0 x1 x2 x3 x4 x5 ci h).k r k := by
  pointwise [key, stored, gateAt_apply]
  rfl

variable (hb : ∀ c : Fin 1024, x3 (ix2 0 c) < ⊤)
include hb

theorem cum_apply (r : Fin 64) (k : Fin 128) :
    cum x0 x3 ci (ix2 r (Chunk.colOf h k)) = Chunk.cum (data x0 x1 x2 x3 x4 x5 ci h) r k * (Scale.L : EReal) := by
  unfold cum stored
  rw [shapeCast_id, cumOf_apply]
  simp only [logGate_apply, gateAt_apply]
  exact Scale.sum_parts (fun s => s ≤ r) (fun s => (data x0 x1 x2 x3 x4 x5 ci h).g s k) fun s => Scale.log_gate_ne_top (hb _) _

theorem eh_apply (r : Fin 64) (k : Fin 128) :
    eh x0 x3 ci (ix2 r (Chunk.colOf h k)) = Ideal.exp (Chunk.cum (data x0 x1 x2 x3 x4 x5 ci h) r k) := by
  pointwise [eh, cum_apply x0 x1 x2 x3 x4 x5 ci h hb]
  exact Scale.exp2_scale _

theorem et_apply (r : Fin 64) (k : Fin 128) :
    et x0 x3 ci (ix2 r (Chunk.colOf h k))
      = Ideal.exp (Chunk.cum (data x0 x1 x2 x3 x4 x5 ci h) r k - Chunk.cum (data x0 x1 x2 x3 x4 x5 ci h) 31 k) := by
  pointwise [et, mid, spread_apply, row_apply, cum_apply x0 x1 x2 x3 x4 x5 ci h hb]
  rw [← Scale.sub_scale]
  exact Scale.exp2_scale _

theorem ekt_apply (r : Fin 64) (k : Fin 128) :
    ekt x0 x3 ci (ix2 r (Chunk.colOf h k))
      = Ideal.exp (Chunk.cum (data x0 x1 x2 x3 x4 x5 ci h) 31 k - Chunk.cum (data x0 x1 x2 x3 x4 x5 ci h) r k) := by
  pointwise [ekt, mid, spread_apply, row_apply, cum_apply x0 x1 x2 x3 x4 x5 ci h hb]
  rw [← Scale.sub_scale]
  exact Scale.exp2_scale _

theorem ekb_apply (r : Fin 64) (k : Fin 128) :
    ekb x0 x3 ci (ix2 r (Chunk.colOf h k))
      = Ideal.exp (Chunk.cum (data x0 x1 x2 x3 x4 x5 ci h) 63 k - Chunk.cum (data x0 x1 x2 x3 x4 x5 ci h) r k) := by
  pointwise [ekb, last, spread_apply, row_apply, cum_apply x0 x1 x2 x3 x4 x5 ci h hb]
  rw [← Scale.sub_scale]
  exact Scale.exp2_scale _

theorem el_apply (k : Fin 128) :
    el x0 x3 ci (ix2 0 (Chunk.colOf h k)) = Ideal.exp (Chunk.cum (data x0 x1 x2 x3 x4 x5 ci h) 63 k) := by
  pointwise [el, last, row_apply, cum_apply x0 x1 x2 x3 x4 x5 ci h hb]
  exact Scale.exp2_scale _

theorem qh_apply (r : Fin 64) (k : Fin 128) : qh x0 x2 x3 ci (ix2 r (Chunk.colOf h k)) = Chunk.qh (data x0 x1 x2 x3 x4 x5 ci h) r k := by
  pointwise [qh, query_apply x0 x1 x2 x3 x4 x5, eh_apply x0 x1 x2 x3 x4 x5 ci h hb]
  rfl

theorem qt_apply (r : Fin 64) (k : Fin 128) : qt x0 x2 x3 ci (ix2 r (Chunk.colOf h k)) = Chunk.qt (data x0 x1 x2 x3 x4 x5 ci h) r k := by
  pointwise [qt, query_apply x0 x1 x2 x3 x4 x5, et_apply x0 x1 x2 x3 x4 x5 ci h hb]
  rfl

theorem kt_apply (r : Fin 64) (k : Fin 128) : kt x0 x3 ci (ix2 r (Chunk.colOf h k)) = Chunk.kt (data x0 x1 x2 x3 x4 x5 ci h) r k := by
  pointwise [kt, key_apply x0 x1 x2 x3 x4 x5, ekt_apply x0 x1 x2 x3 x4 x5 ci h hb]
  rfl

theorem kb_apply (r : Fin 64) (k : Fin 128) : kb x0 x3 ci (ix2 r (Chunk.colOf h k)) = Chunk.kb (data x0 x1 x2 x3 x4 x5 ci h) r k := by
  pointwise [kb, key_apply x0 x1 x2 x3 x4 x5, ekb_apply x0 x1 x2 x3 x4 x5 ci h hb]
  rfl

omit hb in
theorem narrow_apply (x : Vec Ideal S256x1024 .f32) (ci : Fin 4) (r : Fin 64) (c : Fin 1024) : narrow x ci (ix2 r c) = x (ix2 (rowIn ci r) c) := by
  pointwise [narrow, rows_apply]

/-- The value gradients of the chunk. -/
theorem dvOf_apply (ds : FVec Ideal S128x128 .f32) (r : Fin 64) (d : Fin 128) :
    dvOf x0 x2 x3 x4 ci h ds (ix2 r d) = Chunk.dv (data x0 x1 x2 x3 x4 x5 ci h) (fun d k => ds (ix2 d k)) r d := by
  pointwise [dvOf, apply_apply, upper_apply, scores_apply, through_apply, cols_apply, narrow_apply,
    kt_apply x0 x1 x2 x3 x4 x5 ci h hb, qt_apply x0 x1 x2 x3 x4 x5 ci h hb, kb_apply x0 x1 x2 x3 x4 x5 ci h hb]
  rfl

/-- The query gradients of the chunk. -/
theorem dqOf_apply (r : Fin 64) (k : Fin 128) :
    dqOf x0 x1 x3 x4 x5 ci h (ix2 r k) = Chunk.dq (data x0 x1 x2 x3 x4 x5 ci h) r k := by
  pointwise [dqOf, apply_apply, lower_apply, scores_apply, across_apply, cols_apply, narrow_apply, saved_apply,
    kt_apply x0 x1 x2 x3 x4 x5 ci h hb, eh_apply x0 x1 x2 x3 x4 x5 ci h hb, et_apply x0 x1 x2 x3 x4 x5 ci h hb]
  rfl

/-- The adjoint state in front of the chunk. -/
theorem advance_apply (ds : FVec Ideal S128x128 .f32) (d k : Fin 128) :
    advance x0 x2 x3 x4 ci h ds (ix2 d k) = Chunk.next (data x0 x1 x2 x3 x4 x5 ci h) (fun d k => ds (ix2 d k)) d k := by
  pointwise [advance, outer_apply, cols_apply, cols1_apply, narrow_apply, el_apply x0 x1 x2 x3 x4 x5 ci h hb,
    qh_apply x0 x1 x2 x3 x4 x5 ci h hb]
  rfl

end Cert.TileRead

end
-- ==== Proof.Blocks.lean ====
/- The blocks of a grid point read in the arrays: point `t` takes tile `tile t` of the rows, the latent tiles backwards and then the
   context's, and its four chunks are those of steps `4 t` to `4 t + 3`. -/
module

public import proofs.«01_k».proof.Proof.Gen.KernelIdeal.Value
public import proofs.«01_k».proof.Proof.TileRead

@[expose] public section

set_option maxRecDepth 65536

noncomputable section

namespace Cert.Blocks

open Idealize.ShloMosaic Idealize.ShloMosaic.TcCoe
open Cert.KernelIdeal Cert.KernelIdeal.Gen Cert.KernelIdeal.Value
open Cert.Chunk (chunk chunkAt rowOf colOf partOf)

variable (m : (ℓ : Loc nD τ sig) → Buf (Elt Ideal) ℓ) (c : Dev nD)

theorem lt33 (t : Fin cfg0.N) : t.val < 33 := lt_of_lt_of_eq t.isLt (show cfg0.N = 33 from N_0)

/-- The tile of a point. -/
def tile (t : Fin cfg0.N) : Fin 33 := ⟨(64 - t.val) % 33, Nat.mod_lt _ (by decide)⟩

/-- A row of a point's tile. -/
def rowIn (t : Fin cfg0.N) (i : Fin 256) : Fin 8448 := ⟨256 * (tile t).val + i.val, by have := (tile t).isLt; omega⟩

theorem index0 : ∀ t : Fin cfg0.N, win0_0.index t (0 : Fin 2) = (tile t).val ∧ win0_0.index t (1 : Fin 2) = 0 :=
  (by decide +kernel : ∀ t : Fin grid0.N, _)
theorem index1 : ∀ t : Fin cfg0.N, win0_1.index t (0 : Fin 2) = (tile t).val ∧ win0_1.index t (1 : Fin 2) = 2 :=
  (by decide +kernel : ∀ t : Fin grid0.N, _)
theorem index2 : ∀ t : Fin cfg0.N, win0_2.index t (0 : Fin 2) = (tile t).val ∧ win0_2.index t (1 : Fin 2) = 3 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = (tile t).val ∧ win0_4.index t (1 : Fin 2) = 0 :=
  (by decide +kernel : ∀ t : Fin grid0.N, _)
theorem index5 : ∀ t : Fin cfg0.N, win0_5.index t (0 : Fin 4) = (tile t).val ∧ win0_5.index t (1 : Fin 4) = 0
    ∧ win0_5.index t (2 : Fin 4) = 0 ∧ win0_5.index t (3 : Fin 4) = 0 :=
  (by decide +kernel : ∀ t : Fin grid0.N, _)
theorem index7 : ∀ t : Fin cfg0.N, win0_7.index t (0 : Fin 2) = (tile t).val ∧ win0_7.index t (1 : Fin 2) = 0 :=
  (by decide +kernel : ∀ t : Fin grid0.N, _)
theorem index8 : ∀ t : Fin cfg0.N, win0_8.index t (0 : Fin 2) = (tile t).val ∧ win0_8.index t (1 : Fin 2) = 0 :=
  (by decide +kernel : ∀ t : Fin grid0.N, _)

section Emb

variable (t : Fin cfg0.N) (i : Fin 256) (k : Fin 1024)

theorem emb0 : ((cfg0.win 0).blk t).view.emb (ix2 i k) = ix2 (rowIn t i) (⟨k.val, by omega⟩ : Fin 5120) := by
  obtain ⟨e0, e1⟩ := index0 t
  funext a; apply Fin.ext
  match a with
  | 0 => show win0_0.index t (0 : Fin 2) * 256 + 1 * i.val = 256 * (tile t).val + i.val; omega
  | 1 => show win0_0.index t (1 : Fin 2) * 1024 + 1 * k.val = k.val; omega

theorem emb1 : ((cfg0.win 1).blk t).view.emb (ix2 i k) = ix2 (rowIn t i) (⟨2048 + k.val, by omega⟩ : Fin 5120) := by
  obtain ⟨e0, e1⟩ := index1 t
  funext a; apply Fin.ext
  match a with
  | 0 => show win0_1.index t (0 : Fin 2) * 256 + 1 * i.val = 256 * (tile t).val + i.val; omega
  | 1 => show win0_1.index t (1 : Fin 2) * 1024 + 1 * k.val = 2048 + k.val; omega

theorem emb2 : ((cfg0.win 2).blk t).view.emb (ix2 i k) = ix2 (rowIn t i) (⟨3072 + k.val, by omega⟩ : Fin 5120) := by
  obtain ⟨e0, e1⟩ := index2 t
  funext a; apply Fin.ext
  match a with
  | 0 => show win0_2.index t (0 : Fin 2) * 256 + 1 * i.val = 256 * (tile t).val + i.val; omega
  | 1 => show win0_2.index t (1 : Fin 2) * 1024 + 1 * k.val = 3072 + k.val; omega

theorem emb3 (u : Fin 2) : ((cfg0.win 3).blk t).view.emb (ix2 u k) = ix2 u k := by
  obtain ⟨e0, e1⟩ := index3 t
  funext a; apply Fin.ext
  match a with
  | 0 => show win0_3.index t (0 : Fin 2) * 2 + 1 * u.val = u.val; omega
  | 1 => show win0_3.index t (1 : Fin 2) * 1024 + 1 * k.val = k.val; omega

theorem emb4 : ((cfg0.win 4).blk t).view.emb (ix2 i k) = ix2 (rowIn t i) k := by
  obtain ⟨e0, e1⟩ := index4 t
  funext a; apply Fin.ext
  match a with
  | 0 => show win0_4.index t (0 : Fin 2) * 256 + 1 * i.val = 256 * (tile t).val + i.val; omega
  | 1 => show win0_4.index t (1 : Fin 2) * 1024 + 1 * k.val = k.val; omega

theorem emb5 (ci : Fin 4) (h : Fin 8) (d k : Fin 128) : ((cfg0.win 5).blk t).view.emb (ix4 ci h d k)
    = ix4 (⟨4 * (tile t).val + ci.val, by have := (tile t).isLt; omega⟩ : Fin 132) h d k := by
  obtain ⟨e0, e1, e2, e3⟩ := index5 t
  funext a; apply Fin.ext
  match a with
  | 0 => show win0_5.index t (0 : Fin 4) * 4 + 1 * ci.val = 4 * (tile t).val + ci.val; omega
  | 1 => show win0_5.index t (1 : Fin 4) * 8 + 1 * h.val = h.val; omega
  | 2 => show win0_5.index t (2 : Fin 4) * 128 + 1 * d.val = d.val; omega
  | 3 => show win0_5.index t (3 : Fin 4) * 128 + 1 * k.val = k.val; omega

theorem emb7 : ((cfg0.win 7).blk t).view.emb (ix2 i k) = ix2 (rowIn t i) k := by
  obtain ⟨e0, e1⟩ := index7 t
  funext a; apply Fin.ext
  match a with
  | 0 => show win0_7.index t (0 : Fin 2) * 256 + 1 * i.val = 256 * (tile t).val + i.val; omega
  | 1 => show win0_7.index t (1 : Fin 2) * 1024 + 1 * k.val = k.val; omega

theorem emb8 : ((cfg0.win 8).blk t).view.emb (ix2 i k) = ix2 (rowIn t i) k := by
  obtain ⟨e0, e1⟩ := index8 t
  funext a; apply Fin.ext
  match a with
  | 0 => show win0_8.index t (0 : Fin 2) * 256 + 1 * i.val = 256 * (tile t).val + i.val; omega
  | 1 => show win0_8.index t (1 : Fin 2) * 1024 + 1 * k.val = k.val; omega

end Emb

/-- The four arguments as launched. -/
abbrev argP : (⟨2, ![8448, 5120]⟩ : Shape).Idx → EReal := m ((c : Thread nD τ).loc main_arg0)
abbrev argB : (⟨2, ![2, 1024]⟩ : Shape).Idx → EReal := m ((c : Thread nD τ).loc main_arg1)
abbrev argO : (⟨2, ![8448, 1024]⟩ : Shape).Idx → EReal := m ((c : Thread nD τ).loc main_arg2)
abbrev argS : (⟨4, ![132, 8, 128, 128]⟩ : Shape).Idx → EReal := m ((c : Thread nD τ).loc main_arg3)

section Read

variable (t : Fin cfg0.N) (i : Fin 256) (k : Fin 1024)

theorem iblk0_apply : iblk m c 0 t (ix2 i k) = argP m c (ix2 (rowIn t i) (⟨k.val, by omega⟩ : Fin 5120)) := by
  show V m c main_arg0 (((cfg0.win 0).blk t).view.emb (ix2 i k)) = _
  rw [emb0, V_main_arg0]
theorem iblk1_apply : iblk m c 1 t (ix2 i k) = argP m c (ix2 (rowIn t i) (⟨2048 + k.val, by omega⟩ : Fin 5120)) := by
  show V m c main_arg0 (((cfg0.win 1).blk t).view.emb (ix2 i k)) = _
  rw [emb1, V_main_arg0]
theorem iblk2_apply : iblk m c 2 t (ix2 i k) = argP m c (ix2 (rowIn t i) (⟨3072 + k.val, by omega⟩ : Fin 5120)) := by
  show V m c main_arg0 (((cfg0.win 2).blk t).view.emb (ix2 i k)) = _
  rw [emb2, V_main_arg0]
theorem iblk3_apply (u : Fin 2) : iblk m c 3 t (ix2 u k) = argB m c (ix2 u k) := by
  show V m c main_arg1 (((cfg0.win 3).blk t).view.emb (ix2 u k)) = _
  rw [emb3, V_main_arg1]
theorem iblk4_apply : iblk m c 4 t (ix2 i k) = argO m c (ix2 (rowIn t i) k) := by
  show V m c main_arg2 (((cfg0.win 4).blk t).view.emb (ix2 i k)) = _
  rw [emb4, V_main_arg2]
theorem iblk5_apply (ci : Fin 4) (h : Fin 8) (d k : Fin 128) :
    iblk m c 5 t (ix4 ci h d k) = argS m c (ix4 (⟨4 * (tile t).val + ci.val, by have := (tile t).isLt; omega⟩ : Fin 132) h d k) := by
  show V m c main_arg3 (((cfg0.win 5).blk t).view.emb (ix4 ci h d k)) = _
  rw [emb5, V_main_arg3]

/-- The chunk `ci` of a point's tile is the one of step `4 t + (3 - ci)`. -/
theorem chunkAt_point (ci : Fin 4) : (chunkAt (4 * t.val + (3 - ci.val))).val = 4 * (tile t).val + ci.val := by
  have ht := lt33 t
  show (if 4 * t.val + (3 - ci.val) < 128 then 127 - (4 * t.val + (3 - ci.val)) else (259 - (4 * t.val + (3 - ci.val))) % 132)
    = 4 * ((64 - t.val) % 33) + ci.val
  split <;> omega

theorem rowIn_eq (ci : Fin 4) (r : Fin 64) : rowIn t (TileRead.rowIn ci r) = rowOf (chunkAt (4 * t.val + (3 - ci.val))) r := by
  refine Fin.ext ?_
  show 256 * (tile t).val + (64 * ci.val + r.val) = 64 * (chunkAt (4 * t.val + (3 - ci.val))).val + r.val
  rw [chunkAt_point]
  omega

/-- The data of a point's chunk. -/
theorem data_eq (ci : Fin 4) (h : Fin 8) :
    TileRead.data (iblk m c 0 t) (iblk m c 1 t) (iblk m c 2 t) (iblk m c 3 t) (iblk m c 4 t) (iblk m c 5 t) ci h
      = chunk (argP m c) (argB m c) (argO m c) (argS m c) (chunkAt (4 * t.val + (3 - ci.val))) h := by
  have hM : (⟨4 * (tile t).val + ci.val, by have := (tile t).isLt; omega⟩ : Fin 132) = chunkAt (4 * t.val + (3 - ci.val)) :=
    Fin.ext (chunkAt_point t ci).symm
  have hz (k : Fin 128) : (⟨(colOf h k).val, by omega⟩ : Fin 5120) = partOf 0 h k := Fin.ext (by show 128 * h.val + k.val = 1024 * 0 + (128 * h.val + k.val); omega)
  have hv (k : Fin 128) : (⟨2048 + (colOf h k).val, by omega⟩ : Fin 5120) = partOf 2 h k := rfl
  have hq (k : Fin 128) : (⟨3072 + (colOf h k).val, by omega⟩ : Fin 5120) = partOf 3 h k := rfl
  unfold TileRead.data chunk
  simp only [iblk0_apply, iblk1_apply, iblk2_apply, iblk3_apply, iblk4_apply, iblk5_apply, rowIn_eq, hM, hz, hv, hq]

end Read

end Cert.Blocks

end
-- ==== Proof.TileA.lean ====
/- What the first grid point, which clears the adjoint state, stores: the tile of value gradients, the tile of query
   gradients, and the adjoint state it leaves. -/
module

public import proofs.«01_k».proof.Proof.Tile

@[expose] public section

set_option maxRecDepth 65536
set_option maxHeartbeats 2000000

noncomputable section

namespace Cert.TileA

open Idealize.ShloMosaic Idealize.ShloMosaic.TcCoe Idealize.ShloMosaic.ValueIdx
open Cert.KernelIdeal Cert.KernelIdeal.Gen Cert.Tile

variable {F : FTy → Type} [FloatOps F] [Named F]
variable (c : Dev nD) (i : grid0.Coords) (arg1 : Memref sig .tc .vmem S256x1024 .f32) (harg1 : arg1.IsWhole) (arg2 : Memref sig .tc .vmem S256x1024
  .f32) (harg2 : arg2.IsWhole) (arg3 : Memref sig .tc .vmem S256x1024 .f32) (harg3 : arg3.IsWhole) (arg4 : Memref sig .tc .vmem S2x1024 .f32)
  (harg4 : arg4.IsWhole) (arg5 : Memref sig .tc .vmem S256x1024 .f32) (harg5 : arg5.IsWhole) (arg6 : Memref sig .tc .vmem S4x8x128x128 .f32)
  (harg6 : arg6.IsWhole) (arg7 : Memref sig .tc .vmem S256x1024 .bf16) (harg7 : arg7.IsWhole) (arg8 : Memref sig .tc .vmem S256x1024 .f32)
  (harg8 : arg8.IsWhole) (arg9 : Memref sig .tc .vmem S256x1024 .f32) (harg9 : arg9.IsWhole) (arg10 : Memref sig .tc .vmem S8x1024 .f32)
  (harg10 : arg10.IsWhole) (arg11 : Memref sig .tc .vmem S8x128x128 .f32) (harg11 : arg11.IsWhole) (arg12 : Memref sig .tc .vmem S256x1024
  .f32) (harg12 : arg12.IsWhole) (arg13 : Memref sig .tc .vmem S256x1024 .f32) (harg13 : arg13.IsWhole) (arg14 : Memref sig .tc .vmem
  S256x1024 .f32) (harg14 : arg14.IsWhole) (arg15 : Memref sig .tc .vmem S256x1024 .f32) (harg15 : arg15.IsWhole) (arg16 : Memref sig .tc
  .vmem S256x1024 .f32) (harg16 : arg16.IsWhole) (arg17 : Memref sig .tc .vmem S256x1024 .f32) (harg17 : arg17.IsWhole) (arg18 : Memref sig
  .tc .vmem S256x1024 .f32) (harg18 : arg18.IsWhole) (arg19 : Memref sig .tc .vmem S8x1024 .f32) (harg19 : arg19.IsWhole) (hc0 : cond0_0 i)
  (x0 x1 x2 : Vec F S256x1024 .f32) (x3 : Vec F S2x1024 .f32) (x4 : Vec F S256x1024 .f32) (x5 : Vec F S4x8x128x128 .f32)

/-- The tile of value gradients. -/
theorem dv : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5
    = tileOf (dvPiece x0 x2 x3 x4 cleared) := by
  refine Eq.trans ?_ (canon_all _)
  unfold out0_A_7
  frame_open
  rw [View.read_writes_junk_eq_canon]
  simp (disch := decide) only [↓ View.readCov_skip, ↓ View.readCov_cons_toLoadRect, ↓ View.readCov_fill, ↓ readCov_row,
    View.readAt_eq_ld, Memref.IsWhole.read_unread]
  exact congrArg View.canon rfl

/-- The tile of query gradients. -/
theorem dq : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5
    = tileOf (dqPiece x0 x1 x3 x4 x5) := by
  refine Eq.trans ?_ (canon_reloaded arg15.view _)
  unfold out0_A_8
  frame_open
  rw [View.read_writes_junk_eq_canon]
  simp (disch := decide) only [↓ View.readCov_skip, ↓ View.readCov_cons_toLoadRect, ↓ View.readCov_fill, ↓ readCov_row,
    View.readAt_eq_ld, Memref.IsWhole.read_unread]
  exact congrArg View.canon rfl

/-- The adjoint state left behind. -/
theorem ds : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5
    = headsOf (dsEnd x0 x2 x3 x4 cleared) := by
  refine Eq.trans ?_ (canon_headPieces _ [⟨Rect.unit (s := S8x128x128) ![0, 0, 0] S8x128x128.size (by decide), cleared⟩])
  unfold sout0_A_0
  frame_open
  rw [View.read_writes_junk_eq_canon]
  simp (disch := decide) only [↓ View.readCov_skip, ↓ View.readCov_cons_toLoadRect, ↓ View.readCov_fill, ↓ readCov_row,
    View.readAt_eq_ld, Memref.IsWhole.read_unread]
  exact congrArg View.canon rfl

end Cert.TileA

end
-- ==== Proof.TileB.lean ====
/- What a later grid point, which takes up the adjoint state `xs0` from the point before, stores: the tile of value gradients, the tile of query
   gradients, and the adjoint state it leaves. -/
module

public import proofs.«01_k».proof.Proof.Tile

@[expose] public section

set_option maxRecDepth 65536
set_option maxHeartbeats 2000000

noncomputable section

namespace Cert.TileB

open Idealize.ShloMosaic Idealize.ShloMosaic.TcCoe Idealize.ShloMosaic.ValueIdx
open Cert.KernelIdeal Cert.KernelIdeal.Gen Cert.Tile

variable {F : FTy → Type} [FloatOps F] [Named F]
variable (c : Dev nD) (i : grid0.Coords) (arg1 : Memref sig .tc .vmem S256x1024 .f32) (harg1 : arg1.IsWhole) (arg2 : Memref sig .tc .vmem S256x1024
  .f32) (harg2 : arg2.IsWhole) (arg3 : Memref sig .tc .vmem S256x1024 .f32) (harg3 : arg3.IsWhole) (arg4 : Memref sig .tc .vmem S2x1024 .f32)
  (harg4 : arg4.IsWhole) (arg5 : Memref sig .tc .vmem S256x1024 .f32) (harg5 : arg5.IsWhole) (arg6 : Memref sig .tc .vmem S4x8x128x128 .f32)
  (harg6 : arg6.IsWhole) (arg7 : Memref sig .tc .vmem S256x1024 .bf16) (harg7 : arg7.IsWhole) (arg8 : Memref sig .tc .vmem S256x1024 .f32)
  (harg8 : arg8.IsWhole) (arg9 : Memref sig .tc .vmem S256x1024 .f32) (harg9 : arg9.IsWhole) (arg10 : Memref sig .tc .vmem S8x1024 .f32)
  (harg10 : arg10.IsWhole) (arg11 : Memref sig .tc .vmem S8x128x128 .f32) (harg11 : arg11.IsWhole) (arg12 : Memref sig .tc .vmem S256x1024
  .f32) (harg12 : arg12.IsWhole) (arg13 : Memref sig .tc .vmem S256x1024 .f32) (harg13 : arg13.IsWhole) (arg14 : Memref sig .tc .vmem
  S256x1024 .f32) (harg14 : arg14.IsWhole) (arg15 : Memref sig .tc .vmem S256x1024 .f32) (harg15 : arg15.IsWhole) (arg16 : Memref sig .tc
  .vmem S256x1024 .f32) (harg16 : arg16.IsWhole) (arg17 : Memref sig .tc .vmem S256x1024 .f32) (harg17 : arg17.IsWhole) (arg18 : Memref sig
  .tc .vmem S256x1024 .f32) (harg18 : arg18.IsWhole) (arg19 : Memref sig .tc .vmem S8x1024 .f32) (harg19 : arg19.IsWhole) (hc0 : ¬cond0_0 i)
  (x0 x1 x2 : Vec F S256x1024 .f32) (x3 : Vec F S2x1024 .f32) (x4 : Vec F S256x1024 .f32) (x5 : Vec F S4x8x128x128 .f32)
  (xo9 : Vec F S8x1024 .f32) (xs0 : Vec F S8x128x128 .f32)

/-- The tile of value gradients. -/
theorem dv : out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xo9 xs0
    = tileOf (dvPiece x0 x2 x3 x4 xs0) := by
  refine Eq.trans ?_ (canon_all _)
  unfold out0_B_7
  frame_open
  rw [View.read_writes_junk_eq_canon]
  simp (disch := decide) only [↓ View.readCov_skip, ↓ View.readCov_cons_toLoadRect, ↓ View.readCov_fill, ↓ readCov_row,
    View.readAt_eq_ld, Memref.IsWhole.read_unread]
  exact congrArg View.canon rfl

/-- The tile of query gradients. -/
theorem dq : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xo9 xs0
    = tileOf (dqPiece x0 x1 x3 x4 x5) := by
  refine Eq.trans ?_ (canon_reloaded arg15.view _)
  unfold out0_B_8
  frame_open
  rw [View.read_writes_junk_eq_canon]
  simp (disch := decide) only [↓ View.readCov_skip, ↓ View.readCov_cons_toLoadRect, ↓ View.readCov_fill, ↓ readCov_row,
    View.readAt_eq_ld, Memref.IsWhole.read_unread]
  exact congrArg View.canon rfl

/-- The adjoint state left behind. -/
theorem ds : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xo9 xs0
    = headsOf (dsEnd x0 x2 x3 x4 xs0) := by
  refine Eq.trans ?_ (canon_headPieces _ [])
  unfold sout0_B_0
  frame_open
  rw [View.read_writes_junk_eq_canon]
  simp (disch := decide) only [↓ View.readCov_skip, ↓ View.readCov_cons_toLoadRect, ↓ View.readCov_fill, ↓ readCov_row,
    View.readAt_eq_ld, Memref.IsWhole.read_unread]
  exact congrArg View.canon rfl

end Cert.TileB

end
-- ==== Proof.Whole.lean ====
/- An array over the rows and columns is the specification's as soon as it is at each chunk, row, head and column. -/
module

public import proofs.«01_k».proof.Proof.Chunk

@[expose] public section

noncomputable section

namespace Cert.Chunk

open Idealize.ShloMosaic

variable (p : (⟨2, ![8448, 5120]⟩ : Shape).Idx → EReal) (lb : (⟨2, ![2, 1024]⟩ : Shape).Idx → EReal)
  (o : (⟨2, ![8448, 1024]⟩ : Shape).Idx → EReal) (st : (⟨4, ![132, 8, 128, 128]⟩ : Shape).Idx → EReal)

/-- Every index is a row of a chunk and a column of a head. -/
theorem split_idx (y : (⟨2, ![8448, 1024]⟩ : Shape).Idx) :
    ix2 (rowOf ⟨(y 0).val / 64, Nat.div_lt_of_lt_mul (y 0).isLt⟩ ⟨(y 0).val % 64, Nat.mod_lt _ (by decide)⟩)
      (colOf ⟨(y 1).val / 128, Nat.div_lt_of_lt_mul (y 1).isLt⟩ ⟨(y 1).val % 128, Nat.mod_lt _ (by decide)⟩) = y := by
  funext a
  match a with
  | 0 => exact Fin.ext (Nat.div_add_mod (y 0).val 64)
  | 1 => exact Fin.ext (Nat.div_add_mod (y 1).val 128)

variable {p lb o st}

theorem eq_dvAll {f : (⟨2, ![8448, 1024]⟩ : Shape).Idx → EReal}
    (hf : ∀ M r h d, f (ix2 (rowOf M r) (colOf h d)) = dv (chunk p lb o st M h) (adjoint p lb o st h (stepOf M)) r d) :
    f = dvAll p lb o st :=
  funext fun y => (congrArg f (split_idx y).symm).trans (hf _ _ _ _)

theorem eq_dqAll {f : (⟨2, ![8448, 1024]⟩ : Shape).Idx → EReal}
    (hf : ∀ M r h k, f (ix2 (rowOf M r) (colOf h k)) = dq (chunk p lb o st M h) r k) : f = dqAll p lb o st :=
  funext fun y => (congrArg f (split_idx y).symm).trans (hf _ _ _ _)

theorem chunkAt_of_lt {n j : ℕ} (hj : j < 132) (hn : chunkAt n = chunkAt j) (h : n < 132) : n = j := by
  have e : (if n < 128 then 127 - n else (259 - n) % 132) = if j < 128 then 127 - j else (259 - j) % 132 := congrArg Fin.val hn
  split at e <;> split at e <;> omega

theorem stepOf_lt (M : Fin 132) : stepOf M < 132 := by
  unfold stepOf
  split <;> omega

end Cert.Chunk

end
-- ==== Proof.TileSweep.lean ====
/- A grid point as four steps of the specification. When its four chunks are those of steps `n` to `n + 3` (the last chunk first) and
   the state it starts with is the adjoint after `n` steps, it leaves the adjoint after `n + 4`, and its pieces are the specification's. -/
module

public import proofs.«01_k».proof.Proof.TileRead
public import proofs.«01_k».proof.Proof.Whole

@[expose] public section

set_option maxRecDepth 65536

noncomputable section

namespace Cert.TileSweep

open Idealize.ShloMosaic
open Cert.KernelIdeal Cert.KernelIdeal.Gen Cert.Tile
open Cert.Chunk (chunk chunkAt adjoint)

variable {x0 x1 x2 : Vec Ideal S256x1024 .f32} {x3 : Vec Ideal S2x1024 .f32} {x4 : Vec Ideal S256x1024 .f32} {x5 : Vec Ideal S4x8x128x128 .f32}
  {s : Vec Ideal S8x128x128 .f32} {h : Fin 8}
variable {p : (⟨2, ![8448, 5120]⟩ : Shape).Idx → EReal} {lb : (⟨2, ![2, 1024]⟩ : Shape).Idx → EReal}
  {o : (⟨2, ![8448, 1024]⟩ : Shape).Idx → EReal} {st : (⟨4, ![132, 8, 128, 128]⟩ : Shape).Idx → EReal} {n : ℕ}
variable (hb : ∀ c, x3 (ix2 0 c) < ⊤)
  (hd : ∀ ci : Fin 4, TileRead.data x0 x1 x2 x3 x4 x5 ci h = chunk p lb o st (chunkAt (n + (3 - ci.val))) h)
  (hs : ∀ d k, s (ix3 h d k) = adjoint p lb o st h n d k)
include hb hd

/-- One more chunk. -/
theorem advance_eq (ci : Fin 4) {ds : FVec Ideal S128x128 .f32} (e : (fun d k => ds (ix2 d k)) = adjoint p lb o st h (n + (3 - ci.val))) :
    (fun d k => advance x0 x2 x3 x4 ci h ds (ix2 d k)) = adjoint p lb o st h (n + (3 - ci.val) + 1) := by
  funext d k
  rw [TileRead.advance_apply x0 x1 x2 x3 x4 x5 ci h hb ds d k, e, hd ci]
  rfl

include hs

theorem ds3_eq : (fun d k => ds3 s h (ix2 d k)) = adjoint p lb o st h n :=
  funext fun d => funext fun k => (TileRead.held_apply s h d k).trans (hs d k)

theorem ds2_eq : (fun d k => ds2 x0 x2 x3 x4 s h (ix2 d k)) = adjoint p lb o st h (n + 1) := advance_eq hb hd 3 (ds3_eq hb hd hs)
theorem ds1_eq : (fun d k => ds1 x0 x2 x3 x4 s h (ix2 d k)) = adjoint p lb o st h (n + 2) := advance_eq hb hd 2 (ds2_eq hb hd hs)
theorem ds0_eq : (fun d k => ds0 x0 x2 x3 x4 s h (ix2 d k)) = adjoint p lb o st h (n + 3) := advance_eq hb hd 1 (ds1_eq hb hd hs)
theorem dsEnd_eq : (fun d k => dsEnd x0 x2 x3 x4 s h (ix2 d k)) = adjoint p lb o st h (n + 4) := advance_eq hb hd 0 (ds0_eq hb hd hs)

theorem dsAt_eq (ci : Fin 4) : (fun d k => dsAt x0 x2 x3 x4 s h ci (ix2 d k)) = adjoint p lb o st h (n + (3 - ci.val)) := by
  match ci with
  | 0 => exact ds0_eq hb hd hs
  | 1 => exact ds1_eq hb hd hs
  | 2 => exact ds2_eq hb hd hs
  | 3 => exact ds3_eq hb hd hs

/-- The state left behind, -/
theorem left_apply (d k : Fin 128) : headsOf (dsEnd x0 x2 x3 x4 s) (ix3 h d k) = adjoint p lb o st h (n + 4) d k :=
  congrFun (congrFun (dsEnd_eq hb hd hs) d) k

/-- a piece of the value gradients, -/
theorem dvPiece_apply (ci : Fin 4) (r : Fin 64) (d : Fin 128) : dvPiece x0 x2 x3 x4 s ci h (ix2 r d)
    = Chunk.dv (chunk p lb o st (chunkAt (n + (3 - ci.val))) h) (adjoint p lb o st h (n + (3 - ci.val))) r d := by
  unfold dvPiece
  rw [TileRead.dvOf_apply x0 x1 x2 x3 x4 x5 ci h hb, dsAt_eq hb hd hs ci, hd ci]

omit hs in
/-- a piece of the query gradients. -/
theorem dqPiece_apply (ci : Fin 4) (r : Fin 64) (k : Fin 128) :
    dqPiece x0 x1 x3 x4 x5 ci h (ix2 r k) = Chunk.dq (chunk p lb o st (chunkAt (n + (3 - ci.val))) h) r k := by
  unfold dqPiece
  rw [shapeCast_id, TileRead.dqOf_apply x0 x1 x2 x3 x4 x5 ci h hb, hd ci]

end Cert.TileSweep

end
-- ==== Proof.KernelValue.lean ====
/- The kernel's results. By induction on the grid points: the state carried after point `t` is the adjoint after `4 (t + 1)` steps, and
   what point `t` writes back is the specification's over its tile. -/
module

public import proofs.«01_k».proof.Proof.Blocks
public import proofs.«01_k».proof.Proof.TileA
public import proofs.«01_k».proof.Proof.TileB
public import proofs.«01_k».proof.Proof.TileSweep

@[expose] public section

set_option maxRecDepth 65536

noncomputable section

namespace Cert.KernelValue

open Idealize.ShloMosaic Idealize.ShloMosaic.TcCoe Idealize.SL.Sem
open Cert.KernelIdeal Cert.KernelIdeal.Gen Cert.KernelIdeal.Value Cert.Tile Cert.Blocks
open Cert.Chunk (chunk chunkAt rowOf colOf adjoint dvAll dqAll)

variable (m : (ℓ : Loc nD τ sig) → Buf (Elt Ideal) ℓ) (c : Dev nD)

/-- The bounds of the gates are below plus infinity. -/
def Below : Prop := ∀ k, argB m c (ix2 0 k) < ⊤

/-- The adjoint of the specification, of the arguments as launched. -/
abbrev adj (h : Fin 8) (n : ℕ) : Fin 128 → Fin 128 → EReal := adjoint (argP m c) (argB m c) (argO m c) (argS m c) h n

/-- The state a point starts with: nothing at the first point, what the point before left at the others. -/
def startsWith (t : Fin cfg0.N) : Vec Ideal S8x128x128 .f32 :=
  if t.val % 33 = 0 then cleared else (outsAt0 m c (t.val - 1) (Nat.lt_of_le_of_lt (Nat.sub_le _ _) t.isLt)).2.2.2.2

theorem left_eq (t : Fin cfg0.N) : (outsAt0 m c t.val t.isLt).2.2.2.2
    = headsOf (dsEnd (iblk m c 0 t) (iblk m c 2 t) (iblk m c 3 t) (iblk m c 4 t) (startsWith m c t)) := by
  unfold startsWith
  by_cases h0 : t.val % 33 = 0
  · rw [if_pos h0, outsAt0_A m c t h0]
    dsimp only
    exact TileA.ds ..
  · rw [if_neg h0, outsAt0_B m c t h0]
    dsimp only
    exact TileB.ds ..

theorem dv_eq (t : Fin cfg0.N) : (outsAt0 m c t.val t.isLt).2.1
    = tileOf (dvPiece (iblk m c 0 t) (iblk m c 2 t) (iblk m c 3 t) (iblk m c 4 t) (startsWith m c t)) := by
  unfold startsWith
  by_cases h0 : t.val % 33 = 0
  · rw [if_pos h0, outsAt0_A m c t h0]
    dsimp only
    exact TileA.dv ..
  · rw [if_neg h0, outsAt0_B m c t h0]
    dsimp only
    exact TileB.dv ..

theorem dq_eq (t : Fin cfg0.N) : (outsAt0 m c t.val t.isLt).2.2.1
    = tileOf (dqPiece (iblk m c 0 t) (iblk m c 1 t) (iblk m c 3 t) (iblk m c 4 t) (iblk m c 5 t)) := by
  by_cases h0 : t.val % 33 = 0
  · rw [outsAt0_A m c t h0]
    dsimp only
    exact TileA.dq ..
  · rw [outsAt0_B m c t h0]
    dsimp only
    exact TileB.dq ..

variable {m c} (hb : Below m c)
include hb

theorem below_block (t : Fin cfg0.N) (k : Fin 1024) : @LT.lt EReal _ (iblk m c 3 t (ix2 0 k)) ⊤ :=
  lt_of_eq_of_lt (b := argB m c (ix2 0 k)) (iblk3_apply m c t k 0) (hb k)

/-- The state carried after a point. -/
theorem carried (h : Fin 8) (d k : Fin 128) : ∀ n (hn : n < cfg0.N), (outsAt0 m c n hn).2.2.2.2 (ix3 h d k) = adj m c h (4 * (n + 1)) d k := by
  have main : ∀ n (hn : n < cfg0.N), (∀ d k, startsWith m c ⟨n, hn⟩ (ix3 h d k) = adj m c h (4 * n) d k) →
      ∀ d k, (outsAt0 m c n hn).2.2.2.2 (ix3 h d k) = adj m c h (4 * (n + 1)) d k := fun n hn hs d k => by
    rw [left_eq m c ⟨n, hn⟩]
    exact TileSweep.left_apply (x3 := iblk m c 3 ⟨n, hn⟩) (below_block hb ⟨n, hn⟩) (fun ci => data_eq m c ⟨n, hn⟩ ci h) hs d k
  have all : ∀ n (hn : n < cfg0.N), ∀ d k, (outsAt0 m c n hn).2.2.2.2 (ix3 h d k) = adj m c h (4 * (n + 1)) d k := by
    intro n
    induction n with
    | zero =>
      intro hn
      refine main 0 hn fun d k => ?_
      unfold startsWith
      rw [if_pos (Nat.zero_mod _)]
      exact TileRead.cleared_apply h d k
    | succ n ih =>
      intro hn
      refine main (n + 1) hn fun d k => ?_
      unfold startsWith
      have h33 : n + 1 < 33 := lt33 ⟨n + 1, hn⟩
      rw [if_neg (by show ¬(n + 1) % 33 = 0; omega)]
      exact ih (Nat.lt_of_succ_lt hn) d k
  exact fun n hn => all n hn d k

/-- The state a point starts with. -/
theorem started (t : Fin cfg0.N) (h : Fin 8) (d k : Fin 128) : startsWith m c t (ix3 h d k) = adj m c h (4 * t.val) d k := by
  unfold startsWith
  have h33 := lt33 t
  by_cases h0 : t.val % 33 = 0
  · have e : t.val = 0 := by omega
    rw [if_pos h0, e]
    exact TileRead.cleared_apply h d k
  · rw [if_neg h0, carried hb h d k]
    have e : 4 * (t.val - 1 + 1) = 4 * t.val := by omega
    rw [e]

/-- A tile at a row and column. -/
theorem tileOf_apply (f : Fin 4 → Fin 8 → FVec Ideal S64x128 .f32) (ci : Fin 4) (h : Fin 8) (r : Fin 64) (k : Fin 128) :
    tileOf f (ix2 (TileRead.rowIn ci r) (colOf h k)) = f ci h (ix2 r k) :=
  (tileOf_at f ci h (ix2 r k) _ fun a => by match a with | 0 => rfl | 1 => rfl).symm

/-- Every row of a tile is a row of one of its chunks, every column one of a head. -/
theorem split_tile (y : S256x1024.Idx) : ∃ ci r h k, y = ix2 (TileRead.rowIn ci r) (colOf h k) :=
  ⟨⟨(y 0).val / 64, Nat.div_lt_of_lt_mul (y 0).isLt⟩, ⟨(y 0).val % 64, Nat.mod_lt _ (by decide)⟩,
    ⟨(y 1).val / 128, Nat.div_lt_of_lt_mul (y 1).isLt⟩, ⟨(y 1).val % 128, Nat.mod_lt _ (by decide)⟩, by
      funext a
      match a with
      | 0 => exact Fin.ext (Nat.div_add_mod (y 0).val 64).symm
      | 1 => exact Fin.ext (Nat.div_add_mod (y 1).val 128).symm⟩

theorem stepOf_chunkAt {j : ℕ} (hj : j < 132) : Chunk.stepOf (chunkAt j) = j := by
  have e := congrArg Fin.val (Chunk.chunkAt_stepOf (chunkAt j))
  exact Chunk.chunkAt_of_lt hj (Chunk.chunkAt_stepOf (chunkAt j)) (Chunk.stepOf_lt _)

theorem step_lt (t : Fin cfg0.N) (ci : Fin 4) : 4 * t.val + (3 - ci.val) < 132 := by
  have := lt33 t
  omega

theorem dvAll_apply (M : Fin 132) (r : Fin 64) (h : Fin 8) (d : Fin 128) :
    dvAll (argP m c) (argB m c) (argO m c) (argS m c) (ix2 (rowOf M r) (colOf h d))
      = Chunk.dv (chunk (argP m c) (argB m c) (argO m c) (argS m c) M h) (adj m c h (Chunk.stepOf M)) r d := by
  have e0 : (⟨(64 * M.val + r.val) / 64, by omega⟩ : Fin 132) = M := Fin.ext (by show (64 * M.val + r.val) / 64 = M.val; omega)
  have e1 : (⟨(64 * M.val + r.val) % 64, by omega⟩ : Fin 64) = r := Fin.ext (by show (64 * M.val + r.val) % 64 = r.val; omega)
  have e2 : (⟨(128 * h.val + d.val) / 128, by omega⟩ : Fin 8) = h := Fin.ext (by show (128 * h.val + d.val) / 128 = h.val; omega)
  have e3 : (⟨(128 * h.val + d.val) % 128, by omega⟩ : Fin 128) = d := Fin.ext (by show (128 * h.val + d.val) % 128 = d.val; omega)
  show Chunk.dv (chunk _ _ _ _ (⟨(64 * M.val + r.val) / 64, _⟩ : Fin 132) (⟨(128 * h.val + d.val) / 128, _⟩ : Fin 8))
    (adjoint _ _ _ _ (⟨(128 * h.val + d.val) / 128, _⟩ : Fin 8) (Chunk.stepOf (⟨(64 * M.val + r.val) / 64, _⟩ : Fin 132)))
    (⟨(64 * M.val + r.val) % 64, _⟩ : Fin 64) (⟨(128 * h.val + d.val) % 128, _⟩ : Fin 128) = _
  rw [e0, e1, e2, e3]

theorem dqAll_apply (M : Fin 132) (r : Fin 64) (h : Fin 8) (d : Fin 128) :
    dqAll (argP m c) (argB m c) (argO m c) (argS m c) (ix2 (rowOf M r) (colOf h d))
      = Chunk.dq (chunk (argP m c) (argB m c) (argO m c) (argS m c) M h) r d := by
  have e0 : (⟨(64 * M.val + r.val) / 64, by omega⟩ : Fin 132) = M := Fin.ext (by show (64 * M.val + r.val) / 64 = M.val; omega)
  have e1 : (⟨(64 * M.val + r.val) % 64, by omega⟩ : Fin 64) = r := Fin.ext (by show (64 * M.val + r.val) % 64 = r.val; omega)
  have e2 : (⟨(128 * h.val + d.val) / 128, by omega⟩ : Fin 8) = h := Fin.ext (by show (128 * h.val + d.val) / 128 = h.val; omega)
  have e3 : (⟨(128 * h.val + d.val) % 128, by omega⟩ : Fin 128) = d := Fin.ext (by show (128 * h.val + d.val) % 128 = d.val; omega)
  show Chunk.dq (chunk _ _ _ _ (⟨(64 * M.val + r.val) / 64, _⟩ : Fin 132) (⟨(128 * h.val + d.val) / 128, _⟩ : Fin 8))
    (⟨(64 * M.val + r.val) % 64, _⟩ : Fin 64) (⟨(128 * h.val + d.val) % 128, _⟩ : Fin 128) = _
  rw [e0, e1, e2, e3]

/-- What a point writes back of the value gradients. -/
theorem flushed7_eq (t : Fin cfg0.N) : (dats m 0 c).flushed 7 t
    = ((cfg0.win 7).blk t).view.read (Elt Ideal) (dvAll (argP m c) (argB m c) (argO m c) (argS m c)) := by
  rw [flushed7, dv_eq]
  funext y
  obtain ⟨ci, r, h, k, rfl⟩ := split_tile hb y
  show tileOf (dvPiece (iblk m c 0 t) (iblk m c 2 t) (iblk m c 3 t) (iblk m c 4 t) (startsWith m c t)) (ix2 (TileRead.rowIn ci r) (colOf h k))
    = dvAll (argP m c) (argB m c) (argO m c) (argS m c) (((cfg0.win 7).blk t).view.emb (ix2 (TileRead.rowIn ci r) (colOf h k)))
  rw [tileOf_apply hb, emb7, rowIn_eq, dvAll_apply hb, stepOf_chunkAt hb (step_lt hb t ci)]
  exact TileSweep.dvPiece_apply (below_block hb t) (fun ci => data_eq m c t ci h) (started hb t h) ci r k

/-- What a point writes back of the query gradients. -/
theorem flushed8_eq (t : Fin cfg0.N) : (dats m 0 c).flushed 8 t
    = ((cfg0.win 8).blk t).view.read (Elt Ideal) (dqAll (argP m c) (argB m c) (argO m c) (argS m c)) := by
  rw [flushed8, dq_eq]
  funext y
  obtain ⟨ci, r, h, k, rfl⟩ := split_tile hb y
  show tileOf (dqPiece (iblk m c 0 t) (iblk m c 1 t) (iblk m c 3 t) (iblk m c 4 t) (iblk m c 5 t)) (ix2 (TileRead.rowIn ci r) (colOf h k))
    = dqAll (argP m c) (argB m c) (argO m c) (argS m c) (((cfg0.win 8).blk t).view.emb (ix2 (TileRead.rowIn ci r) (colOf h k)))
  rw [tileOf_apply hb, emb8, rowIn_eq, dqAll_apply hb]
  exact TileSweep.dqPiece_apply (below_block hb t) (fun ci => data_eq m c t ci h) ci r k

/-- The point whose tile a row lies in. -/
def pointOf (i : Fin 8448) : Fin cfg0.N := ⟨(64 - i.val / 256) % 33, lt_of_lt_of_eq (Nat.mod_lt _ (by decide)) (show cfg0.N = 33 from N_0).symm⟩

omit hb in
theorem row_point (i : Fin 8448) : rowIn (pointOf i) ⟨i.val % 256, Nat.mod_lt _ (by decide)⟩ = i := by
  refine Fin.ext ?_
  show 256 * ((64 - (64 - i.val / 256) % 33) % 33) + i.val % 256 = i.val
  omega

omit hb in
theorem ix2_eta (y : S8448x1024.Idx) : ix2 (y 0) (y 1) = y := by
  funext a
  match a with
  | 0 => rfl
  | 1 => rfl

omit hb in
theorem cover7 (i : Fin 8448) (k : Fin 1024) : ∃ t : Fin cfg0.N, (cfg0.win 7).flush t = true ∧ ix2 i k ∈ ((cfg0.win 7).blk t).view.set := by
  refine ⟨pointOf i, flush0_7 _, ?_⟩
  have e := ((cfg0.win 7).blk (pointOf i)).view.emb_mem_set (ix2 (⟨i.val % 256, Nat.mod_lt _ (by decide)⟩ : Fin 256) k)
  exact Eq.mp (congrArg (fun z => z ∈ ((cfg0.win 7).blk (pointOf i)).view.set) ((emb7 _ _ _).trans (congrArg (fun j => ix2 j k) (row_point i)))) e

omit hb in
theorem cover8 (i : Fin 8448) (k : Fin 1024) : ∃ t : Fin cfg0.N, (cfg0.win 8).flush t = true ∧ ix2 i k ∈ ((cfg0.win 8).blk t).view.set := by
  refine ⟨pointOf i, flush0_8 _, ?_⟩
  have e := ((cfg0.win 8).blk (pointOf i)).view.emb_mem_set (ix2 (⟨i.val % 256, Nat.mod_lt _ (by decide)⟩ : Fin 256) k)
  exact Eq.mp (congrArg (fun z => z ∈ ((cfg0.win 8).blk (pointOf i)).view.set) ((emb8 _ _ _).trans (congrArg (fun j => ix2 j k) (row_point i)))) e

/-- The array of value gradients after the run, -/
theorem final_dv : (dats m 0 c).arrAt 7 cfg0.N = dvAll (argP m c) (argB m c) (argO m c) (argS m c) :=
  (dats m 0 c).arrAt_eq_of_cover 7 _ (fun t _ => flushed7_eq hb t) fun y => by rw [← ix2_eta y]; exact cover7 _ _

/-- and of query gradients. -/
theorem final_dq : (dats m 0 c).arrAt 8 cfg0.N = dqAll (argP m c) (argB m c) (argO m c) (argS m c) :=
  (dats m 0 c).arrAt_eq_of_cover 8 _ (fun t _ => flushed8_eq hb t) fun y => by rw [← ix2_eta y]; exact cover8 _ _

end Cert.KernelValue

end
-- ==== Proof.RefRun.lean ====
/- The run of the reference, stated over one trip of its loop. The generated run says what every result is after 132 trips of the
   loop's valuation; here a valuation is compared with a plain record of the loop's carried values (the generated `State`), one trip of
   the valuation with one `step` of the record, and the operations before the loop with `init`, read list by list. -/
module

public import proofs.«01_k».proof.Proof.Gen.ReferenceIdeal.Run
public import proofs.«01_k».proof.Proof.Gen.ReferenceIdeal.Step

@[expose] public section

set_option maxRecDepth 65536
set_option maxHeartbeats 500000

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The valuation `V` carries the record `s` in front of trip `j`. -/
structure Carries (V : Valuation τ sig (Elt F)) (s : State F) (j : ℕ) : Prop where
  ds : V (Proc.devRef .tc main_v62_7) = s.main_v62_7
  dv : V (Proc.devRef .tc main_v62_8) = s.main_v62_8
  dq : V (Proc.devRef .tc main_v62_9) = s.main_v62_9
  st : V (Proc.devRef .tc main_v62_0) = s.main_v62_0
  q : V (Proc.devRef .tc main_v62_1) = s.main_v62_1
  k : V (Proc.devRef .tc main_v62_2) = s.main_v62_2
  v : V (Proc.devRef .tc main_v62_3) = s.main_v62_3
  g : V (Proc.devRef .tc main_v62_4) = s.main_v62_4
  dout : V (Proc.devRef .tc main_v62_5) = s.main_v62_5
  trip : V (Proc.devRef .tc main_v62_6) = constantI S_ 32 (BitVec.ofNat 32 j)

section Trip

variable {V : Valuation τ sig (Elt F)} {s : State F} {j : ℕ}

/-- The trip's new adjoint state. -/
theorem trip_ds (h : Carries V s j) : step_main_v62_7 V = (step j s).main_v62_7 := by
  simp only [step_main_v62_7, res_main_while0b_v76, res_main_while0b_v77, res_main_while0b_v78, res_main_while0b_v79, res_main_while0b_v80, res_main_while0b_v82,
res_main_while0b_v85, res_main_while0b_v86, res_main_while0b_v87, res_main_while0b_v88, res_main_while0b_v89, res_main_while0b_v93,
res_main_while0b_v94, res_main_while0b_v97, res_main_while0b_v98, res_main_while0b_v100_1, res_main_while0b_v100_0, res_main_while0b_v104,
res_main_while0b_v109, res_main_while0b_v110, res_main_while0b_v117, res_main_while0b_v120, res_main_while0b_v138, res_main_while0b_v139,
res_main_while0b_v140, res_main_while0b_v144, res_main_while0b_v151, res_main_while0b_v160,
    h.ds, h.st, h.q, h.k, h.v, h.g, h.dout, h.trip]
  rfl

/-- The trip's new array of value gradients. -/
theorem trip_dv (h : Carries V s j) : step_main_v62_8 V = (step j s).main_v62_8 := by
  simp only [step_main_v62_8, res_main_while0b_v76, res_main_while0b_v77, res_main_while0b_v78, res_main_while0b_v79, res_main_while0b_v80, res_main_while0b_v82,
res_main_while0b_v85, res_main_while0b_v86, res_main_while0b_v87, res_main_while0b_v88, res_main_while0b_v89, res_main_while0b_v93,
res_main_while0b_v94, res_main_while0b_v97, res_main_while0b_v98, res_main_while0b_v100_1, res_main_while0b_v100_0, res_main_while0b_v104,
res_main_while0b_v109, res_main_while0b_v110, res_main_while0b_v117, res_main_while0b_v120, res_main_while0b_v138, res_main_while0b_v139,
res_main_while0b_v140, res_main_while0b_v144, res_main_while0b_v151, res_main_while0b_v160,
    h.ds, h.dv, h.st, h.q, h.k, h.v, h.g, h.dout, h.trip]
  rfl

/-- The trip's new array of query gradients. -/
theorem trip_dq (h : Carries V s j) : step_main_v62_9 V = (step j s).main_v62_9 := by
  simp only [step_main_v62_9, res_main_while0b_v76, res_main_while0b_v77, res_main_while0b_v78, res_main_while0b_v79, res_main_while0b_v80, res_main_while0b_v82,
res_main_while0b_v85, res_main_while0b_v86, res_main_while0b_v87, res_main_while0b_v88, res_main_while0b_v89, res_main_while0b_v93,
res_main_while0b_v94, res_main_while0b_v97, res_main_while0b_v98, res_main_while0b_v100_1, res_main_while0b_v100_0, res_main_while0b_v104,
res_main_while0b_v109, res_main_while0b_v110, res_main_while0b_v117, res_main_while0b_v120, res_main_while0b_v138, res_main_while0b_v139,
res_main_while0b_v140, res_main_while0b_v144, res_main_while0b_v151, res_main_while0b_v160,
    h.ds, h.dq, h.st, h.q, h.k, h.v, h.g, h.dout, h.trip]
  rfl

/-- The trip's number goes up by one. -/
theorem trip_number (h : Carries V s j) : step_main_v62_6 V = constantI S_ 32 (BitVec.ofNat 32 (j + 1)) := by
  rw [step_main_v62_6, h.trip]
  funext i
  exact (BitVec.ofNat_add j 1).symm

/-- One trip of the valuation is one `step` of the record. -/
theorem Carries.next (h : Carries V s j) : Carries (STEP V) (step j s) (j + 1) where
  ds := (STEP_main_v62_7 V).trans (trip_ds h)
  dv := (STEP_main_v62_8 V).trans (trip_dv h)
  dq := (STEP_main_v62_9 V).trans (trip_dq h)
  st := (STEP_main_v62_0 V).trans h.st
  q := (STEP_main_v62_1 V).trans h.q
  k := (STEP_main_v62_2 V).trans h.k
  v := (STEP_main_v62_3 V).trans h.v
  g := (STEP_main_v62_4 V).trans h.g
  dout := (STEP_main_v62_5 V).trans h.dout
  trip := (STEP_main_v62_6 V).trans (trip_number h)

/-- The first result, read off the record. -/
theorem out_dv (h : Carries V s j) : out_main_v68 V = Step.R_main_v68 s := by
  rw [out_main_v68, h.dv]; rfl

/-- The second result, read off the record. -/
theorem out_dq (h : Carries V s j) : out_main_v74 V = Step.R_main_v74 s := by
  rw [out_main_v74, h.dq]; rfl

end Trip

/-! ## The operations before the loop, list by list -/

section Setup

variable (V : Valuation τ sig (Elt F))

/-- A set-up value as a function of the four arguments the valuation holds. -/
abbrev ofArgs {α : Type} (f : (⟨S8448x5120, .f32⟩ : BufTy).Contents (Elt F) → (⟨S2x1024, .f32⟩ : BufTy).Contents (Elt F)
    → (⟨S8448x1024, .f32⟩ : BufTy).Contents (Elt F) → (⟨S132x8x128x128, .f32⟩ : BufTy).Contents (Elt F) → α) : α :=
  f (V (Proc.devRef .tc main_arg0)) (V (Proc.devRef .tc main_arg1)) (V (Proc.devRef .tc main_arg2)) (V (Proc.devRef .tc main_arg3))

theorem gate_input : after hostOps0 V (Proc.devRef .tc main_v10) = ofArgs V Step.A_main_v10 := by
  after_reads_simp
  have h7 : upto hostOps0 V 10 (Proc.devRef .tc main_v7) = ofArgs V Step.A_main_v7 := by after_reads_simp; rfl
  have h8 : upto hostOps0 V 10 (Proc.devRef .tc main_v8) = ofArgs V Step.A_main_v8 := by after_reads_simp; rfl
  rw [h7, h8]
  rfl

theorem pre_q : after hostOps0 V (Proc.devRef .tc main_v37) = ofArgs V Step.A_main_v37 := by
  after_reads_simp
  have hl : upto hostOps0 V 40 (Proc.devRef .tc main_v34) = ofArgs V Step.A_main_v34 := by after_reads_simp; rfl
  have hr : upto hostOps0 V 40 (Proc.devRef .tc main_v35) = ofArgs V Step.A_main_v35 := by after_reads_simp; rfl
  rw [hl, hr]
  rfl

theorem pre_v : after hostOps0 V (Proc.devRef .tc main_v31) = ofArgs V Step.A_main_v31 := by
  after_reads_simp
  have hl : upto hostOps0 V 34 (Proc.devRef .tc main_v28) = ofArgs V Step.A_main_v28 := by after_reads_simp; rfl
  have hr : upto hostOps0 V 34 (Proc.devRef .tc main_v29) = ofArgs V Step.A_main_v29 := by after_reads_simp; rfl
  rw [hl, hr]
  rfl

theorem pre_k : after hostOps0 V (Proc.devRef .tc main_v24) = ofArgs V Step.A_main_v24 := by
  after_reads_simp
  have h7 : upto hostOps0 V 10 (Proc.devRef .tc main_v7) = ofArgs V Step.A_main_v7 := by after_reads_simp; rfl
  have h8 : upto hostOps0 V 10 (Proc.devRef .tc main_v8) = ofArgs V Step.A_main_v8 := by after_reads_simp; rfl
  rw [h7, h8]
  rfl

theorem pre_g : after hostOps0 V (Proc.devRef .tc main_v25) = ofArgs V Step.A_main_v25 := by
  after_reads_simp
  have h7 : upto hostOps0 V 10 (Proc.devRef .tc main_v7) = ofArgs V Step.A_main_v7 := by after_reads_simp; rfl
  have h8 : upto hostOps0 V 10 (Proc.devRef .tc main_v8) = ofArgs V Step.A_main_v8 := by after_reads_simp; rfl
  rw [h7, h8]
  rfl

theorem silu_q : after hostOps0_1 V (Proc.devRef .tc main_v38) =
    mulf (V (Proc.devRef .tc main_v37)) (Host.divf Step.K_main_call0_v4
      (addf Step.K_main_call0_v2 (Host.exp (Host.negf (V (Proc.devRef .tc main_v37)))))) := by
  after_reads_simp
  rfl

/-- The call of `silu` leaves what the first list wrote and it reads again. -/
theorem silu_keeps (r : Ref sig .tc) (h : r ∉ hostOps0_1_W) : after hostOps0_1 V (Proc.devRef .tc r) = V (Proc.devRef .tc r) :=
  after_of_writes_sub hostOps0_1 V hostOps0_1_writes h

theorem pre_states : after hostOps0_2 V (Proc.devRef .tc main_v62_0) = ofArgs V Step.A_main_v43 := by
  after_reads_simp
  have hl : upto hostOps0_2 V 2 (Proc.devRef .tc main_v39) = ofArgs V Step.A_main_v39 := by after_reads_simp; rfl
  have hr : upto hostOps0_2 V 2 (Proc.devRef .tc main_v40) = ofArgs V Step.A_main_v40 := by after_reads_simp; rfl
  rw [hl, hr]
  rfl

theorem pre_dout : after hostOps0_2 V (Proc.devRef .tc main_v62_5) = ofArgs V Step.A_main_v50 := by
  after_reads_simp
  have hl : upto hostOps0_2 V 8 (Proc.devRef .tc main_v45) = ofArgs V Step.A_main_v45 := by after_reads_simp; rfl
  have hr : upto hostOps0_2 V 8 (Proc.devRef .tc main_v46) = ofArgs V Step.A_main_v46 := by after_reads_simp; rfl
  rw [hl, hr]
  rfl

/-- An array of all tokens cut into the chunks the loop walks through. -/
def chunked (x : (⟨S1x8448x8x128, .f32⟩ : BufTy).Contents (Elt F)) : (⟨S132x1x8x64x128, .f32⟩ : BufTy).Contents (Elt F) :=
  transpose S132x1x8x64x128 [1, 0, 3, 2, 4] (shapeCast S1x132x64x8x128 x shapeCasts_S1x8448x8x128_S1x132x64x8x128)
    transposes_S1x132x64x8x128_S132x1x8x64x128_1_0_3_2_4

theorem cut_q : after hostOps0_2 V (Proc.devRef .tc main_v62_1) = chunked (V (Proc.devRef .tc main_v38)) := by after_reads_simp; rfl
theorem cut_k : after hostOps0_2 V (Proc.devRef .tc main_v62_2) = chunked (V (Proc.devRef .tc main_v24)) := by after_reads_simp; rfl
theorem cut_v : after hostOps0_2 V (Proc.devRef .tc main_v62_3) = chunked (V (Proc.devRef .tc main_v31)) := by after_reads_simp; rfl
theorem cut_g : after hostOps0_2 V (Proc.devRef .tc main_v62_4) = chunked (V (Proc.devRef .tc main_v25)) := by after_reads_simp; rfl
theorem zero_ds : after hostOps0_2 V (Proc.devRef .tc main_v62_7) = Step.K_main_v51 := by after_reads_simp; rfl
theorem zero_dv : after hostOps0_2 V (Proc.devRef .tc main_v62_8) = Step.K_main_v60 := by after_reads_simp; rfl
theorem zero_dq : after hostOps0_2 V (Proc.devRef .tc main_v62_9) = Step.K_main_v61 := by after_reads_simp; rfl
theorem zero_trip : after hostOps0_2 V (Proc.devRef .tc main_v62_6) = constantI S_ 32 (BitVec.ofNat 32 0) := by after_reads_simp; rfl

theorem pre_keeps (r : Ref sig .tc) (h : r ∉ hostOps0_W) : after hostOps0 V (Proc.devRef .tc r) = V (Proc.devRef .tc r) :=
  after_of_writes_sub hostOps0 V hostOps0_writes h

end Setup

/-! ## The whole run -/

section Whole

variable (m : (ℓ : Loc nD τ sig) → Buf (Elt F) ℓ) (c : Dev nD)

/-- The record the first trip starts from. -/
abbrev start : State F :=
  init (m ((c.tc : Thread nD τ).loc main_arg0)) (m ((c.tc : Thread nD τ).loc main_arg1)) (m ((c.tc : Thread nD τ).loc main_arg2)) (m ((c.tc : Thread nD τ).loc main_arg3))

/-- The memory as a valuation of the core's buffers. -/
abbrev given : Valuation τ sig (Elt F) := launchContents m c

theorem entry_lists : entryContents preI m c = after hostOps0_2 (after hostOps0_1 (after hostOps0 (given m c))) := by
  simp only [entryContents, afterL_cons, afterL_nil]

/-- What the loop finds: the arrays cut into chunks, zeros for everything it fills, trip number 0. -/
theorem carries_start : Carries (entryContents preI m c) (start m c) 0 := by
  rw [entry_lists]
  constructor
  · exact zero_ds _
  · exact zero_dv _
  · exact zero_dq _
  · refine (pre_states _).trans ?_
    simp only [ofArgs, silu_keeps _ main_arg0 (by decide), silu_keeps _ main_arg1 (by decide), silu_keeps _ main_arg2 (by decide),
      silu_keeps _ main_arg3 (by decide), pre_keeps _ main_arg0 (by decide), pre_keeps _ main_arg1 (by decide),
      pre_keeps _ main_arg2 (by decide), pre_keeps _ main_arg3 (by decide)]
    rfl
  · rw [cut_q, silu_q, pre_q]
    rfl
  · rw [cut_k, silu_keeps _ main_v24 (by decide), pre_k]
    rfl
  · rw [cut_v, silu_keeps _ main_v31 (by decide), pre_v]
    rfl
  · rw [cut_g, silu_keeps _ main_v25 (by decide), pre_g]
    rfl
  · refine (pre_dout _).trans ?_
    simp only [ofArgs, silu_keeps _ main_arg0 (by decide), silu_keeps _ main_arg1 (by decide), silu_keeps _ main_arg2 (by decide),
      silu_keeps _ main_arg3 (by decide), pre_keeps _ main_arg0 (by decide), pre_keeps _ main_arg1 (by decide),
      pre_keeps _ main_arg2 (by decide), pre_keeps _ main_arg3 (by decide)]
    rfl
  · exact zero_trip _

/-- The record after `n` trips. -/
def record : ℕ → State F
  | 0 => start m c
  | n + 1 => step n (record n)

theorem carries_record : ∀ n, Carries (STEP^[n] (entryContents preI m c)) (record m c n) n
  | 0 => carries_start m c
  | n + 1 => by
    rw [Function.iterate_succ_apply']
    exact (carries_record n).next

end Whole

/-- Every weakly fair execution of the reference ends with both results read off the record after 132 trips, and every argument as
    it was. -/
theorem run_record (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v68) = Step.R_main_v68 (record m c 132)
      ∧ r.2.mem ((c.tc : Thread nD τ).loc main_v74) = Step.R_main_v74 (record m c 132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := carries_record m c 132
    ⟨(h c).1.trans (out_dv hk), (h c).2.1.trans (out_dq hk), (h c).2.2.1, (h c).2.2.2.1, (h c).2.2.2.2.1, (h c).2.2.2.2.2⟩) (Value.run m ρ)

end Cert.RefRun

end
-- ==== Proof.Prefix.lean ====
/- A running sum over 64 rows, as a window of 64 padded 63 low, and sums of extended reals scaled by a positive real. -/
module

public import Idealize.ShloMosaic.Lib.Pointwise
public import Mathlib.Algebra.BigOperators.Fin

@[expose] public section

namespace Cert.Prefix

open Idealize.ShloMosaic

/-- A left fold of additions is a sum. -/
theorem foldl_add {n : ℕ} (g : Fin n → EReal) (v : EReal) : (List.finRange n).foldl (fun r i => r + g i) v = v + ∑ i, g i := by
  have key : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [key, Fin.sum_univ_def]

/-- The window positions of a `1 × 1 × 64 × 1` window are its rows. -/
def rowsEquiv : (⟨4, ![1, 1, 64, 1]⟩ : Shape).Idx ≃ Fin 64 where
  toFun p := p 2
  invFun w := ix4 0 0 w 0
  left_inv p := by
    funext a
    match a with
    | 0 => exact Subsingleton.elim (α := Fin 1) _ _
    | 1 => exact Subsingleton.elim (α := Fin 1) _ _
    | 2 => rfl
    | 3 => exact Subsingleton.elim (α := Fin 1) _ _
  right_inv _ := rfl

/-- The sum of the rows up to `r`, as the sum over the window that ends at `r`. -/
theorem sum_shift (f : Fin 64 → EReal) (r : Fin 64) :
    (∑ w : Fin 64, if h : 63 ≤ r.val + w.val then f ⟨r.val + w.val - 63, by omega⟩ else 0) = ∑ s : Fin 64, if s ≤ r then f s else 0 := by
  rw [← Equiv.sum_comp (Equiv.addRight (r + 1)) fun s : Fin 64 => if s ≤ r then f s else 0]
  refine Finset.sum_congr rfl fun w _ => ?_
  show _ = if w + (r + 1) ≤ r then f (w + (r + 1)) else 0
  have hv : (w + (r + 1)).val = (w.val + r.val + 1) % 64 := by
    rw [Fin.val_add, Fin.val_add]
    show (w.val + (r.val + 1) % 64) % 64 = _
    omega
  by_cases h : 63 ≤ r.val + w.val
  · have hs : w + (r + 1) = ⟨r.val + w.val - 63, by omega⟩ := Fin.ext (by rw [hv]; show _ = r.val + w.val - 63; omega)
    rw [dif_pos h, hs, if_pos (Fin.le_def.mpr (by show r.val + w.val - 63 ≤ r.val; omega))]
  · rw [dif_neg h, if_neg fun hle => ?_]
    have := Fin.le_def.mp hle
    rw [hv] at this
    omega

/-- The running sum at row `r`. -/
theorem reduceWindowAdd_apply (x : (⟨4, ![1, 8, 64, 128]⟩ : Shape).Idx → EReal) (init : (⟨0, ![]⟩ : Shape).Idx → EReal) (h0 : ∀ i, init i = 0)
    (hw : (⟨4, ![1, 8, 64, 128]⟩ : Shape).ReduceWindows ![1, 1, 64, 1] ![1, 1, 1, 1] ![0, 0, 63, 0] ![0, 0, 0, 0] ⟨4, ![1, 8, 64, 128]⟩)
    (hu : 0 < (⟨0, ![]⟩ : Shape).numel) (u : Fin 1) (h : Fin 8) (r : Fin 64) (k : Fin 128) :
    Host.reduceWindowAdd (F := Ideal) (φ := .f32) ![1, 1, 64, 1] ![1, 1, 1, 1] ![0, 0, 63, 0] ![0, 0, 0, 0] x init hw hu (ix4 u h r k)
      = ∑ s : Fin 64, if s ≤ r then x (ix4 u h s k) else 0 := by
  rw [← sum_shift (fun s => x (ix4 u h s k)) r]
  unfold Host.reduceWindowAdd
  rw [Ideal.hostReduceWindowAdd_def]
  unfold Ideal.hostReduceWindowAdd Host.reduceWindow
  dsimp only
  rw [foldl_add, h0, zero_add, ← Equiv.sum_comp (⟨4, ![1, 1, 64, 1]⟩ : Shape).rowMajor, ← Equiv.sum_comp rowsEquiv.symm]
  refine Finset.sum_congr rfl fun w _ => ?_
  simp only [Equiv.symm_apply_apply]
  have hu0 : u.val = 0 := Nat.lt_one_iff.mp u.isLt
  by_cases hc : 63 ≤ r.val + w.val
  · rw [dif_pos hc, dif_pos]
    · refine congrArg x (funext fun a => ?_)
      match a with
      | 0 => exact Fin.ext (by show u.val * 1 + 0 - 0 = u.val; omega)
      | 1 => exact Fin.ext (by show h.val * 1 + 0 - 0 = h.val; omega)
      | 2 => exact Fin.ext (by show r.val * 1 + w.val - 63 = r.val + w.val - 63; omega)
      | 3 => exact Fin.ext (by show k.val * 1 + 0 - 0 = k.val; omega)
    · intro a
      match a with
      | 0 => exact ⟨Nat.zero_le _, by show u.val * 1 + 0 - 0 < 1; omega⟩
      | 1 => exact ⟨Nat.zero_le _, by show h.val * 1 + 0 - 0 < 8; omega⟩
      | 2 => exact ⟨by show 63 ≤ r.val * 1 + w.val; omega, by show r.val * 1 + w.val - 63 < 64; omega⟩
      | 3 => exact ⟨Nat.zero_le _, by show k.val * 1 + 0 - 0 < 128; omega⟩
  · rw [dif_neg hc, dif_neg]
    intro hin
    have : 63 ≤ r.val * 1 + w.val := (hin 2).1
    omega

end Cert.Prefix

end
-- ==== Proof.TripRead.lean ====
/- One trip of the reference's loop read at an index, over the extended reals: the slices it takes are a chunk of one head, and what it
   makes of them are the chunk's quantities. -/
module

public import proofs.«01_k».proof.Proof.Gen.ReferenceIdeal.Step
public import proofs.«01_k».proof.Proof.Chunk
public import proofs.«01_k».proof.Proof.Prefix
public import Idealize.ShloMosaic.Lib.Pointwise
public import Idealize.ShloMosaic.Lib.WordCmp

@[expose] public section

set_option maxRecDepth 65536

noncomputable section

namespace Cert.TripRead

open Idealize.ShloMosaic
open Cert.ReferenceIdeal Cert.ReferenceIdeal.Gen Cert.ReferenceIdeal.Step

/-- A slice of one chunk out of all, at a start inside. -/
theorem slice_apply {α : Type} {n : ℕ} (x : (⟨5, ![132, 1, 8, n, 128]⟩ : Shape).Idx → α) (start : Fin 5 → Int)
    (hs : (⟨5, ![132, 1, 8, n, 128]⟩ : Shape).Slices (fun _ => 0) ⟨5, ![1, 1, 8, n, 128]⟩) (c : Fin 132)
    (h0 : start 0 = (c.val : Int)) (h1 : start 1 = 0) (h2 : start 2 = 0) (h3 : start 3 = 0) (h4 : start 4 = 0)
    (u : Fin 1) (w : Fin 1) (h : Fin 8) (r : Fin n) (k : Fin 128) :
    Host.dynamicSlice ⟨5, ![1, 1, 8, n, 128]⟩ x start hs (ix5 u w h r k) = x (ix5 c w h r k) := by
  rw [Host.dynamicSlice_apply]
  refine congrArg x (funext fun a => Fin.ext ?_)
  have hu : u.val = 0 := Nat.lt_one_iff.mp u.isLt
  match a with
  | 0 =>
    show Host.clampedStart _ _ _ _ 0 + u.val = c.val
    rw [Host.clampedStart_of_le _ _ 0 c.val h0 (by show c.val + 1 ≤ 132; omega), hu, add_zero]
  | 1 =>
    show Host.clampedStart _ _ _ _ 1 + w.val = w.val
    rw [Host.clampedStart_of_le _ _ 1 0 h1 (by show 0 + 1 ≤ 1; omega), zero_add]
  | 2 =>
    show Host.clampedStart _ _ _ _ 2 + h.val = h.val
    rw [Host.clampedStart_of_le _ _ 2 0 h2 (by show 0 + 8 ≤ 8; omega), zero_add]
  | 3 =>
    show Host.clampedStart _ _ _ _ 3 + r.val = r.val
    rw [Host.clampedStart_of_le _ _ 3 0 h3 (by show 0 + n ≤ n; omega), zero_add]
  | 4 =>
    show Host.clampedStart _ _ _ _ 4 + k.val = k.val
    rw [Host.clampedStart_of_le _ _ 4 0 h4 (by show 0 + 128 ≤ 128; omega), zero_add]

/-- The chunk a trip takes up, in the order of time. -/
def timeOf (j : ℕ) : Fin 132 := ⟨131 - j, by omega⟩

variable (j : ℕ) (s : State Ideal)

/-- The chunk's data a trip reads for head `h`. -/
def data (h : Fin 8) : Chunk.Data where
  q r k := s.main_v62_1 (ix5 (timeOf j) 0 h r k)
  k r k := s.main_v62_2 (ix5 (timeOf j) 0 h r k)
  v r d := s.main_v62_3 (ix5 (timeOf j) 0 h r d)
  g r k := s.main_v62_4 (ix5 (timeOf j) 0 h r k)
  o r d := s.main_v62_5 (ix5 (timeOf j) 0 h r d)
  s d k := s.main_v62_0 (ix5 (timeOf j) 0 h k d)

/-- The adjoint state a trip starts with, value by key. -/
def adj (h : Fin 8) (d k : Fin 128) : EReal := s.main_v62_7 (ix4 0 h k d)

variable (hj : j < 132)
include hj

theorem start_val (i : S_.Idx) : (b3 (F := Ideal) j s i).toInt = ((timeOf j).val : Int) := by
  show (BitVec.ofNat 32 132 - BitVec.ofNat 32 j - BitVec.ofNat 32 1).toInt = ((131 - j : ℕ) : Int)
  rw [show BitVec.ofNat 32 132 - BitVec.ofNat 32 j - BitVec.ofNat 32 1 = BitVec.ofNat 32 (131 - j) by
    refine BitVec.eq_of_toNat_eq ?_
    simp only [BitVec.toNat_sub, BitVec.toNat_ofNat]
    omega]
  exact WordCmp.toInt_ofNat_of_lt (by omega)

theorem b9_apply (h : Fin 8) (k d : Fin 128) : b9 j s (ix4 0 h k d) = (data j s h).s d k := by
  have key : ∀ w : FVec Ideal S1x1x8x128x128 .f32,
      shapeCast S1x8x128x128 w shapeCasts_S1x1x8x128x128_S1x8x128x128 (ix4 0 h k d) = w (ix5 0 0 h k d) := by intro w; pointwise []
  refine (key _).trans ?_
  exact slice_apply _ _ _ (timeOf j) (start_val j s hj _) rfl rfl rfl rfl 0 0 h k d

omit hj in
theorem cast_apply (w : FVec Ideal S1x1x8x64x128 .f32) (h : Fin 8) (r : Fin 64) (k : Fin 128) :
    shapeCast S1x8x64x128 w shapeCasts_S1x1x8x64x128_S1x8x64x128 (ix4 0 h r k) = w (ix5 0 0 h r k) := by pointwise []

theorem b15_apply (h : Fin 8) (r : Fin 64) (k : Fin 128) : b15 j s (ix4 0 h r k) = (data j s h).q r k :=
  (cast_apply _ h r k).trans (slice_apply _ _ _ (timeOf j) (start_val j s hj _) rfl rfl rfl rfl 0 0 h r k)

theorem b21_apply (h : Fin 8) (r : Fin 64) (k : Fin 128) : b21 j s (ix4 0 h r k) = (data j s h).k r k :=
  (cast_apply _ h r k).trans (slice_apply _ _ _ (timeOf j) (start_val j s hj _) rfl rfl rfl rfl 0 0 h r k)

theorem b27_apply (h : Fin 8) (r : Fin 64) (k : Fin 128) : b27 j s (ix4 0 h r k) = (data j s h).v r k :=
  (cast_apply _ h r k).trans (slice_apply _ _ _ (timeOf j) (start_val j s hj _) rfl rfl rfl rfl 0 0 h r k)

theorem b33_apply (h : Fin 8) (r : Fin 64) (k : Fin 128) : b33 j s (ix4 0 h r k) = (data j s h).g r k :=
  (cast_apply _ h r k).trans (slice_apply _ _ _ (timeOf j) (start_val j s hj _) rfl rfl rfl rfl 0 0 h r k)

theorem b39_apply (h : Fin 8) (r : Fin 64) (k : Fin 128) : b39 j s (ix4 0 h r k) = (data j s h).o r k :=
  (cast_apply _ h r k).trans (slice_apply _ _ _ (timeOf j) (start_val j s hj _) rfl rfl rfl rfl 0 0 h r k)

/-- The cumulated gates. -/
theorem b53_apply (h : Fin 8) (r : Fin 64) (k : Fin 128) : b53 j s (ix4 0 h r k) = Chunk.cum (data j s h) r k := by
  unfold b53
  refine (Prefix.reduceWindowAdd_apply (b33 j s) (b52 j s) (fun i => ?_) _ _ 0 h r k).trans ?_
  · pointwise [b52, b51]
  · exact Finset.sum_congr rfl fun t _ => by rw [b33_apply j s hj]

omit hj in
theorem mask_apply (h : Fin 8) (r t : Fin 64) (a b : EReal) : Scalar.select (b70 j s (ix4 0 h r t)) a b = if t ≤ r then a else b := by
  have hm : b70 j s (ix4 0 h r t) = BitVec.ofBool (decide (t ≤ r)) := by
    pointwise [b70, b50, b49, b48, b47, b46, b45, b44, b43, b42, b41, b40]
    rw [show IntOp.addi (BitVec.ofNat 32 r.val) 0#32 = BitVec.ofNat 32 r.val from BitVec.add_zero _,
      WordCmp.cmpi_sge_ofNat (by have := r.isLt; omega) (by have := t.isLt; omega)]
    by_cases hc : t ≤ r <;> simp [Scalar.select, hc]
  rw [hm]
  by_cases hc : t ≤ r <;> simp [Scalar.select, hc]

theorem b62_apply (h : Fin 8) (r : Fin 64) (k : Fin 128) : b62 j s (ix4 0 h r k) = Chunk.qt (data j s h) r k := by
  pointwise [b62, b61, b60, b59, b54, b15_apply j s hj, b53_apply j s hj]
  rfl

theorem b66_apply (h : Fin 8) (r : Fin 64) (k : Fin 128) : b66 j s (ix4 0 h r k) = Chunk.kt (data j s h) r k := by
  pointwise [b66, b65, b64, b63, b54, b21_apply j s hj, b53_apply j s hj]
  rfl

theorem b57_apply (h : Fin 8) (r : Fin 64) (k : Fin 128) : b57 j s (ix4 0 h r k) = Chunk.qh (data j s h) r k := by
  pointwise [b57, b56, b15_apply j s hj, b53_apply j s hj]
  rfl

theorem b84_apply (h : Fin 8) (r : Fin 64) (k : Fin 128) : b84 j s (ix4 0 h r k) = Chunk.kb (data j s h) r k := by
  pointwise [b84, b83, b82, b81, b55, b21_apply j s hj, b53_apply j s hj]
  rfl

theorem b72_apply (h : Fin 8) (r t : Fin 64) :
    b72 j s (ix4 0 h r t) = if t ≤ r then ∑ k : Fin 128, Chunk.qt (data j s h) r k * Chunk.kt (data j s h) t k else 0 := by
  pointwise [b72, b67, b71, b69, b68, mask_apply, b62_apply j s hj, b66_apply j s hj]

theorem b117_apply (h : Fin 8) (r t : Fin 64) :
    b117 j s (ix4 0 h r t) = if t ≤ r then ∑ d : Fin 128, (data j s h).o r d * (data j s h).v t d else 0 := by
  pointwise [b117, b114, b116, b115, mask_apply, b39_apply j s hj, b27_apply j s hj]

/-- The trip's value gradients. -/
theorem b113_apply (h : Fin 8) (r : Fin 64) (d : Fin 128) : b113 j s (ix4 0 h r d) = Chunk.dv (data j s h) (adj s h) r d := by
  pointwise [b113, b112, b111, b89, b88, b72_apply j s hj, b39_apply j s hj, b84_apply j s hj]
  rw [add_comm]
  unfold Chunk.dv
  refine congrArg₂ (· + ·) (Finset.sum_congr rfl fun t _ => ?_) (Finset.sum_congr rfl fun k _ => mul_comm _ _)
  rw [mul_comm]
  by_cases hc : r ≤ t
  · rw [if_pos hc, if_pos hc]
    exact congrArg (· * _) (Finset.sum_congr rfl fun k _ => mul_comm _ _)
  · rw [if_neg hc, if_neg hc]

/-- The trip's query gradients. -/
theorem b144_apply (h : Fin 8) (r : Fin 64) (k : Fin 128) : b144 j s (ix4 0 h r k) = Chunk.dq (data j s h) r k := by
  pointwise [b144, b143, b141, b130, b119, b56, b61, b60, b59, b54, b117_apply j s hj, b66_apply j s hj, b39_apply j s hj, b9_apply j s hj,
    b53_apply j s hj]
  exact add_comm _ _

/-- The trip's new adjoint state. -/
theorem b140_apply (h : Fin 8) (k d : Fin 128) : b140 j s (ix4 0 h k d) = Chunk.next (data j s h) (adj s h) d k := by
  pointwise [b140, b139, b138, b100, b99, b78, b77, b76, b55, b57_apply j s hj, b39_apply j s hj, b53_apply j s hj]
  rw [mul_comm]
  rfl

end Cert.TripRead

end
-- ==== Proof.RefSetup.lean ====
/- What the reference's loop is given, read at an index: the chunk trip `j` takes up is chunk `chunkAt j` of the arguments. -/
module

public import proofs.«01_k».proof.Proof.TripRead

@[expose] public section

set_option maxRecDepth 65536

noncomputable section

namespace Cert.RefSetup

open Idealize.ShloMosaic
open Cert.ReferenceIdeal Cert.ReferenceIdeal.Gen Cert.ReferenceIdeal.Step
open Cert.TripRead (timeOf)
open Cert.Chunk (colOf partOf rowOf chunkAt)

variable (p : (⟨S8448x5120, .f32⟩ : BufTy).Contents (Elt Ideal)) (lb : (⟨S2x1024, .f32⟩ : BufTy).Contents (Elt Ideal))
  (o : (⟨S8448x1024, .f32⟩ : BufTy).Contents (Elt Ideal)) (st : (⟨S132x8x128x128, .f32⟩ : BufTy).Contents (Elt Ideal))

/-- The row the `n`-th token in time lies in: the context's rows lie behind the latent ones. -/
def rowAt (n : Fin 8448) : Fin 8448 := ⟨if n.val < 256 then 8192 + n.val else n.val - 256, by split <;> omega⟩

/-- A choice between the two parts of an array is the array at the chosen index. -/
theorem dite_index {α β : Type} (c : Prop) [Decidable c] (f : α → β) (a : c → α) (b : ¬c → α) (i : α)
    (ha : ∀ h, a h = i) (hb : ∀ h, b h = i) : (if h : c then f (a h) else f (b h)) = f i := by
  by_cases h : c
  · rw [dif_pos h, ha h]
  · rw [dif_neg h, hb h]

theorem ix2_of_val {a b : ℕ} {i i' : Fin a} {k k' : Fin b} (hi : i.val = i'.val) (hk : k.val = k'.val) : ix2 i k = ix2 i' k' := by
  rw [Fin.ext hi, Fin.ext hk]

theorem z_apply (n : Fin 8448) (h : Fin 8) (k : Fin 128) : A_main_v10 p lb o st (ix4 0 n h k) = p (ix2 (rowAt n) (partOf 0 h k)) := by
  pointwise [A_main_v10, A_main_v9, A_main_v8, A_main_v7, A_main_v6, A_main_v5]
  refine dite_index _ p _ _ _ (fun hn => ix2_of_val ?_ ?_) (fun hn => ix2_of_val ?_ ?_)
  · show 8192 + n.val = if n.val < 256 then _ else _; rw [if_pos hn]
  · show _ = 1024 * 0 + (128 * h.val + k.val); first | omega | (simp; omega)
  · show n.val - 256 = if n.val < 256 then _ else _; rw [if_neg hn]
  · show _ = 1024 * 0 + (128 * h.val + k.val); first | omega | (simp; omega)

theorem v_apply (n : Fin 8448) (h : Fin 8) (k : Fin 128) : A_main_v31 p lb o st (ix4 0 n h k) = p (ix2 (rowAt n) (partOf 2 h k)) := by
  pointwise [A_main_v31, A_main_v30, A_main_v29, A_main_v28, A_main_v27, A_main_v26]
  refine dite_index _ p _ _ _ (fun hn => ix2_of_val ?_ ?_) (fun hn => ix2_of_val ?_ ?_)
  · show 8192 + n.val = if n.val < 256 then _ else _; rw [if_pos hn]
  · show 2048 + (h.val * 128 + k.val) = 1024 * 2 + (128 * h.val + k.val); omega
  · show n.val - 256 = if n.val < 256 then _ else _; rw [if_neg hn]
  · show 2048 + (h.val * 128 + k.val) = 1024 * 2 + (128 * h.val + k.val); omega

theorem q_apply (n : Fin 8448) (h : Fin 8) (k : Fin 128) : A_main_v37 p lb o st (ix4 0 n h k) = p (ix2 (rowAt n) (partOf 3 h k)) := by
  pointwise [A_main_v37, A_main_v36, A_main_v35, A_main_v34, A_main_v33, A_main_v32]
  refine dite_index _ p _ _ _ (fun hn => ix2_of_val ?_ ?_) (fun hn => ix2_of_val ?_ ?_)
  · show 8192 + n.val = if n.val < 256 then _ else _; rw [if_pos hn]
  · show 3072 + (h.val * 128 + k.val) = 1024 * 3 + (128 * h.val + k.val); omega
  · show n.val - 256 = if n.val < 256 then _ else _; rw [if_neg hn]
  · show 3072 + (h.val * 128 + k.val) = 1024 * 3 + (128 * h.val + k.val); omega

theorem o_apply (n : Fin 8448) (h : Fin 8) (k : Fin 128) : A_main_v48 p lb o st (ix4 0 n h k) = o (ix2 (rowAt n) (colOf h k)) := by
  pointwise [A_main_v48, A_main_v47, A_main_v46, A_main_v45, A_main_v44]
  refine dite_index _ o _ _ _ (fun hn => ix2_of_val ?_ ?_) (fun hn => ix2_of_val ?_ ?_)
  · show 8192 + n.val = if n.val < 256 then _ else _; rw [if_pos hn]
  · show h.val * 128 + k.val = 128 * h.val + k.val; omega
  · show n.val - 256 = if n.val < 256 then _ else _; rw [if_neg hn]
  · show h.val * 128 + k.val = 128 * h.val + k.val; omega

theorem gate_apply (n : Fin 8448) (h : Fin 8) (k : Fin 128) :
    A_main_v22 p lb o st (ix4 0 n h k) = Chunk.gate (lb (ix2 0 (colOf h k))) (p (ix2 (rowAt n) (partOf 0 h k))) := by
  pointwise [A_main_v22, A_main_v21, A_main_v20, A_main_v19, A_main_v18, A_main_v17, A_main_v16, A_main_v14, A_main_v12, A_main_v11,
    A_main_v4, A_main_v2, A_main_v1, A_main_v0, K_main_v3, K_main_cst, K_main_v13, K_main_v15, K_main_cst_0, K_main_cst_1, z_apply]
  have e : (⟨h.val * 128 + k.val, by omega⟩ : Fin 1024) = colOf h k := Fin.ext (by show h.val * 128 + k.val = 128 * h.val + k.val; omega)
  rw [e]
  rfl

theorem key_apply (n : Fin 8448) (h : Fin 8) (k : Fin 128) :
    A_main_v24 p lb o st (ix4 0 n h k) = 1 - Chunk.gate (lb (ix2 0 (colOf h k))) (p (ix2 (rowAt n) (partOf 0 h k))) := by
  pointwise [A_main_v24, K_main_v23, K_main_cst_2, gate_apply]

theorem log_apply (n : Fin 8448) (h : Fin 8) (k : Fin 128) :
    A_main_v25 p lb o st (ix4 0 n h k) = Ideal.log (Chunk.gate (lb (ix2 0 (colOf h k))) (p (ix2 (rowAt n) (partOf 0 h k)))) := by
  pointwise [A_main_v25, gate_apply]

theorem silu_apply (n : Fin 8448) (h : Fin 8) (k : Fin 128) :
    A_main_v38 p lb o st (ix4 0 n h k) = p (ix2 (rowAt n) (partOf 3 h k)) * Chunk.sg (p (ix2 (rowAt n) (partOf 3 h k))) := by
  pointwise [A_main_v38, A_main_call0_v5, A_main_call0_v3, A_main_call0_v1, A_main_call0_v0, K_main_call0_v2, K_main_call0_v4,
    K_main_call0_cst, K_main_call0_cst_0, q_apply]
  rfl

/-- The token in time that row `r` of chunk `c` is. -/
def token (c : Fin 132) (r : Fin 64) : Fin 8448 := ⟨c.val * 64 + r.val, by omega⟩

theorem rowAt_token (j : ℕ) (hj : j < 132) (r : Fin 64) : rowAt (token (timeOf j) r) = rowOf (chunkAt j) r := by
  refine Fin.ext ?_
  show (if (131 - j) * 64 + r.val < 256 then 8192 + ((131 - j) * 64 + r.val) else (131 - j) * 64 + r.val - 256)
    = 64 * (if j < 128 then 127 - j else (259 - j) % 132) + r.val
  split <;> split <;> omega

section Cut

variable (c : Fin 132) (h : Fin 8) (r : Fin 64) (k : Fin 128)

/-- Rows taken in chunks, the chunk foremost. -/
theorem cut_apply (w : FVec Ideal S1x8448x8x128 .f32) :
    (transpose S132x1x8x64x128 [1, 0, 3, 2, 4] (shapeCast S1x132x64x8x128 w shapeCasts_S1x8448x8x128_S1x132x64x8x128)
      transposes_S1x132x64x8x128_S132x1x8x64x128_1_0_3_2_4) (ix5 c 0 h r k) = w (ix4 0 (token c r) h k) := by
  pointwise []
  rfl

theorem cut_q : A_main_v53 p lb o st (ix5 c 0 h r k) = A_main_v38 p lb o st (ix4 0 (token c r) h k) :=
  cut_apply c h r k (A_main_v38 p lb o st)
theorem cut_k : A_main_v55 p lb o st (ix5 c 0 h r k) = A_main_v24 p lb o st (ix4 0 (token c r) h k) :=
  cut_apply c h r k (A_main_v24 p lb o st)
theorem cut_v : A_main_v57 p lb o st (ix5 c 0 h r k) = A_main_v31 p lb o st (ix4 0 (token c r) h k) :=
  cut_apply c h r k (A_main_v31 p lb o st)
theorem cut_g : A_main_v59 p lb o st (ix5 c 0 h r k) = A_main_v25 p lb o st (ix4 0 (token c r) h k) :=
  cut_apply c h r k (A_main_v25 p lb o st)
theorem cut_o : A_main_v50 p lb o st (ix5 c 0 h r k) = A_main_v48 p lb o st (ix4 0 (token c r) h k) :=
  cut_apply c h r k (A_main_v48 p lb o st)

end Cut

theorem st_apply (j : ℕ) (hj : j < 132) (h : Fin 8) (d k : Fin 128) :
    A_main_v43 p lb o st (ix5 (timeOf j) 0 h k d) = st (ix4 (chunkAt j) h d k) := by
  pointwise [A_main_v43, A_main_v42, A_main_v41, A_main_v40, A_main_v39]
  refine dite_index _ st _ _ _ (fun hn => ?_) (fun hn => ?_)
  · have hc : 131 - j < 4 := hn
    refine congrArg (fun M => ix4 M h d k) (Fin.ext ?_)
    show 128 + (131 - j) = if j < 128 then 127 - j else (259 - j) % 132
    split <;> omega
  · have hc : ¬131 - j < 4 := hn
    refine congrArg (fun M => ix4 M h d k) (Fin.ext ?_)
    show 131 - j - 4 = if j < 128 then 127 - j else (259 - j) % 132
    split <;> omega

/-- A record that still holds the arrays the loop was given. -/
structure Given (s : State Ideal) : Prop where
  at_st : s.main_v62_0 = A_main_v43 p lb o st
  at_q : s.main_v62_1 = A_main_v53 p lb o st
  at_k : s.main_v62_2 = A_main_v55 p lb o st
  at_v : s.main_v62_3 = A_main_v57 p lb o st
  at_g : s.main_v62_4 = A_main_v59 p lb o st
  at_o : s.main_v62_5 = A_main_v50 p lb o st

/-- The data of trip `j`. -/
theorem data_eq {s : State Ideal} (hs : Given p lb o st s) (j : ℕ) (hj : j < 132) (h : Fin 8) :
    TripRead.data j s h = Chunk.chunk p lb o st (chunkAt j) h := by
  unfold TripRead.data Chunk.chunk
  rw [hs.at_st, hs.at_q, hs.at_k, hs.at_v, hs.at_g, hs.at_o]
  simp only [cut_q, cut_k, cut_v, cut_g, cut_o, silu_apply, key_apply, v_apply, log_apply, o_apply, st_apply p lb o st j hj, rowAt_token j hj]

end Cert.RefSetup

end
-- ==== Proof.RefValue.lean ====
/- The reference's results. By induction on the trips: the loop's adjoint after `n` trips is `adjoint n`, and the chunks of the two
   arrays it fills are those of the specification for every trip made. -/
module

public import proofs.«01_k».proof.Proof.RefRun
public import proofs.«01_k».proof.Proof.RefSetup
public import proofs.«01_k».proof.Proof.Whole

@[expose] public section

set_option maxRecDepth 65536

noncomputable section

namespace Cert.RefValue

open Idealize.ShloMosaic
open Cert.ReferenceIdeal Cert.ReferenceIdeal.Gen Cert.ReferenceIdeal.Step
open Cert.TripRead (timeOf adj)
open Cert.Chunk (colOf rowOf chunkAt stepOf chunk adjoint)

/-- One chunk written among all, read at an index. -/
theorem put_apply {α : Type} (x : (⟨5, ![132, 1, 8, 64, 128]⟩ : Shape).Idx → α) (upd : (⟨5, ![1, 1, 8, 64, 128]⟩ : Shape).Idx → α)
    (start : Fin 5 → Int) (hs : (⟨5, ![132, 1, 8, 64, 128]⟩ : Shape).Slices (fun _ => 0) ⟨5, ![1, 1, 8, 64, 128]⟩) (c : Fin 132)
    (h0 : start 0 = (c.val : Int)) (h1 : start 1 = 0) (h2 : start 2 = 0) (h3 : start 3 = 0) (h4 : start 4 = 0)
    (c' : Fin 132) (w : Fin 1) (h : Fin 8) (r : Fin 64) (k : Fin 128) :
    Host.dynamicUpdateSlice x upd start hs (ix5 c' w h r k) = if c' = c then upd (ix5 0 w h r k) else x (ix5 c' w h r k) := by
  have e0 := Host.clampedStart_of_le hs.1 start 0 c.val h0 (by show c.val + 1 ≤ 132; omega)
  have e1 := Host.clampedStart_of_le hs.1 start 1 0 h1 (by show 0 + 1 ≤ 1; omega)
  have e2 := Host.clampedStart_of_le hs.1 start 2 0 h2 (by show 0 + 8 ≤ 8; omega)
  have e3 := Host.clampedStart_of_le hs.1 start 3 0 h3 (by show 0 + 64 ≤ 64; omega)
  have e4 := Host.clampedStart_of_le hs.1 start 4 0 h4 (by show 0 + 128 ≤ 128; omega)
  rw [Host.dynamicUpdateSlice_apply]
  by_cases hc : c' = c
  · subst hc
    rw [if_pos rfl, dif_pos (fun a => by
      match a with
      | 0 => rw [e0]; show c'.val ≤ c'.val ∧ c'.val < c'.val + 1; omega
      | 1 => rw [e1]; show 0 ≤ w.val ∧ w.val < 0 + 1; omega
      | 2 => rw [e2]; show 0 ≤ h.val ∧ h.val < 0 + 8; omega
      | 3 => rw [e3]; show 0 ≤ r.val ∧ r.val < 0 + 64; omega
      | 4 => rw [e4]; show 0 ≤ k.val ∧ k.val < 0 + 128; omega)]
    refine congrArg upd (funext fun a => Fin.ext ?_)
    match a with
    | 0 => show c'.val - Host.clampedStart _ _ _ _ 0 = 0; rw [e0]; omega
    | 1 => show w.val - Host.clampedStart _ _ _ _ 1 = w.val; rw [e1]; omega
    | 2 => show h.val - Host.clampedStart _ _ _ _ 2 = h.val; rw [e2]; omega
    | 3 => show r.val - Host.clampedStart _ _ _ _ 3 = r.val; rw [e3]; omega
    | 4 => show k.val - Host.clampedStart _ _ _ _ 4 = k.val; rw [e4]; omega
  · rw [if_neg hc, dif_neg (fun hin => hc (Fin.ext (by
      have hb := hin 0
      rw [e0] at hb
      have hb1 : c.val ≤ c'.val := hb.1
      have hb2 : c'.val < c.val + 1 := hb.2
      omega)))]

section Trip

variable (j : ℕ) (s : State Ideal) (hj : j < 132)
include hj

theorem b161_apply (c : Fin 132) (h : Fin 8) (r : Fin 64) (d : Fin 128) :
    b161 j s (ix5 c 0 h r d) = if c = timeOf j then Chunk.dv (TripRead.data j s h) (adj s h) r d else s.main_v62_8 (ix5 c 0 h r d) := by
  refine (put_apply s.main_v62_8 (b156 j s) _ _ (timeOf j) (TripRead.start_val j s hj _) rfl rfl rfl rfl c 0 h r d).trans ?_
  rw [← TripRead.b113_apply j s hj h r d]
  refine if_congr Iff.rfl ?_ rfl
  unfold b156
  generalize b113 j s = w
  pointwise []

theorem b167_apply (c : Fin 132) (h : Fin 8) (r : Fin 64) (k : Fin 128) :
    b167 j s (ix5 c 0 h r k) = if c = timeOf j then Chunk.dq (TripRead.data j s h) r k else s.main_v62_9 (ix5 c 0 h r k) := by
  refine (put_apply s.main_v62_9 (b162 j s) _ _ (timeOf j) (TripRead.start_val j s hj _) rfl rfl rfl rfl c 0 h r k).trans ?_
  rw [← TripRead.b144_apply j s hj h r k]
  refine if_congr Iff.rfl ?_ rfl
  unfold b162
  generalize b144 j s = w
  pointwise []

end Trip

variable (p : (⟨S8448x5120, .f32⟩ : BufTy).Contents (Elt Ideal)) (lb : (⟨S2x1024, .f32⟩ : BufTy).Contents (Elt Ideal))
  (o : (⟨S8448x1024, .f32⟩ : BufTy).Contents (Elt Ideal)) (st : (⟨S132x8x128x128, .f32⟩ : BufTy).Contents (Elt Ideal))

/-- The loop's record after `n` trips. -/
def after : ℕ → State Ideal
  | 0 => init p lb o st
  | n + 1 => step n (after n)

theorem given : ∀ n, RefSetup.Given p lb o st (after p lb o st n)
  | 0 => ⟨rfl, rfl, rfl, rfl, rfl, rfl⟩
  | n + 1 => ⟨(given n).at_st, (given n).at_q, (given n).at_k, (given n).at_v, (given n).at_g, (given n).at_o⟩

theorem adj_after (h : Fin 8) : ∀ n, n ≤ 132 → adj (after p lb o st n) h = adjoint p lb o st h n
  | 0, _ => by
    funext d k
    show K_main_v51 (F := Ideal) (ix4 0 h k d) = 0
    pointwise [K_main_v51, K_main_cst_3]
  | n + 1, hn => by
    funext d k
    show b140 n (after p lb o st n) (ix4 0 h k d) = Chunk.next (chunk p lb o st (chunkAt n) h) (adjoint p lb o st h n) d k
    rw [TripRead.b140_apply n _ (by omega), RefSetup.data_eq p lb o st (given p lb o st n) n (by omega), adj_after h n (by omega)]

theorem timeOf_ne {i j : ℕ} (hij : i < j) (hj : j < 132) : timeOf i ≠ timeOf j := fun e => by
  have h : 131 - i = 131 - j := congrArg Fin.val e
  omega

theorem dv_after (h : Fin 8) (r : Fin 64) (d : Fin 128) : ∀ n, n ≤ 132 → ∀ j, j < n →
    (after p lb o st n).main_v62_8 (ix5 (timeOf j) 0 h r d) = Chunk.dv (chunk p lb o st (chunkAt j) h) (adjoint p lb o st h j) r d
  | 0, _, j, hj => absurd hj (Nat.not_lt_zero j)
  | n + 1, hn, j, hj => by
    show b161 n (after p lb o st n) (ix5 (timeOf j) 0 h r d) = _
    rw [b161_apply n _ (by omega)]
    by_cases hjn : j = n
    · subst hjn
      rw [if_pos rfl, RefSetup.data_eq p lb o st (given p lb o st j) j (by omega), adj_after p lb o st h j (by omega)]
    · rw [if_neg (timeOf_ne (by omega) (by omega)), dv_after h r d n (by omega) j (by omega)]

theorem dq_after (h : Fin 8) (r : Fin 64) (k : Fin 128) : ∀ n, n ≤ 132 → ∀ j, j < n →
    (after p lb o st n).main_v62_9 (ix5 (timeOf j) 0 h r k) = Chunk.dq (chunk p lb o st (chunkAt j) h) r k
  | 0, _, j, hj => absurd hj (Nat.not_lt_zero j)
  | n + 1, hn, j, hj => by
    show b167 n (after p lb o st n) (ix5 (timeOf j) 0 h r k) = _
    rw [b167_apply n _ (by omega)]
    by_cases hjn : j = n
    · subst hjn
      rw [if_pos rfl, RefSetup.data_eq p lb o st (given p lb o st j) j (by omega)]
    · rw [if_neg (timeOf_ne (by omega) (by omega)), dq_after h r k n (by omega) j (by omega)]

/-- A chunk of time at index level: rows below 8192 are the latent ones, which come behind the context's. -/
theorem ix5_back {c : Fin 132} {h : Fin 8} {r : Fin 64} {k : Fin 128} {M : Fin 132} {h' : Fin 8} {r' : Fin 64} {k' : Fin 128}
    (x : ℕ) (hx : x = 64 * (131 - stepOf M) + r'.val) (y : ℕ) (hy : y = 128 * h'.val + k'.val)
    (ec : c.val = x / 64) (er : r.val = x % 64) (eh : h.val = y / 128) (ek : k.val = y % 128) :
    ix5 c 0 h r k = ix5 (timeOf (stepOf M)) (0 : Fin 1) h' r' k' := by
  have := Chunk.stepOf_lt M
  have tc : c = timeOf (stepOf M) := Fin.ext (by show c.val = 131 - stepOf M; omega)
  have tr : r = r' := Fin.ext (by omega)
  have th : h = h' := Fin.ext (by omega)
  have tk : k = k' := Fin.ext (by omega)
  rw [tc, tr, th, tk]

theorem row_latent {M : Fin 132} {r : Fin 64} (h : (rowOf M r).val < 8192) : 256 + (rowOf M r).val = 64 * (131 - stepOf M) + r.val := by
  have e : 64 * M.val + r.val < 8192 := h
  show 256 + (64 * M.val + r.val) = _
  unfold stepOf
  split <;> omega

theorem row_context {M : Fin 132} {r : Fin 64} (h : ¬(rowOf M r).val < 8192) : (rowOf M r).val - 8192 = 64 * (131 - stepOf M) + r.val := by
  have e : ¬64 * M.val + r.val < 8192 := h
  show 64 * M.val + r.val - 8192 = _
  unfold stepOf
  split <;> omega

theorem out_dv_apply (s : State Ideal) (M : Fin 132) (r : Fin 64) (h : Fin 8) (k : Fin 128) :
    R_main_v68 s (ix2 (rowOf M r) (colOf h k)) = s.main_v62_8 (ix5 (timeOf (stepOf M)) 0 h r k) := by
  unfold R_main_v68
  generalize s.main_v62_8 = w
  pointwise []
  exact RefSetup.dite_index _ w _ _ _ (fun hn => ix5_back _ (row_latent hn) _ rfl rfl rfl rfl rfl)
    (fun hn => ix5_back _ (row_context hn) _ rfl rfl rfl rfl rfl)

theorem out_dq_apply (s : State Ideal) (M : Fin 132) (r : Fin 64) (h : Fin 8) (k : Fin 128) :
    R_main_v74 s (ix2 (rowOf M r) (colOf h k)) = s.main_v62_9 (ix5 (timeOf (stepOf M)) 0 h r k) :=
  out_dv_apply { s with main_v62_8 := s.main_v62_9 } M r h k

/-- The first result is the specification's, -/
theorem dv_eq : R_main_v68 (after p lb o st 132) = Chunk.dvAll p lb o st :=
  Chunk.eq_dvAll fun M r h d => by
    rw [out_dv_apply, dv_after p lb o st h r d 132 le_rfl _ (Chunk.stepOf_lt M), Chunk.chunkAt_stepOf]

/-- and the second. -/
theorem dq_eq : R_main_v74 (after p lb o st 132) = Chunk.dqAll p lb o st :=
  Chunk.eq_dqAll fun M r h k => by
    rw [out_dq_apply, dq_after p lb o st h r k 132 le_rfl _ (Chunk.stepOf_lt M), Chunk.chunkAt_stepOf]

section Run

variable (m : (ℓ : Loc nD τ sig) → Buf (Elt Ideal) ℓ) (c : Dev nD)

theorem record_eq : ∀ n, RefRun.record m c n = after (m ((c.tc : Thread nD τ).loc main_arg0)) (m ((c.tc : Thread nD τ).loc main_arg1))
    (m ((c.tc : Thread nD τ).loc main_arg2)) (m ((c.tc : Thread nD τ).loc main_arg3)) n
  | 0 => rfl
  | n + 1 => congrArg (step n) (record_eq n)

end Run

end Cert.RefValue

end
-- ==== Proof.Bound.lean ====
/- The precondition read: that the printed comparison holds everywhere says that the bounds of the gates are below plus infinity. -/
module

public import proofs.«01_k».proof.Defs
public import proofs.«01_k».proof.Proof.Gen.Pre_below_infinity
public import proofs.«01_k».proof.Proof.KernelValue

@[expose] public section

noncomputable section

namespace Cert.Bound

open Idealize.ShloMosaic Idealize.ShloMosaic.TcCoe

/-- The word of plus infinity denotes plus infinity. -/
theorem infinity : Ideal.ofBits .f32 0x7F800000#32 = ⊤ := by
  simp [Ideal.ofBits, Ideal.ieee]

/-- The printed comparison at an entry. -/
theorem entry {p o s : _} (b : FVec Ideal Cert.Pre_below_infinity.S2x1024 .f32) [Cert.Pre_below_infinity.Facts]
    (h : Cert.Pre_below_infinity.fn (F := Ideal) p b o s = fun _ => 1#1) (i : Cert.Pre_below_infinity.S2x1024.Idx) : @LT.lt EReal _ (b i) ⊤ := by
  have e : Ideal.cmp .olt (b i) (Ideal.ofBits .f32 0x7F800000#32) = 1#1 := congrFun h i
  rw [infinity] at e
  by_contra hn
  unfold Ideal.cmp at e
  simp only [hn, decide_false] at e
  exact absurd e (by decide)

theorem below {m : _} (h : Cert.Pre_KernelIdeal_below_infinity (hPre_below_infinity := Cert.Pre_below_infinity.Gen.facts) m) (c : Dev Cert.KernelIdeal.nD) : Cert.KernelValue.Below m c :=
  fun k => entry _ (h c) (ix2 0 k)

end Cert.Bound

end
-- ==== Proof.Grad.lean ====
/- The gradient of a weight, `aᵀ b` over the 8448 rows, and the sum of its three chunks of 2816 rows that a kernel accumulates in a scratch
   buffer it clears before the first. -/
module

public import Idealize.ShloMosaic.Lib.Pointwise.Index
public import Idealize.ShloMosaic.PureOps.Ideal
public import Mathlib.Algebra.BigOperators.Fin

@[expose] public section

set_option maxRecDepth 65536

noncomputable section

namespace Cert.Grad

open Idealize.ShloMosaic

/-- The product of a column of `a` and a column of `b`. -/
def gradient {wa wb : ℕ} (a : (⟨2, ![8448, wa]⟩ : Shape).Idx → EReal) (b : (⟨2, ![8448, wb]⟩ : Shape).Idx → EReal) (i : Fin wa) (k : Fin wb) : EReal :=
  ∑ r : Fin 8448, a (ix2 r i) * b (ix2 r k)

/-- A column of one of `n` blocks of `w` columns each. -/
def column {n w : ℕ} (j : Fin n) (k : Fin w) : Fin (n * w) :=
  ⟨j.val * w + k.val, by have := Nat.mul_le_mul_right w (Nat.succ_le_of_lt j.isLt); have := k.isLt; rw [Nat.succ_mul] at *; omega⟩

/-- Row `r` of the chunk a point takes. -/
def row (n : ℕ) (r : Fin 2816) : Fin 8448 := ⟨2816 * (n % 3) + r.val, by omega⟩

/-- A sum over the rows is the sum of its three chunks. -/
theorem sum_rows (p : Fin 8448 → EReal) : (∑ r, p (row 0 r) + ∑ r, p (row 1 r)) + ∑ r, p (row 2 r) = ∑ r, p r := by
  have e : ∑ r, p r = ∑ s : Fin 3, ∑ r : Fin 2816, p (row s.val r) := by
    rw [← Fintype.sum_prod_type' (f := fun (s : Fin 3) (r : Fin 2816) => p (row s.val r))]
    refine (Fintype.sum_equiv (finProdFinEquiv (m := 3) (n := 2816)) _ p fun x => congrArg p (Fin.ext ?_)).symm
    show 2816 * (x.1.val % 3) + x.2.val = x.2.val + 2816 * x.1.val
    rw [Nat.mod_eq_of_lt x.1.isLt, Nat.add_comm]
  rw [e, Fin.sum_univ_three]
  rfl

/-- A value cleared at every third point, to which every point adds its chunk, is the whole sum after the third. -/
theorem accumulated {N : ℕ} (f : ∀ n, n < N → EReal) (p : ℕ → Fin 8448 → EReal)
    (step : ∀ n (hn : n < N), f n hn = (if n % 3 = 0 then 0 else f (n - 1) (Nat.lt_of_le_of_lt (Nat.sub_le _ _) hn)) + ∑ r, p (n / 3) (row n r))
    (n : ℕ) (hn : n < N) (h : n % 3 = 2) : f n hn = ∑ r, p (n / 3) r := by
  have rows : ∀ a b : ℕ, a % 3 = b % 3 → row a = row b := fun a b e => by
    funext r; exact Fin.ext (by show 2816 * (a % 3) + r.val = 2816 * (b % 3) + r.val; rw [e])
  have d1 : (n - 1) / 3 = n / 3 := by omega
  have d2 : (n - 1 - 1) / 3 = n / 3 := by omega
  rw [step n hn, if_neg (by omega), step (n - 1), if_neg (by omega), step (n - 1 - 1), if_pos (by omega), zero_add, d1, d2,
    rows n 2 (by omega), rows (n - 1) 1 (by omega), rows (n - 1 - 1) 0 (by omega), sum_rows]

/-- An index of a stack of blocks by its coordinates, and of a single block. -/
theorem split {a b d : ℕ} (y : (⟨3, ![a, b, d]⟩ : Shape).Idx) : ∃ (j : Fin a) (i : Fin b) (k : Fin d), y = ix3 j i k :=
  ⟨y 0, y 1, y 2, by
    funext x
    match x with
    | 0 => rfl
    | 1 => rfl
    | 2 => rfl⟩

theorem split_block {b d : ℕ} (y : (⟨3, ![1, b, d]⟩ : Shape).Idx) : ∃ (i : Fin b) (k : Fin d), y = ix3 0 i k := by
  obtain ⟨j, i, k, e⟩ := split y
  exact ⟨i, k, by rw [e, Subsingleton.elim j 0]⟩

end Cert.Grad

end
-- ==== Proof.Grad3.lean ====
/- The second weight's gradient: block `n / 3` of the result, which a kernel point adds a chunk of 2816 rows to. -/
module

public import proofs.«01_k».proof.Proof.Gen.Kernel3Ideal.Value
public import Idealize.ShloMosaic.Lib.Pointwise
public import Idealize.ShloMosaic.Lib.Pipeline.ValueKit.Acc
public import proofs.«01_k».proof.Proof.Grad

@[expose] public section

set_option maxRecDepth 65536

noncomputable section

namespace Cert.Grad3

open Idealize.ShloMosaic Idealize.ShloMosaic.TcCoe Idealize.SL.Sem
open Cert.Kernel3Ideal Cert.Kernel3Ideal.Gen Cert.Kernel3Ideal.Value
open Cert.Grad (gradient column row)

variable (m : (ℓ : Loc nD τ sig) → Buf (Elt Ideal) ℓ) (c : Dev nD)

/-- The two arguments as launched. -/
abbrev argA : (⟨2, ![8448, 4096]⟩ : Shape).Idx → EReal := m ((c : Thread nD τ).loc main_arg0)
abbrev argB : (⟨2, ![8448, 1024]⟩ : Shape).Idx → EReal := m ((c : Thread nD τ).loc main_arg1)

theorem lt12 (t : Fin cfg0.N) : t.val < 12 := lt_of_lt_of_eq t.isLt (show cfg0.N = 12 from N_0)

theorem index0 : ∀ t : Fin cfg0.N, win0_0.index t (0 : Fin 2) = t.val % 3 ∧ win0_0.index t (1 : Fin 2) = t.val / 3 :=
  (by decide +kernel : ∀ t : Fin grid0.N, _)
theorem index1 : ∀ t : Fin cfg0.N, win0_1.index t (0 : Fin 2) = t.val % 3 ∧ win0_1.index t (1 : Fin 2) = 0 :=
  (by decide +kernel : ∀ t : Fin grid0.N, _)
theorem index2 : ∀ t : Fin cfg0.N, win0_2.index t (0 : Fin 3) = t.val / 3 ∧ win0_2.index t (1 : Fin 3) = 0 ∧ win0_2.index t (2 : Fin 3) = 0 :=
  (by decide +kernel : ∀ t : Fin grid0.N, _)

/-- The blocks of the result, in order: point `t` adds to block `t / 3`. -/
def block (j : ℕ) : Fin 4 := ⟨j % 4, Nat.mod_lt _ (by decide)⟩

section Read

variable (t : Fin cfg0.N) (r : Fin 2816) (i k : Fin 1024)

theorem emb0 : ((cfg0.win 0).blk t).view.emb (ix2 r i) = ix2 (row t.val r) (column (block (t.val / 3)) i) := by
  obtain ⟨e0, e1⟩ := index0 t
  have := lt12 t
  funext a; apply Fin.ext
  match a with
  | 0 => show win0_0.index t (0 : Fin 2) * 2816 + 1 * r.val = 2816 * (t.val % 3) + r.val; omega
  | 1 => show win0_0.index t (1 : Fin 2) * 1024 + 1 * i.val = t.val / 3 % 4 * 1024 + i.val; omega

theorem emb1 : ((cfg0.win 1).blk t).view.emb (ix2 r k) = ix2 (row t.val r) k := by
  obtain ⟨e0, e1⟩ := index1 t
  funext a; apply Fin.ext
  match a with
  | 0 => show win0_1.index t (0 : Fin 2) * 2816 + 1 * r.val = 2816 * (t.val % 3) + r.val; omega
  | 1 => show win0_1.index t (1 : Fin 2) * 1024 + 1 * k.val = k.val; omega

theorem emb2 : ((cfg0.win 2).blk t).view.emb (ix3 0 i k) = ix3 (block (t.val / 3)) i k := by
  obtain ⟨e0, e1, e2⟩ := index2 t
  have := lt12 t
  funext a; apply Fin.ext
  match a with
  | 0 => show win0_2.index t (0 : Fin 3) * 1 + 1 * 0 = t.val / 3 % 4; omega
  | 1 => show win0_2.index t (1 : Fin 3) * 1024 + 1 * i.val = i.val; omega
  | 2 => show win0_2.index t (2 : Fin 3) * 1024 + 1 * k.val = k.val; omega

/-- The blocks a point is given. -/
abbrev blkA : Vec Ideal S2816x1024 .bf16 := iblk m c 0 t
abbrev blkB : Vec Ideal S2816x1024 .bf16 := iblk m c 1 t

theorem blkA_apply : blkA m c t (ix2 r i) = argA m c (ix2 (row t.val r) (column (block (t.val / 3)) i)) := by
  show V m c main_arg0 (((cfg0.win 0).blk t).view.emb (ix2 r i)) = _
  rw [emb0, V_main_arg0]

theorem blkB_apply : blkB m c t (ix2 r k) = argB m c (ix2 (row t.val r) k) := by
  show V m c main_arg1 (((cfg0.win 1).blk t).view.emb (ix2 r k)) = _
  rw [emb1, V_main_arg1]

theorem clear_apply : k0_pay1 (F := Ideal) (ix2 i k) = 0 := by
  pointwise [k0_pay1]

theorem add_apply (a : Vec Ideal S2816x1024 .bf16) (s : Vec Ideal S1024x1024 .f32) (b : Vec Ideal S2816x1024 .bf16) :
    k0_pay2 a s b (ix2 i k) = s (ix2 i k) + ∑ r : Fin 2816, (a (ix2 r i) * a (ix2 r i)) * b (ix2 r k) := by
  pointwise [k0_pay2]

theorem store_apply (s : Vec Ideal S1024x1024 .f32) : k0_pay3 s (ix3 0 i k) = s (ix2 i k) := by
  pointwise [k0_pay3]

/-- What a point leaves in the scratch buffer. -/
theorem left_apply : (outsAt0 m c t.val t.isLt).2 (ix2 i k)
    = (if t.val % 3 = 0 then 0 else (outsAt0 m c (t.val - 1) (Nat.lt_of_le_of_lt (Nat.sub_le _ _) t.isLt)).2 (ix2 i k))
      + ∑ r : Fin 2816, (blkA m c t (ix2 r i) * blkA m c t (ix2 r i)) * blkB m c t (ix2 r k) := by
  by_cases h0 : t.val % 3 = 0
  · have h1 : ¬t.val % 3 = 2 := by omega
    rw [outsAt0_A m c t h0 h1, if_pos h0, ← clear_apply i k, ← add_apply]
    frame_out
  · rw [if_neg h0, ← add_apply]
    by_cases h1 : t.val % 3 = 2
    · rw [outsAt0_C m c t h0 h1]
      frame_out
      exact congrArg (fun s => k0_pay2 (blkA m c t) s (blkB m c t) (ix2 i k)) (Memref.IsWhole.read_unread (Memref.isWhole_whole cc0_scratch0) _)
    · rw [outsAt0_B m c t h0 h1]
      frame_out
      exact congrArg (fun s => k0_pay2 (blkA m c t) s (blkB m c t) (ix2 i k)) (Memref.IsWhole.read_unread (Memref.isWhole_whole cc0_scratch0) _)

/-- What a last point writes back, of what it leaves in the scratch buffer. -/
theorem out_apply (h1 : t.val % 3 = 2) : (outsAt0 m c t.val t.isLt).1 (ix3 0 i k) = (outsAt0 m c t.val t.isLt).2 (ix2 i k) := by
  have h0 : ¬t.val % 3 = 0 := by omega
  rw [outsAt0_C m c t h0 h1]
  refine Eq.trans ?_ (store_apply i k _)
  frame_out

end Read

/-- The gradient, block by block. -/
def blocks (a : (⟨2, ![8448, 4096]⟩ : Shape).Idx → EReal) (b : (⟨2, ![8448, 1024]⟩ : Shape).Idx → EReal) :
    (⟨3, ![4, 1024, 1024]⟩ : Shape).Idx → EReal := fun y =>
  gradient (fun z => a z * a z) b (column (y 0) (y 1)) (y 2)

abbrev result := blocks (argA m c) (argB m c)

theorem left_eq (t : Fin cfg0.N) (h : t.val % 3 = 2) (i k : Fin 1024) :
    (outsAt0 m c t.val t.isLt).2 (ix2 i k) = result m c (ix3 (block (t.val / 3)) i k) :=
  Grad.accumulated (fun n hn => (outsAt0 m c n hn).2 (ix2 i k))
    (fun j r => (argA m c (ix2 r (column (block j) i)) * argA m c (ix2 r (column (block j) i))) * argB m c (ix2 r k))
    (fun n hn => by
      refine (left_apply m c ⟨n, hn⟩ i k).trans ?_
      simp only [blkA_apply, blkB_apply])
    t.val t.isLt h

theorem flushed_eq (t : Fin cfg0.N) (hf : (cfg0.win 2).flush t = true) :
    (dats m 0 c).flushed 2 t = ((cfg0.win 2).blk t).view.read (Elt Ideal) (result m c) := by
  have h := (flush0_2 t).mp hf
  rw [flushed2]
  funext y
  obtain ⟨i, k, rfl⟩ := Grad.split_block y
  show (outsAt0 m c t.val t.isLt).1 (ix3 0 i k) = result m c (((cfg0.win 2).blk t).view.emb (ix3 0 i k))
  rw [emb2, out_apply m c t _ _ h, left_eq m c t h]

/-- The last point of a block. -/
def pointOf (j : Fin 4) : Fin cfg0.N := ⟨3 * j.val + 2, lt_of_lt_of_eq (by omega) (show cfg0.N = 12 from N_0).symm⟩

theorem block_point (j : Fin 4) : block ((pointOf j).val / 3) = j := Fin.ext (by show (3 * j.val + 2) / 3 % 4 = j.val; omega)

theorem cover (j : Fin 4) (i k : Fin 1024) : ∃ t : Fin cfg0.N, (cfg0.win 2).flush t = true ∧ ix3 j i k ∈ ((cfg0.win 2).blk t).view.set := by
  refine ⟨pointOf j, (flush0_2 _).mpr (by show (3 * j.val + 2) % 3 = 2; omega), ?_⟩
  have e := ((cfg0.win 2).blk (pointOf j)).view.emb_mem_set (ix3 0 i k)
  rw [emb2, block_point] at e
  exact e

/-- The array of the gradient after the run. -/
theorem final : (dats m 0 c).arrAt 2 cfg0.N = result m c :=
  (dats m 0 c).arrAt_eq_of_cover 2 _ (flushed_eq m c) fun y => by
    obtain ⟨j, i, k, rfl⟩ := Grad.split y
    exact cover j i k

end Cert.Grad3

end
-- ==== Proof.Grad4.lean ====
/- The first weight's gradient: block `n / 3` of the result, which a kernel point adds a chunk of 2816 rows to. -/
module

public import proofs.«01_k».proof.Proof.Gen.Kernel4Ideal.Value
public import Idealize.ShloMosaic.Lib.Pointwise
public import Idealize.ShloMosaic.Lib.Pipeline.ValueKit.Acc
public import proofs.«01_k».proof.Proof.Grad

@[expose] public section

set_option maxRecDepth 65536

noncomputable section

namespace Cert.Grad4

open Idealize.ShloMosaic Idealize.ShloMosaic.TcCoe Idealize.SL.Sem
open Cert.Kernel4Ideal Cert.Kernel4Ideal.Gen Cert.Kernel4Ideal.Value
open Cert.Grad (gradient column row)

variable (m : (ℓ : Loc nD τ sig) → Buf (Elt Ideal) ℓ) (c : Dev nD)

/-- The two arguments as launched. -/
abbrev argA : (⟨2, ![8448, 1024]⟩ : Shape).Idx → EReal := m ((c : Thread nD τ).loc main_arg0)
abbrev argB : (⟨2, ![8448, 4096]⟩ : Shape).Idx → EReal := m ((c : Thread nD τ).loc main_arg1)

theorem lt12 (t : Fin cfg0.N) : t.val < 12 := lt_of_lt_of_eq t.isLt (show cfg0.N = 12 from N_0)

theorem index0 : ∀ t : Fin cfg0.N, win0_0.index t (0 : Fin 2) = t.val % 3 ∧ win0_0.index t (1 : Fin 2) = 0 :=
  (by decide +kernel : ∀ t : Fin grid0.N, _)
theorem index1 : ∀ t : Fin cfg0.N, win0_1.index t (0 : Fin 2) = t.val % 3 ∧ win0_1.index t (1 : Fin 2) = t.val / 3 :=
  (by decide +kernel : ∀ t : Fin grid0.N, _)
theorem index2 : ∀ t : Fin cfg0.N, win0_2.index t (0 : Fin 3) = t.val / 3 ∧ win0_2.index t (1 : Fin 3) = 0 ∧ win0_2.index t (2 : Fin 3) = 0 :=
  (by decide +kernel : ∀ t : Fin grid0.N, _)

/-- The blocks of the result, in order: point `t` adds to block `t / 3`. -/
def block (j : ℕ) : Fin 4 := ⟨j % 4, Nat.mod_lt _ (by decide)⟩

section Read

variable (t : Fin cfg0.N) (r : Fin 2816) (i k : Fin 1024)

theorem emb0 : ((cfg0.win 0).blk t).view.emb (ix2 r i) = ix2 (row t.val r) i := by
  obtain ⟨e0, e1⟩ := index0 t
  funext a; apply Fin.ext
  match a with
  | 0 => show win0_0.index t (0 : Fin 2) * 2816 + 1 * r.val = 2816 * (t.val % 3) + r.val; omega
  | 1 => show win0_0.index t (1 : Fin 2) * 1024 + 1 * i.val = i.val; omega

theorem emb1 : ((cfg0.win 1).blk t).view.emb (ix2 r k) = ix2 (row t.val r) (column (block (t.val / 3)) k) := by
  obtain ⟨e0, e1⟩ := index1 t
  have := lt12 t
  funext a; apply Fin.ext
  match a with
  | 0 => show win0_1.index t (0 : Fin 2) * 2816 + 1 * r.val = 2816 * (t.val % 3) + r.val; omega
  | 1 => show win0_1.index t (1 : Fin 2) * 1024 + 1 * k.val = t.val / 3 % 4 * 1024 + k.val; omega

theorem emb2 : ((cfg0.win 2).blk t).view.emb (ix3 0 i k) = ix3 (block (t.val / 3)) i k := by
  obtain ⟨e0, e1, e2⟩ := index2 t
  have := lt12 t
  funext a; apply Fin.ext
  match a with
  | 0 => show win0_2.index t (0 : Fin 3) * 1 + 1 * 0 = t.val / 3 % 4; omega
  | 1 => show win0_2.index t (1 : Fin 3) * 1024 + 1 * i.val = i.val; omega
  | 2 => show win0_2.index t (2 : Fin 3) * 1024 + 1 * k.val = k.val; omega

/-- The blocks a point is given. -/
abbrev blkA : Vec Ideal S2816x1024 .bf16 := iblk m c 0 t
abbrev blkB : Vec Ideal S2816x1024 .bf16 := iblk m c 1 t

theorem blkA_apply : blkA m c t (ix2 r i) = argA m c (ix2 (row t.val r) i) := by
  show V m c main_arg0 (((cfg0.win 0).blk t).view.emb (ix2 r i)) = _
  rw [emb0, V_main_arg0]

theorem blkB_apply : blkB m c t (ix2 r k) = argB m c (ix2 (row t.val r) (column (block (t.val / 3)) k)) := by
  show V m c main_arg1 (((cfg0.win 1).blk t).view.emb (ix2 r k)) = _
  rw [emb1, V_main_arg1]

theorem clear_apply : k0_pay1 (F := Ideal) (ix2 i k) = 0 := by
  pointwise [k0_pay1]

theorem add_apply (a : Vec Ideal S2816x1024 .bf16) (s : Vec Ideal S1024x1024 .f32) (b : Vec Ideal S2816x1024 .bf16) :
    k0_pay2 a s b (ix2 i k) = s (ix2 i k) + ∑ r : Fin 2816, a (ix2 r i) * b (ix2 r k) := by
  pointwise [k0_pay2]

theorem store_apply (s : Vec Ideal S1024x1024 .f32) : k0_pay3 s (ix3 0 i k) = s (ix2 i k) := by
  pointwise [k0_pay3]

/-- What a point leaves in the scratch buffer. -/
theorem left_apply : (outsAt0 m c t.val t.isLt).2 (ix2 i k)
    = (if t.val % 3 = 0 then 0 else (outsAt0 m c (t.val - 1) (Nat.lt_of_le_of_lt (Nat.sub_le _ _) t.isLt)).2 (ix2 i k))
      + ∑ r : Fin 2816, blkA m c t (ix2 r i) * blkB m c t (ix2 r k) := by
  by_cases h0 : t.val % 3 = 0
  · have h1 : ¬t.val % 3 = 2 := by omega
    rw [outsAt0_A m c t h0 h1, if_pos h0, ← clear_apply i k, ← add_apply]
    frame_out
  · rw [if_neg h0, ← add_apply]
    by_cases h1 : t.val % 3 = 2
    · rw [outsAt0_C m c t h0 h1]
      frame_out
      exact congrArg (fun s => k0_pay2 (blkA m c t) s (blkB m c t) (ix2 i k)) (Memref.IsWhole.read_unread (Memref.isWhole_whole cc0_scratch0) _)
    · rw [outsAt0_B m c t h0 h1]
      frame_out
      exact congrArg (fun s => k0_pay2 (blkA m c t) s (blkB m c t) (ix2 i k)) (Memref.IsWhole.read_unread (Memref.isWhole_whole cc0_scratch0) _)

/-- What a last point writes back, of what it leaves in the scratch buffer. -/
theorem out_apply (h1 : t.val % 3 = 2) : (outsAt0 m c t.val t.isLt).1 (ix3 0 i k) = (outsAt0 m c t.val t.isLt).2 (ix2 i k) := by
  have h0 : ¬t.val % 3 = 0 := by omega
  rw [outsAt0_C m c t h0 h1]
  refine Eq.trans ?_ (store_apply i k _)
  frame_out

end Read

/-- The gradient, block by block. -/
def blocks (a : (⟨2, ![8448, 1024]⟩ : Shape).Idx → EReal) (b : (⟨2, ![8448, 4096]⟩ : Shape).Idx → EReal) :
    (⟨3, ![4, 1024, 1024]⟩ : Shape).Idx → EReal := fun y => gradient a b (y 1) (column (y 0) (y 2))

abbrev result := blocks (argA m c) (argB m c)

theorem left_eq (t : Fin cfg0.N) (h : t.val % 3 = 2) (i k : Fin 1024) :
    (outsAt0 m c t.val t.isLt).2 (ix2 i k) = result m c (ix3 (block (t.val / 3)) i k) :=
  Grad.accumulated (fun n hn => (outsAt0 m c n hn).2 (ix2 i k))
    (fun j r => argA m c (ix2 r i) * argB m c (ix2 r (column (block j) k)))
    (fun n hn => by
      refine (left_apply m c ⟨n, hn⟩ i k).trans ?_
      simp only [blkA_apply, blkB_apply])
    t.val t.isLt h

theorem flushed_eq (t : Fin cfg0.N) (hf : (cfg0.win 2).flush t = true) :
    (dats m 0 c).flushed 2 t = ((cfg0.win 2).blk t).view.read (Elt Ideal) (result m c) := by
  have h := (flush0_2 t).mp hf
  rw [flushed2]
  funext y
  obtain ⟨i, k, rfl⟩ := Grad.split_block y
  show (outsAt0 m c t.val t.isLt).1 (ix3 0 i k) = result m c (((cfg0.win 2).blk t).view.emb (ix3 0 i k))
  rw [emb2, out_apply m c t _ _ h, left_eq m c t h]

/-- The last point of a block. -/
def pointOf (j : Fin 4) : Fin cfg0.N := ⟨3 * j.val + 2, lt_of_lt_of_eq (by omega) (show cfg0.N = 12 from N_0).symm⟩

theorem block_point (j : Fin 4) : block ((pointOf j).val / 3) = j := Fin.ext (by show (3 * j.val + 2) / 3 % 4 = j.val; omega)

theorem cover (j : Fin 4) (i k : Fin 1024) : ∃ t : Fin cfg0.N, (cfg0.win 2).flush t = true ∧ ix3 j i k ∈ ((cfg0.win 2).blk t).view.set := by
  refine ⟨pointOf j, (flush0_2 _).mpr (by show (3 * j.val + 2) % 3 = 2; omega), ?_⟩
  have e := ((cfg0.win 2).blk (pointOf j)).view.emb_mem_set (ix3 0 i k)
  rw [emb2, block_point] at e
  exact e

/-- The array of the gradient after the run. -/
theorem final : (dats m 0 c).arrAt 2 cfg0.N = result m c :=
  (dats m 0 c).arrAt_eq_of_cover 2 _ (flushed_eq m c) fun y => by
    obtain ⟨j, i, k, rfl⟩ := Grad.split y
    exact cover j i k

end Cert.Grad4

end
-- ==== Proof.Grad5.lean ====
/- The gradient of an output projection: one block, to which each kernel point adds a chunk of 2816 rows. -/
module

public import proofs.«01_k».proof.Proof.Gen.Kernel5Ideal.Value
public import Idealize.ShloMosaic.Lib.Pointwise
public import Idealize.ShloMosaic.Lib.Pipeline.ValueKit.Acc
public import proofs.«01_k».proof.Proof.Grad

@[expose] public section

set_option maxRecDepth 65536

noncomputable section

namespace Cert.Grad5

open Idealize.ShloMosaic Idealize.ShloMosaic.TcCoe Idealize.SL.Sem
open Cert.Kernel5Ideal Cert.Kernel5Ideal.Gen Cert.Kernel5Ideal.Value
open Cert.Grad (gradient column row)

variable (m : (ℓ : Loc nD τ sig) → Buf (Elt Ideal) ℓ) (c : Dev nD)

/-- The two arguments as launched. -/
abbrev argA : (⟨2, ![8448, 1024]⟩ : Shape).Idx → EReal := m ((c : Thread nD τ).loc main_arg0)
abbrev argB : (⟨2, ![8448, 1024]⟩ : Shape).Idx → EReal := m ((c : Thread nD τ).loc main_arg1)

theorem lt3 (t : Fin cfg0.N) : t.val < 3 := lt_of_lt_of_eq t.isLt (show cfg0.N = 3 from N_0)

theorem index0 : ∀ t : Fin cfg0.N, win0_0.index t (0 : Fin 2) = t.val % 3 ∧ win0_0.index t (1 : Fin 2) = 0 :=
  (by decide +kernel : ∀ t : Fin grid0.N, _)
theorem index1 : ∀ t : Fin cfg0.N, win0_1.index t (0 : Fin 2) = t.val % 3 ∧ win0_1.index t (1 : Fin 2) = t.val / 3 :=
  (by decide +kernel : ∀ t : Fin grid0.N, _)
theorem index2 : ∀ t : Fin cfg0.N, win0_2.index t (0 : Fin 3) = t.val / 3 ∧ win0_2.index t (1 : Fin 3) = 0 ∧ win0_2.index t (2 : Fin 3) = 0 :=
  (by decide +kernel : ∀ t : Fin grid0.N, _)

/-- The blocks of the result, in order: point `t` adds to block `t / 3`. -/
def block (j : ℕ) : Fin 1 := ⟨j % 1, Nat.mod_lt _ (by decide)⟩

section Read

variable (t : Fin cfg0.N) (r : Fin 2816) (i k : Fin 1024)

theorem emb0 : ((cfg0.win 0).blk t).view.emb (ix2 r i) = ix2 (row t.val r) i := by
  obtain ⟨e0, e1⟩ := index0 t
  funext a; apply Fin.ext
  match a with
  | 0 => show win0_0.index t (0 : Fin 2) * 2816 + 1 * r.val = 2816 * (t.val % 3) + r.val; omega
  | 1 => show win0_0.index t (1 : Fin 2) * 1024 + 1 * i.val = i.val; omega

theorem emb1 : ((cfg0.win 1).blk t).view.emb (ix2 r k) = ix2 (row t.val r) (column (block (t.val / 3)) k) := by
  obtain ⟨e0, e1⟩ := index1 t
  have := lt3 t
  funext a; apply Fin.ext
  match a with
  | 0 => show win0_1.index t (0 : Fin 2) * 2816 + 1 * r.val = 2816 * (t.val % 3) + r.val; omega
  | 1 => show win0_1.index t (1 : Fin 2) * 1024 + 1 * k.val = t.val / 3 % 1 * 1024 + k.val; omega

theorem emb2 : ((cfg0.win 2).blk t).view.emb (ix3 0 i k) = ix3 (block (t.val / 3)) i k := by
  obtain ⟨e0, e1, e2⟩ := index2 t
  have := lt3 t
  funext a; apply Fin.ext
  match a with
  | 0 => show win0_2.index t (0 : Fin 3) * 1 + 1 * 0 = t.val / 3 % 1; omega
  | 1 => show win0_2.index t (1 : Fin 3) * 1024 + 1 * i.val = i.val; omega
  | 2 => show win0_2.index t (2 : Fin 3) * 1024 + 1 * k.val = k.val; omega

/-- The blocks a point is given. -/
abbrev blkA : Vec Ideal S2816x1024 .bf16 := iblk m c 0 t
abbrev blkB : Vec Ideal S2816x1024 .bf16 := iblk m c 1 t

theorem blkA_apply : blkA m c t (ix2 r i) = argA m c (ix2 (row t.val r) i) := by
  show V m c main_arg0 (((cfg0.win 0).blk t).view.emb (ix2 r i)) = _
  rw [emb0, V_main_arg0]

theorem blkB_apply : blkB m c t (ix2 r k) = argB m c (ix2 (row t.val r) (column (block (t.val / 3)) k)) := by
  show V m c main_arg1 (((cfg0.win 1).blk t).view.emb (ix2 r k)) = _
  rw [emb1, V_main_arg1]

theorem clear_apply : k0_pay1 (F := Ideal) (ix2 i k) = 0 := by
  pointwise [k0_pay1]

theorem add_apply (a : Vec Ideal S2816x1024 .bf16) (s : Vec Ideal S1024x1024 .f32) (b : Vec Ideal S2816x1024 .bf16) :
    k0_pay2 a s b (ix2 i k) = s (ix2 i k) + ∑ r : Fin 2816, a (ix2 r i) * b (ix2 r k) := by
  pointwise [k0_pay2]

theorem store_apply (s : Vec Ideal S1024x1024 .f32) : k0_pay3 s (ix3 0 i k) = s (ix2 i k) := by
  pointwise [k0_pay3]

/-- What a point leaves in the scratch buffer. -/
theorem left_apply : (outsAt0 m c t.val t.isLt).2 (ix2 i k)
    = (if t.val % 3 = 0 then 0 else (outsAt0 m c (t.val - 1) (Nat.lt_of_le_of_lt (Nat.sub_le _ _) t.isLt)).2 (ix2 i k))
      + ∑ r : Fin 2816, blkA m c t (ix2 r i) * blkB m c t (ix2 r k) := by
  by_cases h0 : t.val % 3 = 0
  · have h1 : ¬t.val % 3 = 2 := by omega
    rw [outsAt0_A m c t h0 h1, if_pos h0, ← clear_apply i k, ← add_apply]
    frame_out
  · rw [if_neg h0, ← add_apply]
    by_cases h1 : t.val % 3 = 2
    · rw [outsAt0_C m c t h0 h1]
      frame_out
      exact congrArg (fun s => k0_pay2 (blkA m c t) s (blkB m c t) (ix2 i k)) (Memref.IsWhole.read_unread (Memref.isWhole_whole cc0_scratch0) _)
    · rw [outsAt0_B m c t h0 h1]
      frame_out
      exact congrArg (fun s => k0_pay2 (blkA m c t) s (blkB m c t) (ix2 i k)) (Memref.IsWhole.read_unread (Memref.isWhole_whole cc0_scratch0) _)

/-- What a last point writes back, of what it leaves in the scratch buffer. -/
theorem out_apply (h1 : t.val % 3 = 2) : (outsAt0 m c t.val t.isLt).1 (ix3 0 i k) = (outsAt0 m c t.val t.isLt).2 (ix2 i k) := by
  have h0 : ¬t.val % 3 = 0 := by omega
  rw [outsAt0_C m c t h0 h1]
  refine Eq.trans ?_ (store_apply i k _)
  frame_out

end Read

/-- The gradient, block by block. -/
def blocks (a : (⟨2, ![8448, 1024]⟩ : Shape).Idx → EReal) (b : (⟨2, ![8448, 1024]⟩ : Shape).Idx → EReal) :
    (⟨3, ![1, 1024, 1024]⟩ : Shape).Idx → EReal := fun y => gradient a b (y 1) (column (y 0) (y 2))

abbrev result := blocks (argA m c) (argB m c)

theorem left_eq (t : Fin cfg0.N) (h : t.val % 3 = 2) (i k : Fin 1024) :
    (outsAt0 m c t.val t.isLt).2 (ix2 i k) = result m c (ix3 (block (t.val / 3)) i k) :=
  Grad.accumulated (fun n hn => (outsAt0 m c n hn).2 (ix2 i k))
    (fun j r => argA m c (ix2 r i) * argB m c (ix2 r (column (block j) k)))
    (fun n hn => by
      refine (left_apply m c ⟨n, hn⟩ i k).trans ?_
      simp only [blkA_apply, blkB_apply])
    t.val t.isLt h

theorem flushed_eq (t : Fin cfg0.N) (hf : (cfg0.win 2).flush t = true) :
    (dats m 0 c).flushed 2 t = ((cfg0.win 2).blk t).view.read (Elt Ideal) (result m c) := by
  have h := (flush0_2 t).mp hf
  rw [flushed2]
  funext y
  obtain ⟨i, k, rfl⟩ := Grad.split_block y
  show (outsAt0 m c t.val t.isLt).1 (ix3 0 i k) = result m c (((cfg0.win 2).blk t).view.emb (ix3 0 i k))
  rw [emb2, out_apply m c t _ _ h, left_eq m c t h]

/-- The last point of a block. -/
def pointOf (j : Fin 1) : Fin cfg0.N := ⟨3 * j.val + 2, lt_of_lt_of_eq (by have := j.isLt; omega) (show cfg0.N = 3 from N_0).symm⟩

theorem block_point (j : Fin 1) : block ((pointOf j).val / 3) = j := Fin.ext (by show (3 * j.val + 2) / 3 % 1 = j.val; omega)

theorem cover (j : Fin 1) (i k : Fin 1024) : ∃ t : Fin cfg0.N, (cfg0.win 2).flush t = true ∧ ix3 j i k ∈ ((cfg0.win 2).blk t).view.set := by
  refine ⟨pointOf j, (flush0_2 _).mpr (by show (3 * j.val + 2) % 3 = 2; omega), ?_⟩
  have e := ((cfg0.win 2).blk (pointOf j)).view.emb_mem_set (ix3 0 i k)
  rw [emb2, block_point] at e
  exact e

/-- The array of the gradient after the run. -/
theorem final : (dats m 0 c).arrAt 2 cfg0.N = result m c :=
  (dats m 0 c).arrAt_eq_of_cover 2 _ (flushed_eq m c) fun y => by
    obtain ⟨j, i, k, rfl⟩ := Grad.split y
    exact cover j i k

end Cert.Grad5

end
-- ==== Proof.Grad6.lean ====
/- The gradient of a recurrent layer's input projection: block `n / 3` of the result, which a kernel point adds a chunk of 2816 rows to. -/
module

public import proofs.«01_k».proof.Proof.Gen.Kernel6Ideal.Value
public import Idealize.ShloMosaic.Lib.Pointwise
public import Idealize.ShloMosaic.Lib.Pipeline.ValueKit.Acc
public import proofs.«01_k».proof.Proof.Grad

@[expose] public section

set_option maxRecDepth 65536

noncomputable section

namespace Cert.Grad6

open Idealize.ShloMosaic Idealize.ShloMosaic.TcCoe Idealize.SL.Sem
open Cert.Kernel6Ideal Cert.Kernel6Ideal.Gen Cert.Kernel6Ideal.Value
open Cert.Grad (gradient column row)

variable (m : (ℓ : Loc nD τ sig) → Buf (Elt Ideal) ℓ) (c : Dev nD)

/-- The two arguments as launched. -/
abbrev argA : (⟨2, ![8448, 1024]⟩ : Shape).Idx → EReal := m ((c : Thread nD τ).loc main_arg0)
abbrev argB : (⟨2, ![8448, 5120]⟩ : Shape).Idx → EReal := m ((c : Thread nD τ).loc main_arg1)

theorem lt12 (t : Fin cfg0.N) : t.val < 12 := lt_of_lt_of_eq t.isLt (show cfg0.N = 12 from N_0)

theorem index0 : ∀ t : Fin cfg0.N, win0_0.index t (0 : Fin 2) = t.val % 3 ∧ win0_0.index t (1 : Fin 2) = 0 :=
  (by decide +kernel : ∀ t : Fin grid0.N, _)
theorem index1 : ∀ t : Fin cfg0.N, win0_1.index t (0 : Fin 2) = t.val % 3 ∧ win0_1.index t (1 : Fin 2) = t.val / 3 :=
  (by decide +kernel : ∀ t : Fin grid0.N, _)
theorem index2 : ∀ t : Fin cfg0.N, win0_2.index t (0 : Fin 3) = t.val / 3 ∧ win0_2.index t (1 : Fin 3) = 0 ∧ win0_2.index t (2 : Fin 3) = 0 :=
  (by decide +kernel : ∀ t : Fin grid0.N, _)

/-- The blocks of the result, in order: point `t` adds to block `t / 3`. -/
def block (j : ℕ) : Fin 4 := ⟨j % 4, Nat.mod_lt _ (by decide)⟩

section Read

variable (t : Fin cfg0.N) (r : Fin 2816) (i : Fin 1024) (k : Fin 1280)

theorem emb0 : ((cfg0.win 0).blk t).view.emb (ix2 r i) = ix2 (row t.val r) i := by
  obtain ⟨e0, e1⟩ := index0 t
  funext a; apply Fin.ext
  match a with
  | 0 => show win0_0.index t (0 : Fin 2) * 2816 + 1 * r.val = 2816 * (t.val % 3) + r.val; omega
  | 1 => show win0_0.index t (1 : Fin 2) * 1024 + 1 * i.val = i.val; omega

theorem emb1 : ((cfg0.win 1).blk t).view.emb (ix2 r k) = ix2 (row t.val r) (column (block (t.val / 3)) k) := by
  obtain ⟨e0, e1⟩ := index1 t
  have := lt12 t
  funext a; apply Fin.ext
  match a with
  | 0 => show win0_1.index t (0 : Fin 2) * 2816 + 1 * r.val = 2816 * (t.val % 3) + r.val; omega
  | 1 => show win0_1.index t (1 : Fin 2) * 1280 + 1 * k.val = t.val / 3 % 4 * 1280 + k.val; omega

theorem emb2 : ((cfg0.win 2).blk t).view.emb (ix3 0 i k) = ix3 (block (t.val / 3)) i k := by
  obtain ⟨e0, e1, e2⟩ := index2 t
  have := lt12 t
  funext a; apply Fin.ext
  match a with
  | 0 => show win0_2.index t (0 : Fin 3) * 1 + 1 * 0 = t.val / 3 % 4; omega
  | 1 => show win0_2.index t (1 : Fin 3) * 1024 + 1 * i.val = i.val; omega
  | 2 => show win0_2.index t (2 : Fin 3) * 1280 + 1 * k.val = k.val; omega

/-- The blocks a point is given. -/
abbrev blkA : Vec Ideal S2816x1024 .bf16 := iblk m c 0 t
abbrev blkB : Vec Ideal S2816x1280 .bf16 := iblk m c 1 t

theorem blkA_apply : blkA m c t (ix2 r i) = argA m c (ix2 (row t.val r) i) := by
  show V m c main_arg0 (((cfg0.win 0).blk t).view.emb (ix2 r i)) = _
  rw [emb0, V_main_arg0]

theorem blkB_apply : blkB m c t (ix2 r k) = argB m c (ix2 (row t.val r) (column (block (t.val / 3)) k)) := by
  show V m c main_arg1 (((cfg0.win 1).blk t).view.emb (ix2 r k)) = _
  rw [emb1, V_main_arg1]

theorem clear_apply : k0_pay1 (F := Ideal) (ix2 i k) = 0 := by
  pointwise [k0_pay1]

theorem add_apply (a : Vec Ideal S2816x1024 .bf16) (s : Vec Ideal S1024x1280 .f32) (b : Vec Ideal S2816x1280 .bf16) :
    k0_pay2 a s b (ix2 i k) = s (ix2 i k) + ∑ r : Fin 2816, a (ix2 r i) * b (ix2 r k) := by
  pointwise [k0_pay2]

theorem store_apply (s : Vec Ideal S1024x1280 .f32) : k0_pay3 s (ix3 0 i k) = s (ix2 i k) := by
  pointwise [k0_pay3]

/-- What a point leaves in the scratch buffer. -/
theorem left_apply : (outsAt0 m c t.val t.isLt).2 (ix2 i k)
    = (if t.val % 3 = 0 then 0 else (outsAt0 m c (t.val - 1) (Nat.lt_of_le_of_lt (Nat.sub_le _ _) t.isLt)).2 (ix2 i k))
      + ∑ r : Fin 2816, blkA m c t (ix2 r i) * blkB m c t (ix2 r k) := by
  by_cases h0 : t.val % 3 = 0
  · have h1 : ¬t.val % 3 = 2 := by omega
    rw [outsAt0_A m c t h0 h1, if_pos h0, ← clear_apply i k, ← add_apply]
    frame_out
  · rw [if_neg h0, ← add_apply]
    by_cases h1 : t.val % 3 = 2
    · rw [outsAt0_C m c t h0 h1]
      frame_out
      exact congrArg (fun s => k0_pay2 (blkA m c t) s (blkB m c t) (ix2 i k)) (Memref.IsWhole.read_unread (Memref.isWhole_whole cc0_scratch0) _)
    · rw [outsAt0_B m c t h0 h1]
      frame_out
      exact congrArg (fun s => k0_pay2 (blkA m c t) s (blkB m c t) (ix2 i k)) (Memref.IsWhole.read_unread (Memref.isWhole_whole cc0_scratch0) _)

/-- What a last point writes back, of what it leaves in the scratch buffer. -/
theorem out_apply (h1 : t.val % 3 = 2) : (outsAt0 m c t.val t.isLt).1 (ix3 0 i k) = (outsAt0 m c t.val t.isLt).2 (ix2 i k) := by
  have h0 : ¬t.val % 3 = 0 := by omega
  rw [outsAt0_C m c t h0 h1]
  refine Eq.trans ?_ (store_apply i k _)
  frame_out

end Read

/-- The gradient, block by block. -/
def blocks (a : (⟨2, ![8448, 1024]⟩ : Shape).Idx → EReal) (b : (⟨2, ![8448, 5120]⟩ : Shape).Idx → EReal) :
    (⟨3, ![4, 1024, 1280]⟩ : Shape).Idx → EReal := fun y => gradient a b (y 1) (column (y 0) (y 2))

abbrev result := blocks (argA m c) (argB m c)

theorem left_eq (t : Fin cfg0.N) (h : t.val % 3 = 2) (i : Fin 1024) (k : Fin 1280) :
    (outsAt0 m c t.val t.isLt).2 (ix2 i k) = result m c (ix3 (block (t.val / 3)) i k) :=
  Grad.accumulated (fun n hn => (outsAt0 m c n hn).2 (ix2 i k))
    (fun j r => argA m c (ix2 r i) * argB m c (ix2 r (column (block j) k)))
    (fun n hn => by
      refine (left_apply m c ⟨n, hn⟩ i k).trans ?_
      simp only [blkA_apply, blkB_apply])
    t.val t.isLt h

theorem flushed_eq (t : Fin cfg0.N) (hf : (cfg0.win 2).flush t = true) :
    (dats m 0 c).flushed 2 t = ((cfg0.win 2).blk t).view.read (Elt Ideal) (result m c) := by
  have h := (flush0_2 t).mp hf
  rw [flushed2]
  funext y
  obtain ⟨i, k, rfl⟩ := Grad.split_block y
  show (outsAt0 m c t.val t.isLt).1 (ix3 0 i k) = result m c (((cfg0.win 2).blk t).view.emb (ix3 0 i k))
  rw [emb2, out_apply m c t _ _ h, left_eq m c t h]

/-- The last point of a block. -/
def pointOf (j : Fin 4) : Fin cfg0.N := ⟨3 * j.val + 2, lt_of_lt_of_eq (by omega) (show cfg0.N = 12 from N_0).symm⟩

theorem block_point (j : Fin 4) : block ((pointOf j).val / 3) = j := Fin.ext (by show (3 * j.val + 2) / 3 % 4 = j.val; omega)

theorem cover (j : Fin 4) (i : Fin 1024) (k : Fin 1280) : ∃ t : Fin cfg0.N, (cfg0.win 2).flush t = true ∧ ix3 j i k ∈ ((cfg0.win 2).blk t).view.set := by
  refine ⟨pointOf j, (flush0_2 _).mpr (by show (3 * j.val + 2) % 3 = 2; omega), ?_⟩
  have e := ((cfg0.win 2).blk (pointOf j)).view.emb_mem_set (ix3 0 i k)
  rw [emb2, block_point] at e
  exact e

/-- The array of the gradient after the run. -/
theorem final : (dats m 0 c).arrAt 2 cfg0.N = result m c :=
  (dats m 0 c).arrAt_eq_of_cover 2 _ (flushed_eq m c) fun y => by
    obtain ⟨j, i, k, rfl⟩ := Grad.split y
    exact cover j i k

end Cert.Grad6

end
-- ==== Proof.Grad7.lean ====
/- The gradient of a short-convolution layer's input projection: block `n / 3` of the result, which a kernel point adds a chunk of 2816 rows to. -/
module

public import proofs.«01_k».proof.Proof.Gen.Kernel7Ideal.Value
public import Idealize.ShloMosaic.Lib.Pointwise
public import Idealize.ShloMosaic.Lib.Pipeline.ValueKit.Acc
public import proofs.«01_k».proof.Proof.Grad

@[expose] public section

set_option maxRecDepth 65536

noncomputable section

namespace Cert.Grad7

open Idealize.ShloMosaic Idealize.ShloMosaic.TcCoe Idealize.SL.Sem
open Cert.Kernel7Ideal Cert.Kernel7Ideal.Gen Cert.Kernel7Ideal.Value
open Cert.Grad (gradient column row)

variable (m : (ℓ : Loc nD τ sig) → Buf (Elt Ideal) ℓ) (c : Dev nD)

/-- The two arguments as launched. -/
abbrev argA : (⟨2, ![8448, 1024]⟩ : Shape).Idx → EReal := m ((c : Thread nD τ).loc main_arg0)
abbrev argB : (⟨2, ![8448, 3072]⟩ : Shape).Idx → EReal := m ((c : Thread nD τ).loc main_arg1)

theorem lt12 (t : Fin cfg0.N) : t.val < 12 := lt_of_lt_of_eq t.isLt (show cfg0.N = 12 from N_0)

theorem index0 : ∀ t : Fin cfg0.N, win0_0.index t (0 : Fin 2) = t.val % 3 ∧ win0_0.index t (1 : Fin 2) = 0 :=
  (by decide +kernel : ∀ t : Fin grid0.N, _)
theorem index1 : ∀ t : Fin cfg0.N, win0_1.index t (0 : Fin 2) = t.val % 3 ∧ win0_1.index t (1 : Fin 2) = t.val / 3 :=
  (by decide +kernel : ∀ t : Fin grid0.N, _)
theorem index2 : ∀ t : Fin cfg0.N, win0_2.index t (0 : Fin 3) = t.val / 3 ∧ win0_2.index t (1 : Fin 3) = 0 ∧ win0_2.index t (2 : Fin 3) = 0 :=
  (by decide +kernel : ∀ t : Fin grid0.N, _)

/-- The blocks of the result, in order: point `t` adds to block `t / 3`. -/
def block (j : ℕ) : Fin 4 := ⟨j % 4, Nat.mod_lt _ (by decide)⟩

section Read

variable (t : Fin cfg0.N) (r : Fin 2816) (i : Fin 1024) (k : Fin 768)

theorem emb0 : ((cfg0.win 0).blk t).view.emb (ix2 r i) = ix2 (row t.val r) i := by
  obtain ⟨e0, e1⟩ := index0 t
  funext a; apply Fin.ext
  match a with
  | 0 => show win0_0.index t (0 : Fin 2) * 2816 + 1 * r.val = 2816 * (t.val % 3) + r.val; omega
  | 1 => show win0_0.index t (1 : Fin 2) * 1024 + 1 * i.val = i.val; omega

theorem emb1 : ((cfg0.win 1).blk t).view.emb (ix2 r k) = ix2 (row t.val r) (column (block (t.val / 3)) k) := by
  obtain ⟨e0, e1⟩ := index1 t
  have := lt12 t
  funext a; apply Fin.ext
  match a with
  | 0 => show win0_1.index t (0 : Fin 2) * 2816 + 1 * r.val = 2816 * (t.val % 3) + r.val; omega
  | 1 => show win0_1.index t (1 : Fin 2) * 768 + 1 * k.val = t.val / 3 % 4 * 768 + k.val; omega

theorem emb2 : ((cfg0.win 2).blk t).view.emb (ix3 0 i k) = ix3 (block (t.val / 3)) i k := by
  obtain ⟨e0, e1, e2⟩ := index2 t
  have := lt12 t
  funext a; apply Fin.ext
  match a with
  | 0 => show win0_2.index t (0 : Fin 3) * 1 + 1 * 0 = t.val / 3 % 4; omega
  | 1 => show win0_2.index t (1 : Fin 3) * 1024 + 1 * i.val = i.val; omega
  | 2 => show win0_2.index t (2 : Fin 3) * 768 + 1 * k.val = k.val; omega

/-- The blocks a point is given. -/
abbrev blkA : Vec Ideal S2816x1024 .bf16 := iblk m c 0 t
abbrev blkB : Vec Ideal S2816x768 .bf16 := iblk m c 1 t

theorem blkA_apply : blkA m c t (ix2 r i) = argA m c (ix2 (row t.val r) i) := by
  show V m c main_arg0 (((cfg0.win 0).blk t).view.emb (ix2 r i)) = _
  rw [emb0, V_main_arg0]

theorem blkB_apply : blkB m c t (ix2 r k) = argB m c (ix2 (row t.val r) (column (block (t.val / 3)) k)) := by
  show V m c main_arg1 (((cfg0.win 1).blk t).view.emb (ix2 r k)) = _
  rw [emb1, V_main_arg1]

theorem clear_apply : k0_pay1 (F := Ideal) (ix2 i k) = 0 := by
  pointwise [k0_pay1]

theorem add_apply (a : Vec Ideal S2816x1024 .bf16) (s : Vec Ideal S1024x768 .f32) (b : Vec Ideal S2816x768 .bf16) :
    k0_pay2 a s b (ix2 i k) = s (ix2 i k) + ∑ r : Fin 2816, a (ix2 r i) * b (ix2 r k) := by
  pointwise [k0_pay2]

theorem store_apply (s : Vec Ideal S1024x768 .f32) : k0_pay3 s (ix3 0 i k) = s (ix2 i k) := by
  pointwise [k0_pay3]

/-- What a point leaves in the scratch buffer. -/
theorem left_apply : (outsAt0 m c t.val t.isLt).2 (ix2 i k)
    = (if t.val % 3 = 0 then 0 else (outsAt0 m c (t.val - 1) (Nat.lt_of_le_of_lt (Nat.sub_le _ _) t.isLt)).2 (ix2 i k))
      + ∑ r : Fin 2816, blkA m c t (ix2 r i) * blkB m c t (ix2 r k) := by
  by_cases h0 : t.val % 3 = 0
  · have h1 : ¬t.val % 3 = 2 := by omega
    rw [outsAt0_A m c t h0 h1, if_pos h0, ← clear_apply i k, ← add_apply]
    frame_out
  · rw [if_neg h0, ← add_apply]
    by_cases h1 : t.val % 3 = 2
    · rw [outsAt0_C m c t h0 h1]
      frame_out
      exact congrArg (fun s => k0_pay2 (blkA m c t) s (blkB m c t) (ix2 i k)) (Memref.IsWhole.read_unread (Memref.isWhole_whole cc0_scratch0) _)
    · rw [outsAt0_B m c t h0 h1]
      frame_out
      exact congrArg (fun s => k0_pay2 (blkA m c t) s (blkB m c t) (ix2 i k)) (Memref.IsWhole.read_unread (Memref.isWhole_whole cc0_scratch0) _)

/-- What a last point writes back, of what it leaves in the scratch buffer. -/
theorem out_apply (h1 : t.val % 3 = 2) : (outsAt0 m c t.val t.isLt).1 (ix3 0 i k) = (outsAt0 m c t.val t.isLt).2 (ix2 i k) := by
  have h0 : ¬t.val % 3 = 0 := by omega
  rw [outsAt0_C m c t h0 h1]
  refine Eq.trans ?_ (store_apply i k _)
  frame_out

end Read

/-- The gradient, block by block. -/
def blocks (a : (⟨2, ![8448, 1024]⟩ : Shape).Idx → EReal) (b : (⟨2, ![8448, 3072]⟩ : Shape).Idx → EReal) :
    (⟨3, ![4, 1024, 768]⟩ : Shape).Idx → EReal := fun y => gradient a b (y 1) (column (y 0) (y 2))

abbrev result := blocks (argA m c) (argB m c)

theorem left_eq (t : Fin cfg0.N) (h : t.val % 3 = 2) (i : Fin 1024) (k : Fin 768) :
    (outsAt0 m c t.val t.isLt).2 (ix2 i k) = result m c (ix3 (block (t.val / 3)) i k) :=
  Grad.accumulated (fun n hn => (outsAt0 m c n hn).2 (ix2 i k))
    (fun j r => argA m c (ix2 r i) * argB m c (ix2 r (column (block j) k)))
    (fun n hn => by
      refine (left_apply m c ⟨n, hn⟩ i k).trans ?_
      simp only [blkA_apply, blkB_apply])
    t.val t.isLt h

theorem flushed_eq (t : Fin cfg0.N) (hf : (cfg0.win 2).flush t = true) :
    (dats m 0 c).flushed 2 t = ((cfg0.win 2).blk t).view.read (Elt Ideal) (result m c) := by
  have h := (flush0_2 t).mp hf
  rw [flushed2]
  funext y
  obtain ⟨i, k, rfl⟩ := Grad.split_block y
  show (outsAt0 m c t.val t.isLt).1 (ix3 0 i k) = result m c (((cfg0.win 2).blk t).view.emb (ix3 0 i k))
  rw [emb2, out_apply m c t _ _ h, left_eq m c t h]

/-- The last point of a block. -/
def pointOf (j : Fin 4) : Fin cfg0.N := ⟨3 * j.val + 2, lt_of_lt_of_eq (by omega) (show cfg0.N = 12 from N_0).symm⟩

theorem block_point (j : Fin 4) : block ((pointOf j).val / 3) = j := Fin.ext (by show (3 * j.val + 2) / 3 % 4 = j.val; omega)

theorem cover (j : Fin 4) (i : Fin 1024) (k : Fin 768) : ∃ t : Fin cfg0.N, (cfg0.win 2).flush t = true ∧ ix3 j i k ∈ ((cfg0.win 2).blk t).view.set := by
  refine ⟨pointOf j, (flush0_2 _).mpr (by show (3 * j.val + 2) % 3 = 2; omega), ?_⟩
  have e := ((cfg0.win 2).blk (pointOf j)).view.emb_mem_set (ix3 0 i k)
  rw [emb2, block_point] at e
  exact e

/-- The array of the gradient after the run. -/
theorem final : (dats m 0 c).arrAt 2 cfg0.N = result m c :=
  (dats m 0 c).arrAt_eq_of_cover 2 _ (flushed_eq m c) fun y => by
    obtain ⟨j, i, k, rfl⟩ := Grad.split y
    exact cover j i k

end Cert.Grad7

end
-- ==== Proof.GradRef.lean ====
/- The gradient references read at an index. Each differentiates a product with a weight, so it states the product's gradient, cut into the
   blocks in which the kernel leaves it. -/
module

public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Grad
public import Idealize.ShloMosaic.Lib.Pointwise

@[expose] public section

set_option maxRecDepth 65536

noncomputable section

namespace Cert.GradRef

open Idealize.ShloMosaic
open Cert.Grad (gradient column)

section

open Cert.Reference3Ideal Cert.Reference3Ideal.Gen

/-- The second weight's: the product is of the squares. -/
theorem reference3_apply (a : FVec Ideal S8448x4096 .bf16) (b : FVec Ideal S8448x1024 .bf16) (j : Fin 4) (i k : Fin 1024) :
    shapeCast S4x1024x1024 (truncf .bf16 (transpose S4096x1024 [1, 0]
      (Host.dotGeneral dot_S8448x1024_S8448x4096_S1024x4096_0_0_1_1_n_n none (extf .f32 b bitsLt_bf16_f32)
        (mulf (extf .f32 a bitsLt_bf16_f32) (extf .f32 a bitsLt_bf16_f32)))
      transposes_S1024x4096_S4096x1024_1_0) bitsLt_bf16_f32) shapeCasts_S4096x1024_S4x1024x1024 (ix3 j i k)
      = gradient (fun z => a z * a z) b (column j i) k := by
  pointwise []
  exact Finset.sum_congr rfl fun r _ => mul_comm _ _

end

section

open Cert.Reference4Ideal Cert.Reference4Ideal.Gen

/-- The first weight's. -/
theorem reference4_apply (a : FVec Ideal S8448x1024 .bf16) (b : FVec Ideal S8448x4096 .bf16) (j : Fin 4) (i : Fin 1024) (k : Fin 1024) :
    transpose S4x1024x1024 [1, 0, 2] (shapeCast S1024x4x1024 (truncf .bf16 (transpose S1024x4096 [1, 0]
      (Host.dotGeneral dot_S8448x4096_S8448x1024_S4096x1024_0_0_1_1_n_n none (extf .f32 b bitsLt_bf16_f32) (extf .f32 a bitsLt_bf16_f32))
      transposes_S4096x1024_S1024x4096_1_0) bitsLt_bf16_f32) shapeCasts_S1024x4096_S1024x4x1024) transposes_S1024x4x1024_S4x1024x1024_1_0_2
      (ix3 j i k) = gradient a b i (column j k) := by
  pointwise []
  exact Finset.sum_congr rfl fun r _ => mul_comm _ _

end

section

open Cert.Reference5Ideal Cert.Reference5Ideal.Gen

/-- The output projection's, a single block. -/
theorem reference5_apply (a : FVec Ideal S8448x1024 .bf16) (b : FVec Ideal S8448x1024 .bf16) (j : Fin 1) (i : Fin 1024) (k : Fin 1024) :
    transpose S1x1024x1024 [1, 0, 2] (shapeCast S1024x1x1024 (truncf .bf16 (transpose S1024x1024 [1, 0]
      (Host.dotGeneral dot_S8448x1024_S8448x1024_S1024x1024_0_0_1_1_n_n none (extf .f32 b bitsLt_bf16_f32) (extf .f32 a bitsLt_bf16_f32))
      transposes_S1024x1024_S1024x1024_1_0) bitsLt_bf16_f32) shapeCasts_S1024x1024_S1024x1x1024) transposes_S1024x1x1024_S1x1024x1024_1_0_2
      (ix3 j i k) = gradient a b i (column j k) := by
  have e : column j k = k := Fin.ext (by show j.val * 1024 + k.val = k.val; omega)
  rw [e]
  pointwise []
  exact Finset.sum_congr rfl fun r _ => mul_comm _ _

end

section

open Cert.Reference6Ideal Cert.Reference6Ideal.Gen

/-- A recurrent layer's input projection's. -/
theorem reference6_apply (a : FVec Ideal S8448x1024 .bf16) (b : FVec Ideal S8448x5120 .bf16) (j : Fin 4) (i : Fin 1024) (k : Fin 1280) :
    transpose S4x1024x1280 [1, 0, 2] (shapeCast S1024x4x1280 (truncf .bf16 (transpose S1024x5120 [1, 0]
      (Host.dotGeneral dot_S8448x5120_S8448x1024_S5120x1024_0_0_1_1_n_n none (extf .f32 b bitsLt_bf16_f32) (extf .f32 a bitsLt_bf16_f32))
      transposes_S5120x1024_S1024x5120_1_0) bitsLt_bf16_f32) shapeCasts_S1024x5120_S1024x4x1280) transposes_S1024x4x1280_S4x1024x1280_1_0_2
      (ix3 j i k) = gradient a b i (column j k) := by
  pointwise []
  exact Finset.sum_congr rfl fun r _ => mul_comm _ _

end

section

open Cert.Reference7Ideal Cert.Reference7Ideal.Gen

/-- A short-convolution layer's input projection's. -/
theorem reference7_apply (a : FVec Ideal S8448x1024 .bf16) (b : FVec Ideal S8448x3072 .bf16) (j : Fin 4) (i : Fin 1024) (k : Fin 768) :
    transpose S4x1024x768 [1, 0, 2] (shapeCast S1024x4x768 (truncf .bf16 (transpose S1024x3072 [1, 0]
      (Host.dotGeneral dot_S8448x3072_S8448x1024_S3072x1024_0_0_1_1_n_n none (extf .f32 b bitsLt_bf16_f32) (extf .f32 a bitsLt_bf16_f32))
      transposes_S3072x1024_S1024x3072_1_0) bitsLt_bf16_f32) shapeCasts_S1024x3072_S1024x4x768) transposes_S1024x4x768_S4x1024x768_1_0_2
      (ix3 j i k) = gradient a b i (column j k) := by
  pointwise []
  exact Finset.sum_congr rfl fun r _ => mul_comm _ _

end

end Cert.GradRef

end
-- ==== Proof.GradClaims.lean ====
/- The claims of the weight gradients. A kernel's two programs have the same text, so its frame is its idealized program's at the machine's
   floats; for the value claim both programs are run, and both end at the gradient, block by block. -/
module

public import proofs.«01_k».proof.Defs
public import proofs.«01_k».proof.Proof.Gen.Kernel3
public import proofs.«01_k».proof.Proof.Grad3
public import proofs.«01_k».proof.Proof.Gen.Kernel4
public import proofs.«01_k».proof.Proof.Grad4
public import proofs.«01_k».proof.Proof.Gen.Kernel5
public import proofs.«01_k».proof.Proof.Grad5
public import proofs.«01_k».proof.Proof.Gen.Kernel6
public import proofs.«01_k».proof.Proof.Grad6
public import proofs.«01_k».proof.Proof.Gen.Kernel7
public import proofs.«01_k».proof.Proof.Grad7
public import proofs.«01_k».proof.Proof.GradRef
public import Idealize.ShloMosaic.Adequacy
public import Idealize.ShloMosaic.Init

@[expose] public section

set_option maxRecDepth 65536

noncomputable section

namespace Cert.GradClaims

open Idealize.ShloMosaic Idealize.ShloMosaic.TcCoe Idealize.SL.Sem

/-! The second weight's gradient. -/

theorem defs3 : @Cert.Kernel3.defs Bits _ _ = @Cert.Kernel3Ideal.defs Bits _ _ := by
  refine congrArg (Pipeline.defs (Cert.Kernel3Ideal.pcfgs (F := Bits))) ?_
  unfold Cert.Kernel3.defs₀ Cert.Kernel3Ideal.defs₀
  refine congrArg Defs.onTc (funext fun l => funext fun x => ?_)
  match l, x with
  | 0, (_, _) => rfl

theorem frame3 : Cert.quiescent_Kernel3 (hKernel3 := Cert.Kernel3.Gen.facts) := by
  intro m ρ _
  rw [defs3]
  exact Cert.Kernel3Ideal.Gen.frame (F := Bits) m ρ

theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem value3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Grad3.result m c, ?_, ?_⟩
  · exact (θ_run _ _ _).mono (fun _ h c => ⟨(h c).1.trans (Grad3.final m c), (h c).2⟩) (Cert.Kernel3Ideal.Value.run_blocks (F := Ideal) m ρ)
  · refine (θ_run _ _ _).mono (fun _ h c => ⟨(h c).1.trans ?_, (h c).2⟩) (Cert.Reference3Ideal.Value.run (F := Ideal) m' ρ')
    obtain ⟨e0, e1⟩ := hagree c
    rw [e0, e1]
    funext y
    obtain ⟨j, i, k, rfl⟩ := Grad.split y
    exact GradRef.reference3_apply _ _ j i k

/-! The first weight's. -/

theorem defs4 : @Cert.Kernel4.defs Bits _ _ = @Cert.Kernel4Ideal.defs Bits _ _ := by
  refine congrArg (Pipeline.defs (Cert.Kernel4Ideal.pcfgs (F := Bits))) ?_
  unfold Cert.Kernel4.defs₀ Cert.Kernel4Ideal.defs₀
  refine congrArg Defs.onTc (funext fun l => funext fun x => ?_)
  match l, x with
  | 0, (_, _) => rfl

theorem frame4 : Cert.quiescent_Kernel4 (hKernel4 := Cert.Kernel4.Gen.facts) := by
  intro m ρ _
  rw [defs4]
  exact Cert.Kernel4Ideal.Gen.frame (F := Bits) m ρ

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem value4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Grad4.result m c, ?_, ?_⟩
  · exact (θ_run _ _ _).mono (fun _ h c => ⟨(h c).1.trans (Grad4.final m c), (h c).2⟩) (Cert.Kernel4Ideal.Value.run_blocks (F := Ideal) m ρ)
  · refine (θ_run _ _ _).mono (fun _ h c => ⟨(h c).1.trans ?_, (h c).2⟩) (Cert.Reference4Ideal.Value.run (F := Ideal) m' ρ')
    obtain ⟨e0, e1⟩ := hagree c
    rw [e0, e1]
    funext y
    obtain ⟨j, i, k, rfl⟩ := Grad.split y
    exact GradRef.reference4_apply _ _ j i k

/-! An output projection's. -/

theorem defs5 : @Cert.Kernel5.defs Bits _ _ = @Cert.Kernel5Ideal.defs Bits _ _ := by
  refine congrArg (Pipeline.defs (Cert.Kernel5Ideal.pcfgs (F := Bits))) ?_
  unfold Cert.Kernel5.defs₀ Cert.Kernel5Ideal.defs₀
  refine congrArg Defs.onTc (funext fun l => funext fun x => ?_)
  match l, x with
  | 0, (_, _) => rfl

theorem frame5 : Cert.quiescent_Kernel5 (hKernel5 := Cert.Kernel5.Gen.facts) := by
  intro m ρ _
  rw [defs5]
  exact Cert.Kernel5Ideal.Gen.frame (F := Bits) m ρ

theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem value5 : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Grad5.result m c, ?_, ?_⟩
  · exact (θ_run _ _ _).mono (fun _ h c => ⟨(h c).1.trans (Grad5.final m c), (h c).2⟩) (Cert.Kernel5Ideal.Value.run_blocks (F := Ideal) m ρ)
  · refine (θ_run _ _ _).mono (fun _ h c => ⟨(h c).1.trans ?_, (h c).2⟩) (Cert.Reference5Ideal.Value.run (F := Ideal) m' ρ')
    obtain ⟨e0, e1⟩ := hagree c
    rw [e0, e1]
    funext y
    obtain ⟨j, i, k, rfl⟩ := Grad.split y
    exact GradRef.reference5_apply _ _ j i k

/-! A recurrent layer's input projection's. -/

theorem defs6 : @Cert.Kernel6.defs Bits _ _ = @Cert.Kernel6Ideal.defs Bits _ _ := by
  refine congrArg (Pipeline.defs (Cert.Kernel6Ideal.pcfgs (F := Bits))) ?_
  unfold Cert.Kernel6.defs₀ Cert.Kernel6Ideal.defs₀
  refine congrArg Defs.onTc (funext fun l => funext fun x => ?_)
  match l, x with
  | 0, (_, _) => rfl

theorem frame6 : Cert.quiescent_Kernel6 (hKernel6 := Cert.Kernel6.Gen.facts) := by
  intro m ρ _
  rw [defs6]
  exact Cert.Kernel6Ideal.Gen.frame (F := Bits) m ρ

theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem value6 : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => Grad6.result m c, ?_, ?_⟩
  · exact (θ_run _ _ _).mono (fun _ h c => ⟨(h c).1.trans (Grad6.final m c), (h c).2⟩) (Cert.Kernel6Ideal.Value.run_blocks (F := Ideal) m ρ)
  · refine (θ_run _ _ _).mono (fun _ h c => ⟨(h c).1.trans ?_, (h c).2⟩) (Cert.Reference6Ideal.Value.run (F := Ideal) m' ρ')
    obtain ⟨e0, e1⟩ := hagree c
    rw [e0, e1]
    funext y
    obtain ⟨j, i, k, rfl⟩ := Grad.split y
    exact GradRef.reference6_apply _ _ j i k

/-! A short-convolution layer's input projection's. -/

theorem defs7 : @Cert.Kernel7.defs Bits _ _ = @Cert.Kernel7Ideal.defs Bits _ _ := by
  refine congrArg (Pipeline.defs (Cert.Kernel7Ideal.pcfgs (F := Bits))) ?_
  unfold Cert.Kernel7.defs₀ Cert.Kernel7Ideal.defs₀
  refine congrArg Defs.onTc (funext fun l => funext fun x => ?_)
  match l, x with
  | 0, (_, _) => rfl

theorem frame7 : Cert.quiescent_Kernel7 (hKernel7 := Cert.Kernel7.Gen.facts) := by
  intro m ρ _
  rw [defs7]
  exact Cert.Kernel7Ideal.Gen.frame (F := Bits) m ρ

theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem value7 : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => Grad7.result m c, ?_, ?_⟩
  · exact (θ_run _ _ _).mono (fun _ h c => ⟨(h c).1.trans (Grad7.final m c), (h c).2⟩) (Cert.Kernel7Ideal.Value.run_blocks (F := Ideal) m ρ)
  · refine (θ_run _ _ _).mono (fun _ h c => ⟨(h c).1.trans ?_, (h c).2⟩) (Cert.Reference7Ideal.Value.run (F := Ideal) m' ρ')
    obtain ⟨e0, e1⟩ := hagree c
    rw [e0, e1]
    funext y
    obtain ⟨j, i, k, rfl⟩ := Grad.split y
    exact GradRef.reference7_apply _ _ j i k

end Cert.GradClaims

end
-- ==== Proof.Mlp.lean ====
/- One row of the MLP's backward call, over the extended reals: the cotangents of the pre-activation and of the norm's input, the latter in
   the kernel's form (the normed row taken out of the gradient) and in the differentiated one. The two are equal for every input: the row's
   inverse norm is a nonnegative real. -/
module

public import Idealize.ShloMosaic.PureOps.Ideal.Laws
public import Mathlib.Data.EReal.Inv

@[expose] public section

noncomputable section

namespace Cert.Mlp

open Idealize.ShloMosaic

/-- The constants of the two programs: the width 1024, the norm's epsilon, two, and minus one half. -/
def width : EReal := Ideal.ofBits .f32 1149239296#32
def eps : EReal := Ideal.ofBits .f32 897988541#32
def two : EReal := Ideal.ofBits .f32 1073741824#32
def minusHalf : EReal := Ideal.ofBits .f32 3204448256#32

theorem width_eq : width = ((1024 : ℝ) : EReal) := by
  simp [width, Ideal.ofBits, Ideal.ieee]
  rw [← EReal.coe_mul]
  norm_num

theorem minusHalf_eq : minusHalf = ((-(1 / 2) : ℝ) : EReal) := by
  simp [minusHalf, Ideal.ofBits, Ideal.ieee]
  rw [← EReal.coe_mul]
  norm_num

theorem eps_eq : ∃ e : ℝ, 0 < e ∧ eps = (e : EReal) := by
  refine ⟨_, ?_, by simp [eps, Ideal.ofBits, Ideal.ieee]; rfl⟩
  norm_num

/-- The mean of a row's squares, the epsilon added, and its inverse root. -/
def meanSquare (x : Fin 1024 → EReal) : EReal := Ideal.div (∑ k, x k * x k) width + eps
def inverse (x : Fin 1024 → EReal) : EReal := Ideal.rsqrt (meanSquare x)

/-- The cotangent of the pre-activation: `rb` is the activation's root (the relu), `g` the gate, `w2` the second weight. -/
def cotangent (ct g : Fin 1024 → EReal) (w2 : Fin 4096 → Fin 1024 → EReal) (rb : Fin 4096 → EReal) (q : Fin 4096) : EReal :=
  (∑ l, ct l * g l * w2 q l) * (two * rb q)

/-- The cotangent of the normed row: back through the first weight, the scale and the gain. -/
def normed (p : Fin 4096 → EReal) (w1 : Fin 1024 → Fin 4096 → EReal) (sc gain : Fin 1024 → EReal) (k : Fin 1024) : EReal :=
  (∑ q, p q * w1 k q) * (1 + sc k) * gain k

/-- Back through the norm, as the kernel has it. -/
def throughNorm (x ct u : Fin 1024 → EReal) (k : Fin 1024) : EReal :=
  ct k + inverse x * (u k - x k * inverse x * Ideal.div (∑ l, u l * (x l * inverse x)) width)

/-- Back through the norm, differentiated: the cotangent of the mean of squares, once for each factor of the square. -/
def ofSquare (x u : Fin 1024 → EReal) : EReal :=
  Ideal.div ((∑ l, x l * u l) * (minusHalf * Ideal.div (inverse x) (meanSquare x))) width
def throughNorm' (x ct u : Fin 1024 → EReal) (k : Fin 1024) : EReal :=
  ct k + u k * inverse x + x k * ofSquare x u + ofSquare x u * x k

theorem sum_mul {n : ℕ} (f : Fin n → EReal) (r : ℝ) (hr : 0 ≤ r) : (∑ l, f l) * (r : EReal) = ∑ l, f l * (r : EReal) := by
  induction (Finset.univ : Finset (Fin n)) using Finset.induction_on with
  | empty => simp
  | insert a s ha ih =>
    rw [Finset.sum_insert ha, Finset.sum_insert ha, EReal.right_distrib_of_nonneg_of_ne_top (EReal.coe_nonneg.mpr hr) (EReal.coe_ne_top r), ih]

theorem square_nonneg (a : EReal) : 0 ≤ a * a := by
  rcases le_total 0 a with h | h
  · exact mul_nonneg h h
  · rw [← neg_mul_neg]
    exact mul_nonneg (EReal.neg_nonneg.mpr h) (EReal.neg_nonneg.mpr h)

theorem meanSquare_pos (x : Fin 1024 → EReal) : 0 < meanSquare x := by
  obtain ⟨e, he, h⟩ := eps_eq
  have hs : 0 ≤ Ideal.div (∑ k, x k * x k) width := by
    have : width ≠ 0 := by rw [width_eq]; norm_num
    rw [Ideal.div, if_neg this, width_eq, ← EReal.coe_inv]
    exact mul_nonneg (Finset.sum_nonneg fun k _ => square_nonneg (x k)) (EReal.coe_nonneg.mpr (by norm_num))
  refine lt_of_lt_of_le (EReal.coe_pos.mpr he) ?_
  unfold meanSquare
  rw [h]
  exact le_add_of_nonneg_left hs

theorem div_width (a : EReal) : Ideal.div a width = a * ((1 / 1024 : ℝ) : EReal) := by
  have : width ≠ 0 := by rw [width_eq]; norm_num
  rw [Ideal.div, if_neg this, width_eq, ← EReal.coe_inv]
  norm_num

theorem double (a : EReal) (d : ℝ) (hd : 0 ≤ d) : a * ((-d : ℝ) : EReal) + a * ((-d : ℝ) : EReal) = -(a * ((d + d : ℝ) : EReal)) := by
  have h0 : (0 : EReal) ≤ (d : EReal) := EReal.coe_nonneg.mpr hd
  rw [EReal.coe_add, EReal.left_distrib_of_nonneg h0 h0, EReal.coe_neg, mul_neg]
  generalize a * (d : EReal) = b
  induction b <;> simp [← EReal.coe_neg, ← EReal.coe_add]

theorem throughNorm_eq (x ct u : Fin 1024 → EReal) (k : Fin 1024) : throughNorm' x ct u k = throughNorm x ct u k := by
  have hv := meanSquare_pos x
  unfold throughNorm' throughNorm ofSquare inverse
  generalize meanSquare x = v at hv
  induction v with
  | bot => exact absurd hv (by simp)
  | top =>
    have h : Ideal.rsqrt ⊤ = 0 := rfl
    have h1 : Ideal.div 0 ⊤ = 0 := by simp [Ideal.div]
    rw [h, h1, div_width, div_width]
    simp
  | coe v =>
    have hv' : 0 < v := EReal.coe_pos.mp hv
    have hr : Ideal.rsqrt (v : EReal) = (((Real.sqrt v)⁻¹ : ℝ) : EReal) := by
      show (if v < 0 then ⊥ else if v = 0 then ⊤ else (((Real.sqrt v)⁻¹ : ℝ) : EReal)) = _
      rw [if_neg hv'.not_gt, if_neg hv'.ne']
    have hpos : 0 < (Real.sqrt v)⁻¹ := inv_pos.mpr (Real.sqrt_pos.mpr hv')
    have hsq : v⁻¹ = (Real.sqrt v)⁻¹ * (Real.sqrt v)⁻¹ := by rw [← mul_inv, Real.mul_self_sqrt hv'.le]
    have hd : Ideal.div (((Real.sqrt v)⁻¹ : ℝ) : EReal) (v : EReal) = (((Real.sqrt v)⁻¹ * ((Real.sqrt v)⁻¹ * (Real.sqrt v)⁻¹) : ℝ) : EReal) := by
      have : (v : EReal) ≠ 0 := fun h => hv'.ne' (EReal.coe_eq_zero.mp h)
      rw [Ideal.div, if_neg this, ← EReal.coe_inv, ← EReal.coe_mul, hsq]
    rw [hr, hd, div_width, div_width, minusHalf_eq]
    generalize (Real.sqrt v)⁻¹ = r at hpos
    have e : ∑ l, u l * (x l * (r : EReal)) = (∑ l, x l * u l) * (r : EReal) := by
      rw [sum_mul _ r hpos.le]
      exact Finset.sum_congr rfl fun l _ => by rw [mul_comm (x l) (u l), mul_assoc]
    rw [e]
    generalize ∑ l, x l * u l = s
    have e1 : s * (((-(1 / 2) : ℝ) : EReal) * ((r * (r * r) : ℝ) : EReal)) * ((1 / 1024 : ℝ) : EReal) = s * ((-(r * r * r / 2048) : ℝ) : EReal) := by
      rw [← EReal.coe_mul, mul_assoc, ← EReal.coe_mul]
      congr 2
      ring
    rw [e1, mul_comm (s * _) (x k), add_assoc, add_assoc, ← mul_assoc, double _ _ (by positivity), sub_eq_add_neg,
      EReal.left_distrib_of_nonneg_of_ne_top (EReal.coe_nonneg.mpr hpos.le) (EReal.coe_ne_top r), mul_neg, mul_comm (r : EReal) (u k)]
    congr 3
    have e2 : (r : EReal) * (x k * (r : EReal) * (s * (r : EReal) * ((1 / 1024 : ℝ) : EReal)))
        = x k * s * ((r : EReal) * (r : EReal) * (r : EReal) * ((1 / 1024 : ℝ) : EReal)) := by
      ac_rfl
    rw [e2, ← EReal.coe_mul, ← EReal.coe_mul, ← EReal.coe_mul]
    congr 2
    ring

/-- Entry `l` of chunk `j` of the 4096 hidden columns, and a sum over them chunk by chunk. -/
def chunk (j : Fin 4) (l : Fin 1024) : Fin 4096 := ⟨1024 * j.val + l.val, by omega⟩

theorem sum_chunks (f : Fin 4096 → EReal) :
    ∑ q, f q = ∑ l, f (chunk 0 l) + ∑ l, f (chunk 1 l) + ∑ l, f (chunk 2 l) + ∑ l, f (chunk 3 l) := by
  rw [← (finProdFinEquiv (m := 4) (n := 1024)).sum_comp f, Fintype.sum_prod_type, Fin.sum_univ_four]
  have h : ∀ (j : Fin 4) (l : Fin 1024), finProdFinEquiv (j, l) = chunk j l := fun j l => Fin.ext (Nat.add_comm l.val (1024 * j.val))
  simp only [h]

/-- Where the pre-activation is not positive its relu is zero, and so is the product the mask replaces by zero. -/
theorem mask (a p : EReal) : (if 0 < p then a * (two * max p 0) else 0) = a * (two * max p 0) := by
  split
  · rfl
  · rename_i h
    rw [max_eq_right (not_lt.mp h), mul_zero, mul_zero]

end Cert.Mlp

end
-- ==== Proof.MlpTile.lean ====
/- What a grid point of the MLP's backward call writes back to the gradient of the input, row by row, of the blocks it is given. -/
module

public import proofs.«01_k».proof.Proof.Gen.Kernel2Ideal.Value
public import Idealize.ShloMosaic.Lib.Pointwise
public import Idealize.ShloMosaic.Lib.Pipeline.ValueKit.Acc
public import Idealize.ShloMosaic.Lib.Pipeline.ValueKit.Tiles
public import proofs.«01_k».proof.Proof.Mlp

@[expose] public section

set_option maxRecDepth 65536

noncomputable section

namespace Cert.MlpTile

open Idealize.ShloMosaic Idealize.ShloMosaic.TcCoe Idealize.SL.Sem
open Cert.Kernel2Ideal Cert.Kernel2Ideal.Gen Cert.Kernel2Ideal.Value

section Read

variable (i : Fin 256) (k : Fin 1024)

theorem scaled_apply (ct : Vec Ideal S256x1024 .f32) (g : Vec Ideal S1x1x1024 .f32) : k0_pay2 ct g (ix2 i k) = ct (ix2 i k) * g (ix3 0 0 k) := by
  pointwise [k0_pay2]

theorem gain_apply (g : Vec Ideal S1x1024 .f32) : k0_pay4 g (ix2 0 k) = g (ix2 0 k) := by
  pointwise [k0_pay4]

theorem scale_apply (s : Vec Ideal S1x1x1024 .f32) : k0_pay5 s (ix2 0 k) = s (ix3 0 0 k) := by
  pointwise [k0_pay5]

theorem inverse_apply (x : Vec Ideal S256x1024 .f32) : k0_pay7 x (ix2 i 0) = Mlp.inverse fun k => x (ix2 i k) := by
  pointwise [k0_pay7, Ideal.multiReduction_add_single, Mlp.inverse, Mlp.meanSquare, Mlp.width, Mlp.eps]

theorem inverse_row_apply (x : Vec Ideal S256x1024 .f32) : k0_pay8 x (ix2 i k) = k0_pay7 x (ix2 i 0) := by
  pointwise [k0_pay8]

theorem normed_apply (x r : Vec Ideal S256x1024 .f32) : k0_pay9 x r (ix2 i k) = x (ix2 i k) * r (ix2 i k) := by
  pointwise [k0_pay9]

theorem cotangent0_apply (d : Vec Ideal S256x1024 .bf16) (w : Vec Ideal S1024x1024 .bf16) (rb : Vec Ideal S256x1024 .bf16) :
    k0_pay12 d w rb (ix2 i k) = (∑ l : Fin 1024, d (ix2 i l) * w (ix2 k l)) * (Mlp.two * rb (ix2 i k)) := by
  pointwise [k0_pay12, Mlp.two]

theorem cotangent1_apply (d : Vec Ideal S256x1024 .bf16) (w : Vec Ideal S1024x1024 .bf16) (rb : Vec Ideal S256x1024 .bf16) :
    k0_pay13 d w rb (ix2 i k) = (∑ l : Fin 1024, d (ix2 i l) * w (ix2 k l)) * (Mlp.two * rb (ix2 i k)) := by
  pointwise [k0_pay13, Mlp.two]

theorem cotangent2_apply (d : Vec Ideal S256x1024 .bf16) (w : Vec Ideal S1024x1024 .bf16) (rb : Vec Ideal S256x1024 .bf16) :
    k0_pay15 d (k0_pay14 w) (constant S256x1024 FTy.f32 0#32) rb (ix2 i k) = (∑ l : Fin 1024, d (ix2 i l) * w (ix2 k l)) * (Mlp.two * rb (ix2 i k)) := by
  pointwise [k0_pay15, k0_pay14, Mlp.two]

theorem cotangent3_apply (d : Vec Ideal S256x1024 .bf16) (w : Vec Ideal S1024x1024 .bf16) (rb : Vec Ideal S256x1024 .bf16) :
    k0_pay16 d w rb (ix2 i k) = (∑ l : Fin 1024, d (ix2 i l) * w (ix2 k l)) * (Mlp.two * rb (ix2 i k)) := by
  pointwise [k0_pay16, Mlp.two]

theorem sum3_apply (d : Vec Ideal S256x1024 .bf16) (w : Vec Ideal S1024x1024 .bf16) (rb : Vec Ideal S256x1024 .bf16)
    (p0 p1 : Vec Ideal S256x1024 .bf16) (a0 a1 a2 : Vec Ideal S1x1024x1024 .bf16) :
    k0_pay17 d p0 p1 (k0_pay14 w) (constant S256x1024 FTy.f32 0#32) rb a0 a1 a2 (ix2 i k)
      = (∑ l : Fin 1024, p0 (ix2 i l) * a0 (ix3 0 k l)) + (∑ l : Fin 1024, p1 (ix2 i l) * a1 (ix3 0 k l))
        + ∑ l : Fin 1024, k0_pay15 d (k0_pay14 w) (constant S256x1024 FTy.f32 0#32) rb (ix2 i l) * a2 (ix3 0 k l) := by
  generalize k0_pay14 w = w'
  unfold k0_pay17
  generalize k0_pay15 d w' (constant S256x1024 FTy.f32 0#32) rb = p2
  pointwise []

theorem sum4_apply (p3 : Vec Ideal S256x1024 .bf16) (s : Vec Ideal S256x1024 .f32) (a3 : Vec Ideal S1x1024x1024 .bf16) :
    k0_pay18 p3 s a3 (ix2 i k) = s (ix2 i k) + ∑ l : Fin 1024, p3 (ix2 i l) * a3 (ix3 0 k l) := by
  pointwise [k0_pay18]

theorem modulated_apply (sc : Vec Ideal S1x1024 .f32) (p3 : Vec Ideal S256x1024 .bf16) (s : Vec Ideal S256x1024 .f32) (a3 : Vec Ideal S1x1024x1024 .bf16) :
    k0_pay21 sc p3 s a3 (ix2 i k) = k0_pay18 p3 s a3 (ix2 i k) * (1 + sc (ix2 0 k)) := by
  unfold k0_pay21
  generalize k0_pay18 p3 s a3 = z
  pointwise []

theorem out_apply (ct : Vec Ideal S256x1024 .f32) (g sc : Vec Ideal S1x1024 .f32) (r : Vec Ideal S256x1 .f32) (xn : Vec Ideal S256x1024 .f32)
    (p3 : Vec Ideal S256x1024 .bf16) (s : Vec Ideal S256x1024 .f32) (a3 : Vec Ideal S1x1024x1024 .bf16) :
    k0_pay22 ct g sc r xn p3 s a3 (ix2 i k)
      = ct (ix2 i k) + r (ix2 i 0) * (k0_pay21 sc p3 s a3 (ix2 i k) * g (ix2 0 k)
        - xn (ix2 i k) * Ideal.div (∑ l, k0_pay21 sc p3 s a3 (ix2 i l) * g (ix2 0 l) * xn (ix2 i l)) Mlp.width) := by
  unfold k0_pay22
  generalize k0_pay21 sc p3 s a3 = z
  pointwise [Ideal.multiReduction_add_single, Mlp.width]

/-! The pieces a point reads of its blocks: a row of the modulation, a chunk of the hidden columns. -/

theorem modulation_apply (w : Vec Ideal S1x8x1024 .f32) (j : Fin 8) (h : ∀ a, _) :
    View.ld w (Rect.unit ![0, j.val, 0] ![1, 1, 1024] h) (ix3 0 0 k) = w (ix3 0 j k) := by
  unfold View.ld
  refine congrArg w (funext fun a => Fin.ext ((Rect.idx_unit_val _ _ h _ a).trans ?_))
  match a with
  | 0 => rfl
  | 1 => rfl
  | 2 => exact Nat.zero_add _

theorem second_apply (w : Vec Ideal S4096x1024 .bf16) (j : Fin 4) (l : Fin 1024) (h : ∀ a, _) :
    View.ld w (Rect.unit ![1024 * j.val, 0] ![1024, 1024] h) (ix2 l k) = w (ix2 (Mlp.chunk j l) k) := by
  unfold View.ld
  refine congrArg w (funext fun a => Fin.ext ((Rect.idx_unit_val _ _ h _ a).trans ?_))
  match a with
  | 0 => rfl
  | 1 => exact Nat.zero_add _

theorem saved_apply (rb : Vec Ideal S256x4096 .bf16) (j : Fin 4) (l : Fin 1024) (h : ∀ a, _) :
    View.ld rb (Rect.unit ![0, 1024 * j.val] ![256, 1024] h) (ix2 i l) = rb (ix2 i (Mlp.chunk j l)) := by
  unfold View.ld
  refine congrArg rb (funext fun a => Fin.ext ((Rect.idx_unit_val _ _ h _ a).trans ?_))
  match a with
  | 0 => exact Nat.zero_add _
  | 1 => rfl

theorem first_apply (w : Vec Ideal S4x1024x1024 .bf16) (j : Fin 4) (l : Fin 1024) (h : ∀ a, _) :
    View.ld w (Rect.unit ![j.val, 0, 0] ![1, 1024, 1024] h) (ix3 0 k l) = w (ix3 j k l) := by
  unfold View.ld
  refine congrArg w (funext fun a => Fin.ext ((Rect.idx_unit_val _ _ h _ a).trans ?_))
  match a with
  | 0 => rfl
  | 1 => exact Nat.zero_add _
  | 2 => exact Nat.zero_add _

end Read

variable (m : (ℓ : Loc nD τ sig) → Buf (Elt Ideal) ℓ) (c : Dev nD) (t : Fin cfg0.N)

/-- The blocks a point is given: the cotangent, the saved relu, the input, the gain, the modulation, the two weights. -/
abbrev blkCt : Vec Ideal S256x1024 .f32 := iblk m c 0 t
abbrev blkRb : Vec Ideal S256x4096 .bf16 := iblk m c 2 t
abbrev blkX : Vec Ideal S256x1024 .f32 := iblk m c 3 t
abbrev blkGain : Vec Ideal S1x1024 .f32 := iblk m c 4 t
abbrev blkMod : Vec Ideal S1x8x1024 .f32 := iblk m c 5 t
abbrev blkW1 : Vec Ideal S4x1024x1024 .bf16 := iblk m c 6 t
abbrev blkW2 : Vec Ideal S4096x1024 .bf16 := iblk m c 7 t

/-- The point's scaled cotangent. -/
def scaled (ct : Vec Ideal S256x1024 .f32) (w : Vec Ideal S1x8x1024 .f32) : FVec Ideal S256x1024 .bf16 :=
  k0_pay2 ct (View.ld w (Rect.unit (s := S1x8x1024) ![0, 5, 0] ![1, 1, 1024] inb_S1x8x1024_S1x1x1024_0_5_0))

/-- What a point writes back, of its blocks. -/
def body (ct : Vec Ideal S256x1024 .f32) (rb : Vec Ideal S256x4096 .bf16) (x : Vec Ideal S256x1024 .f32) (gain : Vec Ideal S1x1024 .f32)
    (w : Vec Ideal S1x8x1024 .f32) (w1 : Vec Ideal S4x1024x1024 .bf16) (w2 : Vec Ideal S4096x1024 .bf16) : FVec Ideal S256x1024 .f32 :=
  k0_pay22 ct (k0_pay4 gain) (k0_pay5 (View.ld w (Rect.unit (s := S1x8x1024) ![0, 4, 0] ![1, 1, 1024] inb_S1x8x1024_S1x1x1024_0_4_0)))
    (k0_pay7 x) (k0_pay9 x (k0_pay8 x))
    (k0_pay16 (scaled ct w) (View.ld w2 (Rect.unit (s := S4096x1024) ![3072, 0] ![1024, 1024] inb_S4096x1024_S1024x1024_3072_0))
      (View.ld rb (Rect.unit (s := S256x4096) ![0, 3072] ![256, 1024] inb_S256x4096_S256x1024_0_3072)))
    (k0_pay17 (scaled ct w)
      (k0_pay12 (scaled ct w) (View.ld w2 (Rect.unit (s := S4096x1024) ![0, 0] ![1024, 1024] inb_S4096x1024_S1024x1024_0_0))
        (View.ld rb (Rect.unit (s := S256x4096) ![0, 0] ![256, 1024] inb_S256x4096_S256x1024_0_0)))
      (k0_pay13 (scaled ct w) (View.ld w2 (Rect.unit (s := S4096x1024) ![1024, 0] ![1024, 1024] inb_S4096x1024_S1024x1024_1024_0))
        (View.ld rb (Rect.unit (s := S256x4096) ![0, 1024] ![256, 1024] inb_S256x4096_S256x1024_0_1024)))
      (k0_pay14 (View.ld w2 (Rect.unit (s := S4096x1024) ![2048, 0] ![1024, 1024] inb_S4096x1024_S1024x1024_2048_0)))
      (constant S256x1024 FTy.f32 0#32) (View.ld rb (Rect.unit (s := S256x4096) ![0, 2048] ![256, 1024] inb_S256x4096_S256x1024_0_2048))
      (View.ld w1 (Rect.unit (s := S4x1024x1024) ![0, 0, 0] ![1, 1024, 1024] inb_S4x1024x1024_S1x1024x1024_0_0_0))
      (View.ld w1 (Rect.unit (s := S4x1024x1024) ![1, 0, 0] ![1, 1024, 1024] inb_S4x1024x1024_S1x1024x1024_1_0_0))
      (View.ld w1 (Rect.unit (s := S4x1024x1024) ![2, 0, 0] ![1, 1024, 1024] inb_S4x1024x1024_S1x1024x1024_2_0_0)))
    (View.ld w1 (Rect.unit (s := S4x1024x1024) ![3, 0, 0] ![1, 1024, 1024] inb_S4x1024x1024_S1x1024x1024_3_0_0))

theorem left_eq : (outsAt0 m c t.val t.isLt).1
    = body (blkCt m c t) (blkRb m c t) (blkX m c t) (blkGain m c t) (blkMod m c t) (blkW1 m c t) (blkW2 m c t) := by
  by_cases h0 : t.val % 33 = 0
  · rw [outsAt0_A m c t h0]
    frame_out
    rfl
  · rw [outsAt0_B m c t h0]
    frame_out
    rfl

theorem body_apply (ct : Vec Ideal S256x1024 .f32) (rb : Vec Ideal S256x4096 .bf16) (x : Vec Ideal S256x1024 .f32) (gain : Vec Ideal S1x1024 .f32)
    (w : Vec Ideal S1x8x1024 .f32) (w1 : Vec Ideal S4x1024x1024 .bf16) (w2 : Vec Ideal S4096x1024 .bf16)
    (v : Fin 1024 → Fin 4096 → EReal) (hv : ∀ j k l, w1 (ix3 j k l) = v k (Mlp.chunk j l)) (i : Fin 256) (k : Fin 1024) :
    body ct rb x gain w w1 w2 (ix2 i k)
      = Mlp.throughNorm (fun k => x (ix2 i k)) (fun k => ct (ix2 i k))
          (Mlp.normed (Mlp.cotangent (fun k => ct (ix2 i k)) (fun k => w (ix3 0 5 k)) (fun q k => w2 (ix2 q k)) fun q => rb (ix2 i q))
            v (fun k => w (ix3 0 4 k)) fun k => gain (ix2 0 k)) k := by
  have g4 : ∀ l, View.ld w (Rect.unit (s := S1x8x1024) ![0, 4, 0] ![1, 1, 1024] inb_S1x8x1024_S1x1x1024_0_4_0) (ix3 0 0 l) = w (ix3 0 4 l) :=
    fun l => modulation_apply l w 4 inb_S1x8x1024_S1x1x1024_0_4_0
  have g5 : ∀ l, View.ld w (Rect.unit (s := S1x8x1024) ![0, 5, 0] ![1, 1, 1024] inb_S1x8x1024_S1x1x1024_0_5_0) (ix3 0 0 l) = w (ix3 0 5 l) :=
    fun l => modulation_apply l w 5 inb_S1x8x1024_S1x1x1024_0_5_0
  have a0 : ∀ k l, View.ld w1 (Rect.unit (s := S4x1024x1024) ![0, 0, 0] ![1, 1024, 1024] inb_S4x1024x1024_S1x1024x1024_0_0_0) (ix3 0 k l) = w1 (ix3 0 k l) :=
    fun k l => first_apply k w1 0 l inb_S4x1024x1024_S1x1024x1024_0_0_0
  have a1 : ∀ k l, View.ld w1 (Rect.unit (s := S4x1024x1024) ![1, 0, 0] ![1, 1024, 1024] inb_S4x1024x1024_S1x1024x1024_1_0_0) (ix3 0 k l) = w1 (ix3 1 k l) :=
    fun k l => first_apply k w1 1 l inb_S4x1024x1024_S1x1024x1024_1_0_0
  have a2 : ∀ k l, View.ld w1 (Rect.unit (s := S4x1024x1024) ![2, 0, 0] ![1, 1024, 1024] inb_S4x1024x1024_S1x1024x1024_2_0_0) (ix3 0 k l) = w1 (ix3 2 k l) :=
    fun k l => first_apply k w1 2 l inb_S4x1024x1024_S1x1024x1024_2_0_0
  have a3 : ∀ k l, View.ld w1 (Rect.unit (s := S4x1024x1024) ![3, 0, 0] ![1, 1024, 1024] inb_S4x1024x1024_S1x1024x1024_3_0_0) (ix3 0 k l) = w1 (ix3 3 k l) :=
    fun k l => first_apply k w1 3 l inb_S4x1024x1024_S1x1024x1024_3_0_0
  have b0 : ∀ k l, View.ld w2 (Rect.unit (s := S4096x1024) ![0, 0] ![1024, 1024] inb_S4096x1024_S1024x1024_0_0) (ix2 l k) = w2 (ix2 (Mlp.chunk 0 l) k) :=
    fun k l => second_apply k w2 0 l inb_S4096x1024_S1024x1024_0_0
  have b1 : ∀ k l, View.ld w2 (Rect.unit (s := S4096x1024) ![1024, 0] ![1024, 1024] inb_S4096x1024_S1024x1024_1024_0) (ix2 l k) = w2 (ix2 (Mlp.chunk 1 l) k) :=
    fun k l => second_apply k w2 1 l inb_S4096x1024_S1024x1024_1024_0
  have b2 : ∀ k l, View.ld w2 (Rect.unit (s := S4096x1024) ![2048, 0] ![1024, 1024] inb_S4096x1024_S1024x1024_2048_0) (ix2 l k) = w2 (ix2 (Mlp.chunk 2 l) k) :=
    fun k l => second_apply k w2 2 l inb_S4096x1024_S1024x1024_2048_0
  have b3 : ∀ k l, View.ld w2 (Rect.unit (s := S4096x1024) ![3072, 0] ![1024, 1024] inb_S4096x1024_S1024x1024_3072_0) (ix2 l k) = w2 (ix2 (Mlp.chunk 3 l) k) :=
    fun k l => second_apply k w2 3 l inb_S4096x1024_S1024x1024_3072_0
  have r0 : ∀ l, View.ld rb (Rect.unit (s := S256x4096) ![0, 0] ![256, 1024] inb_S256x4096_S256x1024_0_0) (ix2 i l) = rb (ix2 i (Mlp.chunk 0 l)) :=
    fun l => saved_apply i rb 0 l inb_S256x4096_S256x1024_0_0
  have r1 : ∀ l, View.ld rb (Rect.unit (s := S256x4096) ![0, 1024] ![256, 1024] inb_S256x4096_S256x1024_0_1024) (ix2 i l) = rb (ix2 i (Mlp.chunk 1 l)) :=
    fun l => saved_apply i rb 1 l inb_S256x4096_S256x1024_0_1024
  have r2 : ∀ l, View.ld rb (Rect.unit (s := S256x4096) ![0, 2048] ![256, 1024] inb_S256x4096_S256x1024_0_2048) (ix2 i l) = rb (ix2 i (Mlp.chunk 2 l)) :=
    fun l => saved_apply i rb 2 l inb_S256x4096_S256x1024_0_2048
  have r3 : ∀ l, View.ld rb (Rect.unit (s := S256x4096) ![0, 3072] ![256, 1024] inb_S256x4096_S256x1024_0_3072) (ix2 i l) = rb (ix2 i (Mlp.chunk 3 l)) :=
    fun l => saved_apply i rb 3 l inb_S256x4096_S256x1024_0_3072
  have hd : ∀ l, scaled ct w (ix2 i l) = ct (ix2 i l) * w (ix3 0 5 l) := fun l => (scaled_apply i l ct _).trans (congrArg (ct (ix2 i l) * ·) (g5 l))
  unfold body Mlp.throughNorm Mlp.normed
  generalize scaled ct w = d at hd
  simp only [out_apply, modulated_apply, sum4_apply, sum3_apply, cotangent0_apply, cotangent1_apply, cotangent2_apply, cotangent3_apply,
    gain_apply, scale_apply, inverse_apply, inverse_row_apply, normed_apply, Mlp.sum_chunks, Mlp.cotangent, ← hv, hd, g4, g5, a0, a1, a2, a3, b0, b1, b2, b3, r0, r1, r2, r3]

end Cert.MlpTile
-- ==== Proof.MlpRef.lean ====
/- The reference of the MLP's backward call, read at an index: the arrays its program computes, each a function of earlier ones. -/
module

public import proofs.«01_k».proof.Proof.Gen.Reference2Ideal.Run
public import Idealize.ShloMosaic.Lib.Pointwise
public import Idealize.ShloMosaic.Lib.WordCmp
public import proofs.«01_k».proof.Proof.Mlp

@[expose] public section

set_option maxRecDepth 65536

noncomputable section

namespace Cert.MlpRef

open Idealize.ShloMosaic Idealize.ShloMosaic.TcCoe Idealize.SL.Sem

section Arrays

open Cert.Reference2Ideal Cert.Reference2Ideal.Gen

/-- The mean of squares of every row, and its inverse root. -/
def squares (x : FVec Ideal S8448x1024 .f32) : FVec Ideal S8448x1 .f32 :=
  addf (Host.divf (broadcastInDim S8448x1 ![0] bcast_S8448_S8448x1_0 (Host.reduceAdd (mulf x x) (constant S_ .f32 0x00000000#32) reducesTo_S8448x1024_S8448_d1 h_S_))
    (broadcastInDim S8448x1 ![] bcast_S_S8448x1 (constant S_ .f32 0x44800000#32))) (broadcastInDim S8448x1 ![] bcast_S_S8448x1 (constant S_ .f32 0x358637BD#32))
def inverse (v : FVec Ideal S8448x1 .f32) : FVec Ideal S8448x1 .f32 := Host.rsqrt v

/-- A row of the modulation: the context's for the rows behind the 8192 latent ones. -/
def stream (a b : FVec Ideal S1024 .f32) : FVec Ideal S8448x1024 .f32 :=
  select (broadcastInDim S8448x1024 ![0, 1] bcast_S8448x1_S8448x1024_0_1 (cmpi .sge (broadcastInDim S8448x1 ![0] bcast_S8448_S8448x1_0 (iotaInDim S8448 32 0))
    (broadcastInDim S8448x1 ![] bcast_S_S8448x1 (constantI S_ 32 8192#32)))) (broadcastInDim S8448x1024 ![1] bcast_S1024_S8448x1024_1 a)
    (broadcastInDim S8448x1024 ![1] bcast_S1024_S8448x1024_1 b)
def shift (w : FVec Ideal S2x8x1024 .f32) : FVec Ideal S8448x1024 .f32 :=
  stream (shapeCast _ (extractStridedSlice S1x1x1024 ![1, 3, 0] w slices_S2x8x1024_S1x1x1024_1_3_0) shapeCasts_S1x1x1024_S1024)
    (shapeCast _ (extractStridedSlice S1x1x1024 ![0, 3, 0] w slices_S2x8x1024_S1x1x1024_0_3_0) shapeCasts_S1x1x1024_S1024)
def scale (w : FVec Ideal S2x8x1024 .f32) : FVec Ideal S8448x1024 .f32 :=
  addf (broadcastInDim S8448x1024 ![] bcast_S_S8448x1024 (constant S_ .f32 0x3F800000#32))
    (stream (shapeCast _ (extractStridedSlice S1x1x1024 ![1, 4, 0] w slices_S2x8x1024_S1x1x1024_1_4_0) shapeCasts_S1x1x1024_S1024)
      (shapeCast _ (extractStridedSlice S1x1x1024 ![0, 4, 0] w slices_S2x8x1024_S1x1x1024_0_4_0) shapeCasts_S1x1x1024_S1024))
def gate (w : FVec Ideal S2x8x1024 .f32) : FVec Ideal S8448x1024 .f32 :=
  stream (shapeCast _ (extractStridedSlice S1x1x1024 ![1, 5, 0] w slices_S2x8x1024_S1x1x1024_1_5_0) shapeCasts_S1x1x1024_S1024)
    (shapeCast _ (extractStridedSlice S1x1x1024 ![0, 5, 0] w slices_S2x8x1024_S1x1x1024_0_5_0) shapeCasts_S1x1x1024_S1024)

/-- The MLP's input, its pre-activation and the relu of that. -/
def hidden (x : FVec Ideal S8448x1024 .f32) (r : FVec Ideal S8448x1 .f32) (gain : FVec Ideal S1024 .f32) (sc sh : FVec Ideal S8448x1024 .f32) :
    FVec Ideal S8448x1024 .f32 :=
  addf (mulf (mulf (mulf x (broadcastInDim S8448x1024 ![0, 1] bcast_S8448x1_S8448x1024_0_1 r))
    (broadcastInDim S8448x1024 ![0, 1] bcast_S1x1024_S8448x1024_0_1 (broadcastInDim S1x1024 ![1] bcast_S1024_S1x1024_1 gain))) sc) sh
def pre (h : FVec Ideal S8448x1024 .f32) (w1 : FVec Ideal S1024x4096 .f32) : FVec Ideal S8448x4096 .f32 :=
  Host.dotGeneral dot_S8448x1024_S1024x4096_S8448x4096_1_0_0_1_n_n none h w1
def relu (p : FVec Ideal S8448x4096 .f32) : FVec Ideal S8448x4096 .f32 :=
  maximumf p (broadcastInDim S8448x4096 ![] bcast_S_S8448x4096 (constant S_ .f32 0x00000000#32))

/-- The cotangent of the pre-activation. -/
def cotangent (ct g : FVec Ideal S8448x1024 .f32) (w2 : FVec Ideal S4096x1024 .f32) (p rb : FVec Ideal S8448x4096 .f32) : FVec Ideal S8448x4096 .f32 :=
  select (cmpf .ogt p (broadcastInDim S8448x4096 ![] bcast_S_S8448x4096 (constant S_ .f32 0x00000000#32)))
    (mulf (Host.dotGeneral dot_S8448x1024_S4096x1024_S8448x4096_1_1_0_0_n_n none (mulf g (shapeCast _ ct shapeCasts_S8448x1024_S8448x1024)) w2)
      (mulf (broadcastInDim S8448x4096 ![] bcast_S_S8448x4096 (constant S_ .f32 0x40000000#32)) rb))
    (broadcastInDim S8448x4096 ![] bcast_S_S8448x4096 (constant S_ .f32 0x00000000#32))

/-- The cotangent of the normed row. -/
def normed (d : FVec Ideal S8448x4096 .f32) (w1 : FVec Ideal S1024x4096 .f32) (sc : FVec Ideal S8448x1024 .f32) (gain : FVec Ideal S1024 .f32) :
    FVec Ideal S8448x1024 .f32 :=
  mulf (mulf (Host.dotGeneral dot_S8448x4096_S1024x4096_S8448x1024_1_1_0_0_n_n none d w1) sc)
    (broadcastInDim S8448x1024 ![0, 1] bcast_S1x1024_S8448x1024_0_1 (broadcastInDim S1x1024 ![1] bcast_S1024_S1x1024_1 gain))

/-- The cotangent of the mean of squares, and the result. -/
def ofSquare (x u : FVec Ideal S8448x1024 .f32) (r v : FVec Ideal S8448x1 .f32) : FVec Ideal S8448 .f32 :=
  Host.reduceAdd (Host.divf (mulf (shapeCast _ (Host.reduceAdd (mulf x u) (constant S_ .f32 0x00000000#32) reducesTo_S8448x1024_S8448_d1 h_S_) shapeCasts_S8448_S8448x1)
      (mulf (broadcastInDim S8448x1 ![] bcast_S_S8448x1 (constant S_ .f32 0xBF000000#32)) (Host.divf r v)))
    (broadcastInDim S8448x1 ![] bcast_S_S8448x1 (constant S_ .f32 0x44800000#32))) (constant S_ .f32 0x00000000#32) reducesTo_S8448x1_S8448_d1 h_S_
def result (ct x u : FVec Ideal S8448x1024 .f32) (r : FVec Ideal S8448x1 .f32) (t : FVec Ideal S8448 .f32) : FVec Ideal S8448x1024 .f32 :=
  addf (addf (addf ct (mulf u (broadcastInDim S8448x1024 ![0, 1] bcast_S8448x1_S8448x1024_0_1 r)))
    (mulf x (broadcastInDim S8448x1024 ![0] bcast_S8448_S8448x1024_0 t))) (mulf (broadcastInDim S8448x1024 ![0] bcast_S8448_S8448x1024_0 t) x)

/-- The pre-activation and the whole, as functions of the arguments. -/
def preactivation (x : FVec Ideal S8448x1024 .f32) (gain : FVec Ideal S1024 .f32) (w : FVec Ideal S2x8x1024 .f32) (w1 : FVec Ideal S1024x4096 .f32) :
    FVec Ideal S8448x4096 .f32 := pre (hidden x (inverse (squares x)) gain (scale w) (shift w)) w1
def whole (ct x : FVec Ideal S8448x1024 .f32) (gain : FVec Ideal S1024 .f32) (w : FVec Ideal S2x8x1024 .f32) (w1 : FVec Ideal S1024x4096 .f32)
    (w2 : FVec Ideal S4096x1024 .f32) : FVec Ideal S8448x1024 .f32 :=
  let u := normed (cotangent ct (gate w) w2 (preactivation x gain w w1) (relu (preactivation x gain w w1))) w1 (scale w) gain
  result ct x u (inverse (squares x)) (ofSquare x u (inverse (squares x)) (squares x))

theorem run_eq (m : (ℓ : Loc nD τ sig) → Buf (Elt Ideal) ℓ) (c : Dev nD) : Value.res_main_v82 m c
    = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

end Arrays

section Read

open Cert.Reference2Ideal Cert.Reference2Ideal.Gen

variable (i : Fin 8448) (k : Fin 1024) (q : Fin 4096)

theorem squares_apply (x : FVec Ideal S8448x1024 .f32) : squares x (ix2 i 0) = Mlp.meanSquare fun k => x (ix2 i k) := by
  pointwise [squares, Ideal.hostReduceAdd_single, Mlp.meanSquare, Mlp.width, Mlp.eps]

theorem inverse_apply (v : FVec Ideal S8448x1 .f32) : inverse v (ix2 i 0) = Ideal.rsqrt (v (ix2 i 0)) := by
  pointwise [inverse]

theorem stream_apply (a b : FVec Ideal S1024 .f32) : stream a b (ix2 i k) = if 8192 ≤ i.val then a (ix1 k) else b (ix1 k) := by
  have h : IntOp.cmpi .sge (BitVec.ofNat 32 i.val) 8192#32 = BitVec.ofBool (decide (8192 ≤ i.val)) :=
    WordCmp.cmpi_sge_ofNat (by have := i.isLt; omega) (by decide)
  pointwise [stream]
  rw [h]
  by_cases h1 : 8192 ≤ i.val <;> simp [h1, Scalar.select]

theorem shift_apply (w : FVec Ideal S2x8x1024 .f32) : shift w (ix2 i k) = if 8192 ≤ i.val then w (ix3 1 3 k) else w (ix3 0 3 k) := by
  unfold shift
  rw [stream_apply]
  pointwise []

theorem scale_apply (w : FVec Ideal S2x8x1024 .f32) : scale w (ix2 i k) = 1 + if 8192 ≤ i.val then w (ix3 1 4 k) else w (ix3 0 4 k) := by
  pointwise [scale, stream_apply]

theorem gate_apply (w : FVec Ideal S2x8x1024 .f32) : gate w (ix2 i k) = if 8192 ≤ i.val then w (ix3 1 5 k) else w (ix3 0 5 k) := by
  unfold gate
  rw [stream_apply]
  pointwise []

theorem relu_apply (p : FVec Ideal S8448x4096 .f32) : relu p (ix2 i q) = max (p (ix2 i q)) 0 := by
  pointwise [relu]

theorem cotangent_apply (ct g : FVec Ideal S8448x1024 .f32) (w2 : FVec Ideal S4096x1024 .f32) (p : FVec Ideal S8448x4096 .f32) :
    cotangent ct g w2 p (relu p) (ix2 i q)
      = Mlp.cotangent (fun k => ct (ix2 i k)) (fun k => g (ix2 i k)) (fun q k => w2 (ix2 q k)) (fun q => relu p (ix2 i q)) q := by
  rw [Mlp.cotangent, relu_apply, ← Mlp.mask]
  simp only [← relu_apply]
  generalize relu p = rb
  pointwise [cotangent]
  simp only [mul_comm (g _) (ct _), Mlp.two]

theorem normed_apply (d : FVec Ideal S8448x4096 .f32) (w1 : FVec Ideal S1024x4096 .f32) (sc : FVec Ideal S8448x1024 .f32) (gain : FVec Ideal S1024 .f32) :
    normed d w1 sc gain (ix2 i k) = (∑ q : Fin 4096, d (ix2 i q) * w1 (ix2 k q)) * sc (ix2 i k) * gain (ix1 k) := by
  pointwise [normed]

theorem ofSquare_apply (x u : FVec Ideal S8448x1024 .f32) (r v : FVec Ideal S8448x1 .f32) :
    ofSquare x u r v (ix1 i)
      = Ideal.div ((∑ l : Fin 1024, x (ix2 i l) * u (ix2 i l)) * (Mlp.minusHalf * Ideal.div (r (ix2 i 0)) (v (ix2 i 0)))) Mlp.width := by
  pointwise [ofSquare, Ideal.hostReduceAdd_single, Mlp.minusHalf, Mlp.width]
  exact Fin.sum_univ_one _

theorem result_apply (ct x u : FVec Ideal S8448x1024 .f32) (r : FVec Ideal S8448x1 .f32) (t : FVec Ideal S8448 .f32) :
    result ct x u r t (ix2 i k)
      = ct (ix2 i k) + u (ix2 i k) * r (ix2 i 0) + x (ix2 i k) * t (ix1 i) + t (ix1 i) * x (ix2 i k) := by
  pointwise [result]

/-- A row of the modulation for a row of the input. -/
def row (w : FVec Ideal S2x8x1024 .f32) (j : Fin 8) (i : Fin 8448) (k : Fin 1024) : EReal := if 8192 ≤ i.val then w (ix3 1 j k) else w (ix3 0 j k)

/-- The gradient at an index, the saved relu `rb` an argument. -/
def gradient (ct x : FVec Ideal S8448x1024 .f32) (gain : FVec Ideal S1024 .f32) (w : FVec Ideal S2x8x1024 .f32) (w1 : FVec Ideal S1024x4096 .f32)
    (w2 : FVec Ideal S4096x1024 .f32) (rb : FVec Ideal S8448x4096 .f32) (i : Fin 8448) (k : Fin 1024) : EReal :=
  Mlp.throughNorm (fun k => x (ix2 i k)) (fun k => ct (ix2 i k))
    (Mlp.normed (Mlp.cotangent (fun k => ct (ix2 i k)) (row w 5 i) (fun q k => w2 (ix2 q k)) (fun q => rb (ix2 i q)))
      (fun k q => w1 (ix2 k q)) (row w 4 i) fun k => gain (ix1 k)) k

theorem whole_apply (ct x : FVec Ideal S8448x1024 .f32) (gain : FVec Ideal S1024 .f32) (w : FVec Ideal S2x8x1024 .f32) (w1 : FVec Ideal S1024x4096 .f32)
    (w2 : FVec Ideal S4096x1024 .f32) :
    whole ct x gain w w1 w2 (ix2 i k) = gradient ct x gain w w1 w2 (relu (preactivation x gain w w1)) i k := by
  unfold whole gradient
  generalize preactivation x gain w w1 = p
  rw [result_apply, ofSquare_apply, inverse_apply, squares_apply, ← Mlp.throughNorm_eq]
  simp only [normed_apply, cotangent_apply, scale_apply, gate_apply]
  rfl

end Read

end Cert.MlpRef

end
-- ==== Proof.MlpFinal.lean ====
/- The gradient of the MLP's input after the backward call's run: what the host prepares, the blocks the points are given, and the rows they write back. -/
module

public import proofs.«01_k».proof.Proof.MlpTile
public import proofs.«01_k».proof.Proof.MlpRef
public import Idealize.ShloMosaic.Lib.Pipeline.ValueKit.Acc

@[expose] public section

set_option maxRecDepth 65536

noncomputable section

namespace Cert.MlpFinal

open Idealize.ShloMosaic Idealize.ShloMosaic.TcCoe Idealize.SL.Sem
open Cert.Kernel2Ideal Cert.Kernel2Ideal.Gen Cert.Kernel2Ideal.Value
open Cert.MlpTile (blkCt blkRb blkX blkGain blkMod blkW1 blkW2)

variable (m : (ℓ : Loc nD τ sig) → Buf (Elt Ideal) ℓ) (c : Dev nD)

/-- The arguments as launched: cotangent, input, gain, modulation and the two weights. -/
abbrev argCt : FVec Ideal S8448x1024 .f32 := m ((c : Thread nD τ).loc main_arg0)
abbrev argX : FVec Ideal S8448x1024 .f32 := m ((c : Thread nD τ).loc main_arg1)
abbrev argGain : FVec Ideal S1024 .f32 := m ((c : Thread nD τ).loc main_arg2)
abbrev argMod : FVec Ideal S2x8x1024 .f32 := m ((c : Thread nD τ).loc main_arg3)
abbrev argW1 : FVec Ideal S1024x4096 .f32 := m ((c : Thread nD τ).loc main_arg4)
abbrev argW2 : FVec Ideal S4096x1024 .f32 := m ((c : Thread nD τ).loc main_arg5)

/-- The relu the host saves. -/
def saved : FVec Ideal S8448x4096 .f32 := MlpRef.relu (MlpRef.preactivation (argX m c) (argGain m c) (argMod m c) (argW1 m c))

/-! What the host prepares. -/

theorem host_saved : V m c main_v43 = truncf .bf16 (saved m c) bitsLt_bf16_f32 := by
  simp only [V, List.flatten_cons, List.flatten_nil, List.append_nil, List.cons_append, List.nil_append, hostOps0, hostOps0_1, hostOps0_2, hostOps0_3,
    hostOps0_4, hostOps0_5, hostOps0_6]
  after_results
  simp only [StableHlo.TRef.toBuf, StableHlo.TRef.ofBuf, cast_eq]
  rfl

theorem host_gain : V m c main_v44 = broadcastInDim S1x1024 ![1] bcast_S1024_S1x1024_1 (argGain m c) := by
  simp only [V, List.flatten_cons, List.flatten_nil, List.append_nil, List.cons_append, List.nil_append, hostOps0, hostOps0_1, hostOps0_2, hostOps0_3,
    hostOps0_4, hostOps0_5, hostOps0_6]
  after_results

theorem host_first : V m c main_v42 = transpose S4x1024x1024 [1, 0, 2]
    (shapeCast S1024x4x1024 (truncf .bf16 (argW1 m c) bitsLt_bf16_f32) shapeCasts_S1024x4096_S1024x4x1024) transposes_S1024x4x1024_S4x1024x1024_1_0_2 := by
  simp only [V, List.flatten_cons, List.flatten_nil, List.append_nil, List.cons_append, List.nil_append, hostOps0, hostOps0_1, hostOps0_2, hostOps0_3,
    hostOps0_4, hostOps0_5, hostOps0_6]
  after_results
  rfl

theorem host_second : V m c main_v45 = truncf .bf16 (argW2 m c) bitsLt_bf16_f32 := by
  simp only [V, List.flatten_cons, List.flatten_nil, List.append_nil, List.cons_append, List.nil_append, hostOps0, hostOps0_1, hostOps0_2, hostOps0_3,
    hostOps0_4, hostOps0_5, hostOps0_6]
  after_results

/-! The blocks of a point, of the arrays. -/

theorem lt33 (t : Fin cfg0.N) : t.val < 33 := lt_of_lt_of_eq t.isLt (show cfg0.N = 33 from N_0)

theorem index0 : ∀ t : Fin cfg0.N, win0_0.index t (0 : Fin 2) = t.val ∧ win0_0.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 3) = t.val / 32 ∧ win0_5.index t (1 : Fin 3) = 0 ∧ win0_5.index t (2 : Fin 3) = 0 :=
  (by decide +kernel : ∀ t : Fin grid0.N, _)
theorem index6 : ∀ t : Fin cfg0.N, win0_6.index t (0 : Fin 3) = 0 ∧ win0_6.index t (1 : Fin 3) = 0 ∧ win0_6.index t (2 : Fin 3) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)

section Read

variable (t : Fin cfg0.N) (i : Fin 256) (k l : Fin 1024) (q : Fin 4096) (j : Fin 8)

/-- Row `i` of point `t`'s block in the array, and the stream the block belongs to. -/
def row : Fin 8448 := ⟨256 * t.val + i.val, by have := lt33 t; omega⟩
def side : Fin 2 := ⟨t.val / 32, by have := lt33 t; omega⟩

theorem emb0 : ((cfg0.win 0).blk t).view.emb (ix2 i k) = ix2 (row t i) k := by
  obtain ⟨e0, e1⟩ := index0 t
  funext a; apply Fin.ext
  match a with
  | 0 => show win0_0.index t (0 : Fin 2) * 256 + 1 * i.val = 256 * t.val + i.val; omega
  | 1 => show win0_0.index t (1 : Fin 2) * 1024 + 1 * k.val = k.val; omega

theorem emb2 : ((cfg0.win 2).blk t).view.emb (ix2 i q) = ix2 (row t i) q := by
  obtain ⟨e0, e1⟩ := index2 t
  funext a; apply Fin.ext
  match a with
  | 0 => show win0_2.index t (0 : Fin 2) * 256 + 1 * i.val = 256 * t.val + i.val; omega
  | 1 => show win0_2.index t (1 : Fin 2) * 4096 + 1 * q.val = q.val; omega

theorem emb3 : ((cfg0.win 3).blk t).view.emb (ix2 i k) = ix2 (row t i) k := by
  obtain ⟨e0, e1⟩ := index3 t
  funext a; apply Fin.ext
  match a with
  | 0 => show win0_3.index t (0 : Fin 2) * 256 + 1 * i.val = 256 * t.val + i.val; omega
  | 1 => show win0_3.index t (1 : Fin 2) * 1024 + 1 * k.val = k.val; omega

theorem emb4 : ((cfg0.win 4).blk t).view.emb (ix2 0 k) = ix2 0 k := by
  obtain ⟨e0, e1⟩ := index4 t
  funext a; apply Fin.ext
  match a with
  | 0 => show win0_4.index t (0 : Fin 2) * 1 + 1 * 0 = 0; omega
  | 1 => show win0_4.index t (1 : Fin 2) * 1024 + 1 * k.val = k.val; omega

theorem emb5 : ((cfg0.win 5).blk t).view.emb (ix3 0 j k) = ix3 (side t) j k := by
  obtain ⟨e0, e1, e2⟩ := index5 t
  funext a; apply Fin.ext
  match a with
  | 0 => show win0_5.index t (0 : Fin 3) * 1 + 1 * 0 = t.val / 32; omega
  | 1 => show win0_5.index t (1 : Fin 3) * 8 + 1 * j.val = j.val; omega
  | 2 => show win0_5.index t (2 : Fin 3) * 1024 + 1 * k.val = k.val; omega

theorem emb6 (j : Fin 4) : ((cfg0.win 6).blk t).view.emb (ix3 j k l) = ix3 j k l := by
  obtain ⟨e0, e1, e2⟩ := index6 t
  funext a; apply Fin.ext
  match a with
  | 0 => show win0_6.index t (0 : Fin 3) * 4 + 1 * j.val = j.val; omega
  | 1 => show win0_6.index t (1 : Fin 3) * 1024 + 1 * k.val = k.val; omega
  | 2 => show win0_6.index t (2 : Fin 3) * 1024 + 1 * l.val = l.val; omega

theorem emb7 : ((cfg0.win 7).blk t).view.emb (ix2 q k) = ix2 q k := by
  obtain ⟨e0, e1⟩ := index7 t
  funext a; apply Fin.ext
  match a with
  | 0 => show win0_7.index t (0 : Fin 2) * 4096 + 1 * q.val = q.val; omega
  | 1 => show win0_7.index t (1 : Fin 2) * 1024 + 1 * k.val = k.val; omega

theorem emb8 : ((cfg0.win 8).blk t).view.emb (ix2 i k) = ix2 (row t i) k := by
  obtain ⟨e0, e1⟩ := index8 t
  funext a; apply Fin.ext
  match a with
  | 0 => show win0_8.index t (0 : Fin 2) * 256 + 1 * i.val = 256 * t.val + i.val; omega
  | 1 => show win0_8.index t (1 : Fin 2) * 1024 + 1 * k.val = k.val; omega

theorem ct_apply : blkCt m c t (ix2 i k) = argCt m c (ix2 (row t i) k) := by
  show V m c main_arg0 (((cfg0.win 0).blk t).view.emb (ix2 i k)) = _
  rw [emb0, V_main_arg0]

theorem saved_apply : blkRb m c t (ix2 i q) = saved m c (ix2 (row t i) q) := by
  show V m c main_v43 (((cfg0.win 2).blk t).view.emb (ix2 i q)) = _
  rw [emb2, host_saved]
  rfl

theorem x_apply : blkX m c t (ix2 i k) = argX m c (ix2 (row t i) k) := by
  show V m c main_arg1 (((cfg0.win 3).blk t).view.emb (ix2 i k)) = _
  rw [emb3, V_main_arg1]

theorem gain_apply : blkGain m c t (ix2 0 k) = argGain m c (ix1 k) := by
  show V m c main_v44 (((cfg0.win 4).blk t).view.emb (ix2 0 k)) = _
  rw [emb4, host_gain]
  pointwise []

theorem modulation_apply : blkMod m c t (ix3 0 j k) = MlpRef.row (argMod m c) j (row t i) k := by
  show V m c main_arg3 (((cfg0.win 5).blk t).view.emb (ix3 0 j k)) = _
  rw [emb5, V_main_arg3]
  have := lt33 t
  unfold MlpRef.row
  by_cases h : t.val = 32
  · rw [if_pos (show 8192 ≤ (row t i).val by show 8192 ≤ 256 * t.val + i.val; omega), show side t = 1 from Fin.ext (by show t.val / 32 = 1; omega)]
  · rw [if_neg (show ¬8192 ≤ (row t i).val by show ¬8192 ≤ 256 * t.val + i.val; omega), show side t = 0 from Fin.ext (by show t.val / 32 = 0; omega)]

theorem first_apply (j : Fin 4) : blkW1 m c t (ix3 j k l) = argW1 m c (ix2 k (Mlp.chunk j l)) := by
  show V m c main_v42 (((cfg0.win 6).blk t).view.emb (ix3 j k l)) = _
  rw [emb6, host_first]
  pointwise []
  exact congrArg (fun q => argW1 m c (ix2 k q)) (Fin.ext (by show j.val * 1024 + l.val = 1024 * j.val + l.val; omega))

theorem second_apply : blkW2 m c t (ix2 q k) = argW2 m c (ix2 q k) := by
  show V m c main_v45 (((cfg0.win 7).blk t).view.emb (ix2 q k)) = _
  rw [emb7, host_second]
  rfl

end Read

/-- The gradient as an array. -/
def result : FVec Ideal S8448x1024 .f32 := fun y =>
  MlpRef.gradient (argCt m c) (argX m c) (argGain m c) (argMod m c) (argW1 m c) (argW2 m c) (saved m c) (y 0) (y 1)

theorem left_apply (t : Fin cfg0.N) (i : Fin 256) (k : Fin 1024) : (outsAt0 m c t.val t.isLt).1 (ix2 i k) = result m c (ix2 (row t i) k) := by
  rw [MlpTile.left_eq, MlpTile.body_apply _ _ _ _ _ _ _ (fun k q => argW1 m c (ix2 k q)) fun j k l => first_apply m c t k l j]
  simp only [ct_apply, saved_apply, x_apply, gain_apply, modulation_apply m c t i, second_apply]
  rfl

theorem flushed_eq (t : Fin cfg0.N) (hf : (cfg0.win 8).flush t = true) :
    (dats m 0 c).flushed 8 t = ((cfg0.win 8).blk t).view.read (Elt Ideal) (result m c) := by
  rw [flushed8]
  funext y
  obtain ⟨i, k, rfl⟩ : ∃ (i : Fin 256) (k : Fin 1024), y = ix2 i k := ⟨y 0, y 1, funext fun a => match a with | 0 => rfl | 1 => rfl⟩
  show (outsAt0 m c t.val t.isLt).1 (ix2 i k) = result m c (((cfg0.win 8).blk t).view.emb (ix2 i k))
  rw [emb8, left_apply]

theorem cover (r : Fin 8448) (k : Fin 1024) : ∃ t : Fin cfg0.N, (cfg0.win 8).flush t = true ∧ ix2 r k ∈ ((cfg0.win 8).blk t).view.set := by
  let t : Fin cfg0.N := ⟨r.val / 256, lt_of_lt_of_eq (by omega) (show cfg0.N = 33 from N_0).symm⟩
  refine ⟨t, flush0_8 t, ?_⟩
  have e := ((cfg0.win 8).blk t).view.emb_mem_set (ix2 (⟨r.val % 256, by omega⟩ : Fin 256) k)
  rw [emb8] at e
  rwa [show row t ⟨r.val % 256, by omega⟩ = r from Fin.ext (by show 256 * (r.val / 256) + r.val % 256 = r.val; omega)] at e

/-- The array of the gradient after the run. -/
theorem final : (dats m 0 c).arrAt 8 cfg0.N = result m c :=
  (dats m 0 c).arrAt_eq_of_cover 8 _ (flushed_eq m c) fun y => by
    obtain ⟨r, k, rfl⟩ : ∃ (r : Fin 8448) (k : Fin 1024), y = ix2 r k := ⟨y 0, y 1, funext fun a => match a with | 0 => rfl | 1 => rfl⟩
    exact cover r k

end Cert.MlpFinal

end
-- ==== Proof.MlpClaims.lean ====
/- The claims of the MLP's backward call. The kernel's two programs have the same text, so its frame is its idealized program's at the machine's
   floats; for the value claim both programs are run, and both end at the gradient of the input (`MlpRef.gradient`). -/
module

public import proofs.«01_k».proof.Defs
public import proofs.«01_k».proof.Proof.Gen.Kernel2
public import proofs.«01_k».proof.Proof.MlpFinal
public import Idealize.ShloMosaic.Adequacy
public import Idealize.ShloMosaic.Init

@[expose] public section

set_option maxRecDepth 65536
set_option maxHeartbeats 4000000

noncomputable section

namespace Cert.MlpClaims

open Idealize.ShloMosaic Idealize.ShloMosaic.TcCoe Idealize.SL.Sem

theorem defs2 : @Cert.Kernel2.defs Bits _ _ = @Cert.Kernel2Ideal.defs Bits _ _ := by
  refine congrArg (Pipeline.defs (Cert.Kernel2Ideal.pcfgs (F := Bits))) ?_
  unfold Cert.Kernel2.defs₀ Cert.Kernel2Ideal.defs₀
  refine congrArg Defs.onTc (funext fun l => funext fun x => ?_)
  match l, x with
  | 0, (_, _) => rfl

theorem frame2 : Cert.quiescent_Kernel2 (hKernel2 := Cert.Kernel2.Gen.facts) := by
  intro m ρ _
  rw [defs2]
  exact Cert.Kernel2Ideal.Gen.frame (F := Bits) m ρ

theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem value2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => MlpFinal.result m c, ?_, ?_⟩
  · refine (θ_run _ _ _).mono (fun _ h c => ?_) (Cert.Kernel2Ideal.Value.run_blocks (F := Ideal) m ρ)
    obtain ⟨h1, -, -, -, -, hargs⟩ := h c
    exact ⟨h1.trans (MlpFinal.final m c), hargs⟩
  · refine (θ_run _ _ _).mono (fun _ h c => ⟨(h c).1.trans ?_, (h c).2⟩) (Cert.Reference2Ideal.Value.run (F := Ideal) m' ρ')
    obtain ⟨e0, e1, e2, e3, e4, e5⟩ := hagree c
    rw [MlpRef.run_eq, e0, e1, e2, e3, e4, e5]
    funext y
    obtain ⟨r, k, rfl⟩ : ∃ (r : Fin 8448) (k : Fin 1024), y = ix2 r k := ⟨y 0, y 1, funext fun a => match a with | 0 => rfl | 1 => rfl⟩
    exact MlpRef.whole_apply r k _ _ _ _ _ _

end Cert.MlpClaims

end
-- ==== Proof.Forward.lean ====
/- One row of the two forward calls that read the normed and modulated input (the MLP's and the projection's), how a block's piece is read at an
   index, and that input of the references read at an index. -/
module

public import proofs.«01_k».proof.Proof.MlpRef
public import Idealize.ShloMosaic.Lib.Pipeline.ValueKit.Tiles

@[expose] public section

set_option maxRecDepth 65536

noncomputable section

namespace Cert.Forward

open Idealize.ShloMosaic Idealize.ShloMosaic.TcCoe Idealize.SL.Sem

/-- The normed and modulated input of a row. -/
def modulated (x gain sc sh : Fin 1024 → EReal) (k : Fin 1024) : EReal := x k * Mlp.inverse x * gain k * (1 + sc k) + sh k

/-- The relu of the pre-activation, and the product of its square with the second weight. -/
def root (h : Fin 1024 → EReal) (w : Fin 1024 → Fin 4096 → EReal) (q : Fin 4096) : EReal := max (∑ k, h k * w k q) 0
def product (r : Fin 4096 → EReal) (w : Fin 4096 → Fin 1024 → EReal) (k : Fin 1024) : EReal := ∑ q, r q * r q * w q k

/-- The projection of a row. -/
def projected {n : Nat} (h : Fin 1024 → EReal) (w : Fin 1024 → Fin n → EReal) (q : Fin n) : EReal := ∑ k, h k * w k q

/-- Row `i` of block `t` in an array of 33 blocks of 256 rows, the stream the block belongs to, and a row's block and place in it. -/
def row (t : Nat) (ht : t < 33) (i : Fin 256) : Fin 8448 := ⟨256 * t + i.val, by omega⟩
def side (t : Nat) (ht : t < 33) : Fin 2 := ⟨t / 32, by omega⟩
def inside (r : Fin 8448) : Fin 256 := ⟨r.val % 256, by omega⟩

theorem row_inside (r : Fin 8448) (h : r.val / 256 < 33) : row (r.val / 256) h (inside r) = r :=
  Fin.ext (by show 256 * (r.val / 256) + r.val % 256 = r.val; omega)

theorem side_apply (w : FVec Ideal ⟨3, ![2, 8, 1024]⟩ .f32) (t : Nat) (ht : t < 33) (i : Fin 256) (j : Fin 8) (k : Fin 1024) :
    w (ix3 (side t ht) j k) = MlpRef.row w j (row t ht i) k := by
  unfold MlpRef.row
  by_cases h : t = 32
  · rw [if_pos (show 8192 ≤ (row t ht i).val by show 8192 ≤ 256 * t + i.val; omega), show side t ht = 1 from Fin.ext (by show t / 32 = 1; omega)]
  · rw [if_neg (show ¬8192 ≤ (row t ht i).val by show ¬8192 ≤ 256 * t + i.val; omega), show side t ht = 0 from Fin.ext (by show t / 32 = 0; omega)]

/-! A piece of a block, read at an index of the piece. -/

theorem ld2 {e : EltTy} {a b n l : Nat} (x : Vec Ideal ⟨2, ![a, b]⟩ e) (r c : Nat) (h : ∀ p : Fin 2, (![r, c] : Fin 2 → Nat) p + (![n, l] : Fin 2 → Nat) p ≤ (![a, b] : Fin 2 → Nat) p)
    (i : Fin n) (k : Fin l) (i' : Fin a) (k' : Fin b)
    (hi : r + i.val = i'.val) (hk : c + k.val = k'.val) :
    View.ld x (Rect.unit (s := ⟨2, ![a, b]⟩) ![r, c] ![n, l] h) (ix2 i k) = x (ix2 i' k') := by
  unfold View.ld
  refine congrArg x (funext fun a => Fin.ext ((Rect.idx_unit_val _ _ h _ a).trans ?_))
  match a with
  | 0 => exact hi
  | 1 => exact hk

theorem ld3 {e : EltTy} {a b d n n' l : Nat} (x : Vec Ideal ⟨3, ![a, b, d]⟩ e) (r s c : Nat)
    (h : ∀ p : Fin 3, (![r, s, c] : Fin 3 → Nat) p + (![n, n', l] : Fin 3 → Nat) p ≤ (![a, b, d] : Fin 3 → Nat) p)
    (i : Fin n) (j : Fin n') (k : Fin l) (i' : Fin a) (j' : Fin b) (k' : Fin d) (hi : r + i.val = i'.val) (hj : s + j.val = j'.val) (hk : c + k.val = k'.val) :
    View.ld x (Rect.unit (s := ⟨3, ![a, b, d]⟩) ![r, s, c] ![n, n', l] h) (ix3 i j k) = x (ix3 i' j' k') := by
  unfold View.ld
  refine congrArg x (funext fun a => Fin.ext ((Rect.idx_unit_val _ _ h _ a).trans ?_))
  match a with
  | 0 => exact hi
  | 1 => exact hj
  | 2 => exact hk

/-- A column piece's index in the block. -/
theorem emb2 {a b n l : Nat} (r c : Nat) (h : ∀ p : Fin 2, (![r, c] : Fin 2 → Nat) p + (![n, l] : Fin 2 → Nat) p ≤ (![a, b] : Fin 2 → Nat) p)
    (i : Fin n) (k : Fin l) (i' : Fin a) (k' : Fin b) (hi : r + i.val = i'.val) (hk : c + k.val = k'.val) :
    (Rect.unit (s := ⟨2, ![a, b]⟩) ![r, c] ![n, l] h).emb (ix2 i k) = ix2 i' k' := by
  refine funext fun a => Fin.ext ((Rect.idx_unit_val _ _ h _ a).trans ?_)
  match a with
  | 0 => exact hi
  | 1 => exact hk

/-- Four column pieces of a block of 256 rows, whose entries are those of `G`, make `G`. -/
theorem columns {e : EltTy} {n N : Nat} (G : Fin 256 → Fin N → Elt Ideal e) (chunk : Fin 4 → Fin n → Fin N) (o0 o1 o2 o3 : Nat)
    (h0 : ∀ p : Fin 2, (![0, o0] : Fin 2 → Nat) p + (![256, n] : Fin 2 → Nat) p ≤ (![256, N] : Fin 2 → Nat) p)
    (h1 : ∀ p : Fin 2, (![0, o1] : Fin 2 → Nat) p + (![256, n] : Fin 2 → Nat) p ≤ (![256, N] : Fin 2 → Nat) p)
    (h2 : ∀ p : Fin 2, (![0, o2] : Fin 2 → Nat) p + (![256, n] : Fin 2 → Nat) p ≤ (![256, N] : Fin 2 → Nat) p)
    (h3 : ∀ p : Fin 2, (![0, o3] : Fin 2 → Nat) p + (![256, n] : Fin 2 → Nat) p ≤ (![256, N] : Fin 2 → Nat) p)
    (e0 : ∀ l, o0 + l.val = (chunk 0 l).val) (e1 : ∀ l, o1 + l.val = (chunk 1 l).val) (e2 : ∀ l, o2 + l.val = (chunk 2 l).val)
    (e3 : ∀ l, o3 + l.val = (chunk 3 l).val) (p0 p1 p2 p3 : Vec Ideal ⟨2, ![256, n]⟩ e)
    (g0 : ∀ i l, p0 (ix2 i l) = G i (chunk 0 l)) (g1 : ∀ i l, p1 (ix2 i l) = G i (chunk 1 l)) (g2 : ∀ i l, p2 (ix2 i l) = G i (chunk 2 l))
    (g3 : ∀ i l, p3 (ix2 i l) = G i (chunk 3 l)) (i : Fin 256) (q : Fin N)
    (hy : ∃ pc ∈ ([⟨Rect.unit (s := ⟨2, ![256, N]⟩) ![0, o3] ![256, n] h3, p3⟩, ⟨Rect.unit (s := ⟨2, ![256, N]⟩) ![0, o2] ![256, n] h2, p2⟩,
      ⟨Rect.unit (s := ⟨2, ![256, N]⟩) ![0, o1] ![256, n] h1, p1⟩, ⟨Rect.unit (s := ⟨2, ![256, N]⟩) ![0, o0] ![256, n] h0, p0⟩] :
        List (View.Piece (Elt Ideal) ⟨2, ![256, N]⟩ e)), ix2 i q ∈ pc.1.set) :
    View.canon ([⟨Rect.unit (s := ⟨2, ![256, N]⟩) ![0, o3] ![256, n] h3, p3⟩, ⟨Rect.unit (s := ⟨2, ![256, N]⟩) ![0, o2] ![256, n] h2, p2⟩,
      ⟨Rect.unit (s := ⟨2, ![256, N]⟩) ![0, o1] ![256, n] h1, p1⟩, ⟨Rect.unit (s := ⟨2, ![256, N]⟩) ![0, o0] ![256, n] h0, p0⟩] :
        List (View.Piece (Elt Ideal) ⟨2, ![256, N]⟩ e)) (ix2 i q) = G i q := by
  have piece : ∀ (j : Fin 4) (o : Nat) (h : ∀ p : Fin 2, (![0, o] : Fin 2 → Nat) p + (![256, n] : Fin 2 → Nat) p ≤ (![256, N] : Fin 2 → Nat) p)
      (_ : ∀ l, o + l.val = (chunk j l).val) (p : Vec Ideal ⟨2, ![256, n]⟩ e) (_ : ∀ i l, p (ix2 i l) = G i (chunk j l)) (y : (⟨2, ![256, n]⟩ : Shape).Idx),
      p y = (fun y : (⟨2, ![256, N]⟩ : Shape).Idx => G (y 0) (y 1)) ((Rect.unit (s := ⟨2, ![256, N]⟩) ![0, o] ![256, n] h).emb y) := by
    intro j o h ho p hp y
    obtain ⟨i, l, rfl⟩ : ∃ (i : Fin 256) (l : Fin n), y = ix2 i l := ⟨y 0, y 1, funext fun a => match a with | 0 => rfl | 1 => rfl⟩
    rw [emb2 0 o h i l i (chunk j l) (Nat.zero_add _) (ho l), hp i l]
    rfl
  refine (View.canon_apply_of_pieces (fun y : (⟨2, ![256, N]⟩ : Shape).Idx => G (y 0) (y 1)) _ ?_ (ix2 i q) hy).trans rfl
  intro pc hp y
  simp only [List.mem_cons, List.not_mem_nil, or_false] at hp
  rcases hp with rfl | rfl | rfl | rfl
  · exact piece 3 o3 h3 e3 p3 g3 y
  · exact piece 2 o2 h2 e2 p2 g2 y
  · exact piece 1 o1 h1 e1 p1 g1 y
  · exact piece 0 o0 h0 e0 p0 g0 y

section Reference

open Cert.Reference2Ideal Cert.Reference2Ideal.Gen

variable (i : Fin 8448) (k : Fin 1024) (q : Fin 4096)

theorem hidden_apply (x : FVec Ideal S8448x1024 .f32) (r : FVec Ideal S8448x1 .f32) (gain : FVec Ideal S1024 .f32) (sc sh : FVec Ideal S8448x1024 .f32) :
    MlpRef.hidden x r gain sc sh (ix2 i k) = x (ix2 i k) * r (ix2 i 0) * gain (ix1 k) * sc (ix2 i k) + sh (ix2 i k) := by
  pointwise [MlpRef.hidden]

theorem pre_apply (h : FVec Ideal S8448x1024 .f32) (w1 : FVec Ideal S1024x4096 .f32) :
    MlpRef.pre h w1 (ix2 i q) = ∑ k : Fin 1024, h (ix2 i k) * w1 (ix2 k q) := by
  pointwise [MlpRef.pre]

end Reference

end Cert.Forward

end
-- ==== Proof.FwdTile.lean ====
/- What a grid point of the MLP's forward call writes back to its three results, row by row, of the blocks it is given. -/
module

public import proofs.«01_k».proof.Proof.Gen.Kernel8Ideal.Value
public import Idealize.ShloMosaic.Lib.Pipeline.ValueKit.Acc
public import proofs.«01_k».proof.Proof.Forward

@[expose] public section

set_option maxRecDepth 65536

noncomputable section

namespace Cert.FwdTile

open Idealize.ShloMosaic Idealize.ShloMosaic.TcCoe Idealize.SL.Sem
open Cert.Kernel8Ideal Cert.Kernel8Ideal.Gen Cert.Kernel8Ideal.Value

variable (i : Fin 256) (k l : Fin 1024)

/-! The values of the body, read at an index. -/

theorem input_apply (x : Vec Ideal S256x1024 .f32) (g : Vec Ideal S1x1024 .f32) (sh sc : Vec Ideal S1x1x1024 .f32) :
    k0_pay6 x g sh sc (ix2 i k)
      = Forward.modulated (fun k => x (ix2 i k)) (fun k => g (ix2 0 k)) (fun k => sc (ix3 0 0 k)) (fun k => sh (ix3 0 0 k)) k := by
  pointwise [k0_pay6, Ideal.multiReduction_add_single, Forward.modulated, Mlp.inverse, Mlp.meanSquare, Mlp.width, Mlp.eps]

theorem root0_apply (x : Vec Ideal S256x1024 .f32) (g : Vec Ideal S1x1024 .f32) (sh sc : Vec Ideal S1x1x1024 .f32) (a : Vec Ideal S1x1024x1024 .bf16) :
    k0_pay7 x g sh sc a (ix2 i l) = max (∑ k : Fin 1024, k0_pay6 x g sh sc (ix2 i k) * a (ix3 0 k l)) 0 := by
  unfold k0_pay7
  generalize k0_pay6 x g sh sc = h
  pointwise []

theorem root1_apply (h : FVec Ideal S256x1024 .bf16) (a : Vec Ideal S1x1024x1024 .bf16) :
    k0_pay10 h a (ix2 i l) = max (∑ k : Fin 1024, h (ix2 i k) * a (ix3 0 k l)) 0 := by
  pointwise [k0_pay10]

theorem root2_apply (h : FVec Ideal S256x1024 .bf16) (a : Vec Ideal S1x1024x1024 .bf16) :
    k0_pay12 h a (ix2 i l) = max (∑ k : Fin 1024, h (ix2 i k) * a (ix3 0 k l)) 0 := by
  pointwise [k0_pay12]

theorem root3_apply (h : FVec Ideal S256x1024 .bf16) (a : Vec Ideal S1x1024x1024 .bf16) :
    k0_pay1 (k0_pay15 h a) (Scalar.ofBits .f32 0x00000000#32) (ix2 i l) = max (∑ k : Fin 1024, h (ix2 i k) * a (ix3 0 k l)) 0 := by
  pointwise [k0_pay1, k0_pay15]

theorem square_apply (x : Vec Ideal S256x1024 .f32) (g : Vec Ideal S1x1024 .f32) (sh sc : Vec Ideal S1x1x1024 .f32) (a : Vec Ideal S1x1024x1024 .bf16) :
    k0_pay9 x g sh sc a (ix2 i l) = k0_pay7 x g sh sc a (ix2 i l) * k0_pay7 x g sh sc a (ix2 i l) := by
  unfold k0_pay9
  generalize k0_pay7 x g sh sc a = r
  pointwise []

theorem sum3_apply (h s0 : FVec Ideal S256x1024 .bf16) (b0 b1 b2 : Vec Ideal S1024x1024 .bf16) (a1 a2 : Vec Ideal S1x1024x1024 .bf16) :
    k0_pay14 h s0 b0 a1 b1 a2 b2 (ix2 i k)
      = (∑ l : Fin 1024, s0 (ix2 i l) * b0 (ix2 l k)) + (∑ l : Fin 1024, k0_pay10 h a1 (ix2 i l) * k0_pay10 h a1 (ix2 i l) * b1 (ix2 l k))
        + ∑ l : Fin 1024, k0_pay12 h a2 (ix2 i l) * k0_pay12 h a2 (ix2 i l) * b2 (ix2 l k) := by
  unfold k0_pay14
  generalize k0_pay10 h a1 = r1
  generalize k0_pay12 h a2 = r2
  pointwise []

theorem sum4_apply (s v : FVec Ideal S256x1024 .f32) (z : Ideal .f32) (b : Vec Ideal S1024x1024 .bf16) :
    k0_pay3 s v z b (ix2 i k) = s (ix2 i k) + ∑ l : Fin 1024, k0_pay1 v z (ix2 i l) * k0_pay1 v z (ix2 i l) * b (ix2 l k) := by
  unfold k0_pay3
  generalize k0_pay1 v z = r
  pointwise []

theorem out_apply (x : Vec Ideal S256x1024 .f32) (s v : FVec Ideal S256x1024 .f32) (z : Ideal .f32) (b : Vec Ideal S1024x1024 .bf16) (g : Vec Ideal S1x1x1024 .f32) :
    k0_pay5 x s v z b g (ix2 i k) = x (ix2 i k) + g (ix3 0 0 k) * k0_pay3 s v z b (ix2 i k) := by
  unfold k0_pay5
  generalize k0_pay3 s v z b = y
  pointwise []

/-! The three results of a point, of its blocks. -/

variable (x : Vec Ideal S256x1024 .f32) (gain : Vec Ideal S1x1024 .f32) (w : Vec Ideal S1x8x1024 .f32) (w1 : Vec Ideal S4x1024x1024 .bf16)
  (w2 : Vec Ideal S4096x1024 .bf16)

/-- The input of the MLP in a row of the block, and its relu in terms of the first weight `v`. -/
def input : Fin 1024 → EReal :=
  Forward.modulated (fun k => x (ix2 i k)) (fun k => gain (ix2 0 k)) (fun k => w (ix3 0 4 k)) (fun k => w (ix3 0 3 k))

theorem input_eq : k0_pay6 (View.ld x r0_0) (View.ld gain r0_1) (View.ld w r0_2) (View.ld w r0_3) (ix2 i k) = input i x gain w k := by
  have h0 : ∀ k, View.ld x r0_0 (ix2 i k) = x (ix2 i k) := fun k => Forward.ld2 x 0 0 _ i k i k (Nat.zero_add _) (Nat.zero_add _)
  have h1 : ∀ k, View.ld gain r0_1 (ix2 0 k) = gain (ix2 0 k) := fun k => Forward.ld2 gain 0 0 _ 0 k 0 k (Nat.zero_add _) (Nat.zero_add _)
  have h2 : ∀ k, View.ld w r0_2 (ix3 0 0 k) = w (ix3 0 3 k) := fun k => Forward.ld3 w 0 3 0 _ 0 0 k 0 3 k rfl rfl (Nat.zero_add _)
  have h3 : ∀ k, View.ld w r0_3 (ix3 0 0 k) = w (ix3 0 4 k) := fun k => Forward.ld3 w 0 4 0 _ 0 0 k 0 4 k rfl rfl (Nat.zero_add _)
  rw [input_apply]
  simp only [h0, h1, h2, h3]
  rfl

section Weighted

variable (v : Fin 1024 → Fin 4096 → EReal) (hv : ∀ j k l, w1 (ix3 j k l) = v k (Mlp.chunk j l))
include hv

/-- The relu of each chunk of the hidden columns. -/
theorem chunk0 : k0_pay7 (View.ld x r0_0) (View.ld gain r0_1) (View.ld w r0_2) (View.ld w r0_3) (View.ld w1 r0_4) (ix2 i l)
    = Forward.root (input i x gain w) v (Mlp.chunk 0 l) := by
  have ha : ∀ k, View.ld w1 r0_4 (ix3 0 k l) = w1 (ix3 0 k l) := fun k => Forward.ld3 w1 0 0 0 _ 0 k l 0 k l rfl (Nat.zero_add _) (Nat.zero_add _)
  rw [root0_apply, Forward.root]
  simp only [input_eq, ha, hv]

theorem chunk1 : k0_pay10 (k0_pay16 x gain w w1 w2) (View.ld w1 r0_7) (ix2 i l) = Forward.root (input i x gain w) v (Mlp.chunk 1 l) := by
  have ha : ∀ k, View.ld w1 r0_7 (ix3 0 k l) = w1 (ix3 1 k l) := fun k => Forward.ld3 w1 1 0 0 _ 0 k l 1 k l rfl (Nat.zero_add _) (Nat.zero_add _)
  rw [root1_apply, Forward.root, k0_pay16]
  simp only [input_eq, ha, hv]

theorem chunk2 : k0_pay12 (k0_pay16 x gain w w1 w2) (View.ld w1 r0_10) (ix2 i l) = Forward.root (input i x gain w) v (Mlp.chunk 2 l) := by
  have ha : ∀ k, View.ld w1 r0_10 (ix3 0 k l) = w1 (ix3 2 k l) := fun k => Forward.ld3 w1 2 0 0 _ 0 k l 2 k l rfl (Nat.zero_add _) (Nat.zero_add _)
  rw [root2_apply, Forward.root, k0_pay16]
  simp only [input_eq, ha, hv]

theorem chunk3 : k0_pay1 (k0_pay18 x gain w w1 w2) (Scalar.ofBits .f32 0x00000000#32) (ix2 i l) = Forward.root (input i x gain w) v (Mlp.chunk 3 l) := by
  have ha : ∀ k, View.ld w1 r0_13 (ix3 0 k l) = w1 (ix3 3 k l) := fun k => Forward.ld3 w1 3 0 0 _ 0 k l 3 k l rfl (Nat.zero_add _) (Nat.zero_add _)
  rw [k0_pay18, root3_apply, Forward.root, k0_pay16]
  simp only [input_eq, ha, hv]

/-- The product of the square with the second weight. -/
theorem product_eq : k0_pay3 (k0_pay17 x gain w w1 w2) (k0_pay18 x gain w w1 w2) (Scalar.ofBits .f32 0x00000000#32) (View.ld w2 r0_15) (ix2 i k)
    = Forward.product (Forward.root (input i x gain w) v) (fun q k => w2 (ix2 q k)) k := by
  have b0 : ∀ l, View.ld w2 r0_6 (ix2 l k) = w2 (ix2 (Mlp.chunk 0 l) k) := fun l => Forward.ld2 w2 0 0 _ l k (Mlp.chunk 0 l) k rfl (Nat.zero_add _)
  have b1 : ∀ l, View.ld w2 r0_9 (ix2 l k) = w2 (ix2 (Mlp.chunk 1 l) k) := fun l => Forward.ld2 w2 1024 0 _ l k (Mlp.chunk 1 l) k rfl (Nat.zero_add _)
  have b2 : ∀ l, View.ld w2 r0_12 (ix2 l k) = w2 (ix2 (Mlp.chunk 2 l) k) := fun l => Forward.ld2 w2 2048 0 _ l k (Mlp.chunk 2 l) k rfl (Nat.zero_add _)
  have b3 : ∀ l, View.ld w2 r0_15 (ix2 l k) = w2 (ix2 (Mlp.chunk 3 l) k) := fun l => Forward.ld2 w2 3072 0 _ l k (Mlp.chunk 3 l) k rfl (Nat.zero_add _)
  rw [sum4_apply, k0_pay17, sum3_apply, Forward.product, Mlp.sum_chunks]
  simp only [square_apply, chunk0 i _ x gain w w1 v hv, chunk1 i _ x gain w w1 w2 v hv, chunk2 i _ x gain w w1 w2 v hv, chunk3 i _ x gain w w1 w2 v hv,
    b0, b1, b2, b3]

theorem out5_apply : out0_5 x gain w w1 w2 (ix2 i k)
    = x (ix2 i k) + w (ix3 0 5 k) * Forward.product (Forward.root (input i x gain w) v) (fun q k => w2 (ix2 q k)) k := by
  have h0 : View.ld x r0_0 (ix2 i k) = x (ix2 i k) := Forward.ld2 x 0 0 _ i k i k (Nat.zero_add _) (Nat.zero_add _)
  have h5 : View.ld w r0_16 (ix3 0 0 k) = w (ix3 0 5 k) := Forward.ld3 w 0 5 0 _ 0 0 k 0 5 k rfl rfl (Nat.zero_add _)
  rw [out0_5, View.canon_unit_zero (by funext a; match a with | 0 => rfl | 1 => rfl), out_apply, product_eq i k x gain w w1 w2 v hv, h0, h5]

theorem out6_apply : out0_6 x gain w w1 w2 (ix2 i k) = Forward.product (Forward.root (input i x gain w) v) (fun q k => w2 (ix2 q k)) k := by
  rw [out0_6, View.canon_unit_zero (by funext a; match a with | 0 => rfl | 1 => rfl)]
  exact product_eq i k x gain w w1 w2 v hv

theorem out7_apply (q : Fin 4096) : out0_7 x gain w w1 w2 (ix2 i q) = Forward.root (input i x gain w) v q := by
  exact Forward.columns (fun i q => Forward.root (input i x gain w) v q) Mlp.chunk 0 1024 2048 3072 _ _ _ _ (fun l => rfl) (fun l => rfl) (fun l => rfl)
    (fun l => rfl) _ _ _ _ (fun i l => chunk0 i l x gain w w1 v hv) (fun i l => chunk1 i l x gain w w1 w2 v hv) (fun i l => chunk2 i l x gain w w1 w2 v hv)
    (fun i l => chunk3 i l x gain w w1 w2 v hv) i q (cover0_7 _ _ _ _ _)

end Weighted

end Cert.FwdTile

end
-- ==== Proof.FwdRef.lean ====
/- The reference of the MLP's forward call, read at an index. -/
module

public import proofs.«01_k».proof.Proof.Gen.Reference8Ideal.Run
public import proofs.«01_k».proof.Proof.Forward

@[expose] public section

set_option maxRecDepth 65536

noncomputable section

namespace Cert.FwdRef

open Idealize.ShloMosaic Idealize.ShloMosaic.TcCoe Idealize.SL.Sem
open Cert.Reference8Ideal Cert.Reference8Ideal.Gen

/-- The product of the squared relu with the second weight, and the output. -/
def product (r : FVec Ideal S8448x4096 .f32) (w2 : FVec Ideal S4096x1024 .f32) : FVec Ideal S8448x1024 .f32 :=
  Host.dotGeneral dot_S8448x4096_S4096x1024_S8448x1024_1_0_0_1_n_n none (mulf r r) w2
def output (x g y : FVec Ideal S8448x1024 .f32) : FVec Ideal S8448x1024 .f32 := addf x (mulf g y)

/-- The relu the call saves, of the arguments. -/
def saved (x : FVec Ideal S8448x1024 .f32) (gain : FVec Ideal S1024 .f32) (w : FVec Ideal S2x8x1024 .f32) (w1 : FVec Ideal S1024x4096 .f32) :
    FVec Ideal S8448x4096 .f32 := MlpRef.relu (MlpRef.preactivation x gain w w1)

section Run

variable (m : (ℓ : Loc nD τ sig) → Buf (Elt Ideal) ℓ) (c : Dev nD)

abbrev argX : FVec Ideal S8448x1024 .f32 := m ((c.tc : Thread nD τ).loc main_arg0)
abbrev argGain : FVec Ideal S1024 .f32 := m ((c.tc : Thread nD τ).loc main_arg1)
abbrev argMod : FVec Ideal S2x8x1024 .f32 := m ((c.tc : Thread nD τ).loc main_arg2)
abbrev argW1 : FVec Ideal S1024x4096 .f32 := m ((c.tc : Thread nD τ).loc main_arg3)
abbrev argW2 : FVec Ideal S4096x1024 .f32 := m ((c.tc : Thread nD τ).loc main_arg4)
abbrev argSaved : FVec Ideal S8448x4096 .f32 := saved (argX m c) (argGain m c) (argMod m c) (argW1 m c)

theorem run_eq0 : Value.res_main_v49 m c = output (argX m c) (MlpRef.gate (argMod m c)) (product (argSaved m c) (argW2 m c)) := rfl
theorem run_eq1 : Value.res_main_v50 m c = truncf .bf16 (product (argSaved m c) (argW2 m c)) bitsLt_bf16_f32 := rfl

end Run

section Read

variable (i : Fin 8448) (k : Fin 1024) (q : Fin 4096)

theorem product_apply (r : FVec Ideal S8448x4096 .f32) (w2 : FVec Ideal S4096x1024 .f32) :
    product r w2 (ix2 i k) = Forward.product (fun q => r (ix2 i q)) (fun q k => w2 (ix2 q k)) k := by
  pointwise [product, Forward.product]

theorem output_apply (x g y : FVec Ideal S8448x1024 .f32) : output x g y (ix2 i k) = x (ix2 i k) + g (ix2 i k) * y (ix2 i k) := by
  pointwise [output]

/-- The saved relu and the product at an index. -/
def root (x : FVec Ideal S8448x1024 .f32) (gain : FVec Ideal S1024 .f32) (w : FVec Ideal S2x8x1024 .f32) (w1 : FVec Ideal S1024x4096 .f32)
    (i : Fin 8448) : Fin 4096 → EReal :=
  Forward.root (Forward.modulated (fun k => x (ix2 i k)) (fun k => gain (ix1 k)) (MlpRef.row w 4 i) (MlpRef.row w 3 i)) fun k q => w1 (ix2 k q)

theorem saved_apply (x : FVec Ideal S8448x1024 .f32) (gain : FVec Ideal S1024 .f32) (w : FVec Ideal S2x8x1024 .f32) (w1 : FVec Ideal S1024x4096 .f32) :
    saved x gain w w1 (ix2 i q) = root x gain w w1 i q := by
  unfold saved MlpRef.preactivation root Forward.root Forward.modulated
  rw [MlpRef.relu_apply, Forward.pre_apply]
  simp only [Forward.hidden_apply, MlpRef.inverse_apply, MlpRef.squares_apply, MlpRef.scale_apply, MlpRef.shift_apply]
  rfl

end Read

end Cert.FwdRef

end
-- ==== Proof.FwdFinal.lean ====
/- The three results of the MLP's forward call after its run: what the host prepares, the blocks the points are given, and the rows they write back. -/
module

public import proofs.«01_k».proof.Proof.FwdTile
public import proofs.«01_k».proof.Proof.FwdRef

@[expose] public section

set_option maxRecDepth 65536

noncomputable section

namespace Cert.FwdFinal

open Idealize.ShloMosaic Idealize.ShloMosaic.TcCoe Idealize.SL.Sem
open Cert.Kernel8Ideal Cert.Kernel8Ideal.Gen Cert.Kernel8Ideal.Value

variable (m : (ℓ : Loc nD τ sig) → Buf (Elt Ideal) ℓ) (c : Dev nD)

/-- The arguments as launched: input, gain, modulation and the two weights. -/
abbrev argX : FVec Ideal S8448x1024 .f32 := m ((c : Thread nD τ).loc main_arg0)
abbrev argGain : FVec Ideal S1024 .f32 := m ((c : Thread nD τ).loc main_arg1)
abbrev argMod : FVec Ideal S2x8x1024 .f32 := m ((c : Thread nD τ).loc main_arg2)
abbrev argW1 : FVec Ideal S1024x4096 .f32 := m ((c : Thread nD τ).loc main_arg3)
abbrev argW2 : FVec Ideal S4096x1024 .f32 := m ((c : Thread nD τ).loc main_arg4)

/-! What the host prepares. -/

theorem host_gain : V m c main_v3 = broadcastInDim S1x1024 ![1] bcast_S1024_S1x1024_1 (argGain m c) := by
  simp only [V, List.flatten_cons, List.flatten_nil, List.append_nil, List.cons_append, List.nil_append, hostOps0]
  after_results

theorem host_first : V m c main_v2 = transpose S4x1024x1024 [1, 0, 2]
    (shapeCast S1024x4x1024 (truncf .bf16 (argW1 m c) bitsLt_bf16_f32) shapeCasts_S1024x4096_S1024x4x1024) transposes_S1024x4x1024_S4x1024x1024_1_0_2 := by
  simp only [V, List.flatten_cons, List.flatten_nil, List.append_nil, List.cons_append, List.nil_append, hostOps0]
  after_results
  rfl

theorem host_second : V m c main_v4 = truncf .bf16 (argW2 m c) bitsLt_bf16_f32 := by
  simp only [V, List.flatten_cons, List.flatten_nil, List.append_nil, List.cons_append, List.nil_append, hostOps0]
  after_results

/-! The blocks of a point, of the arrays. -/

abbrev blkX (t : Fin cfg0.N) : Vec Ideal S256x1024 .f32 := iblk m c 0 t
abbrev blkGain (t : Fin cfg0.N) : Vec Ideal S1x1024 .f32 := iblk m c 1 t
abbrev blkMod (t : Fin cfg0.N) : Vec Ideal S1x8x1024 .f32 := iblk m c 2 t
abbrev blkW1 (t : Fin cfg0.N) : Vec Ideal S4x1024x1024 .bf16 := iblk m c 3 t
abbrev blkW2 (t : Fin cfg0.N) : Vec Ideal S4096x1024 .bf16 := iblk m c 4 t

theorem lt33 (t : Fin cfg0.N) : t.val < 33 := lt_of_lt_of_eq t.isLt (show cfg0.N = 33 from N_0)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

section Read

variable (t : Fin cfg0.N) (i : Fin 256) (k l : Fin 1024) (q : Fin 4096) (j : Fin 8)

/-- Row `i` of point `t`'s block in the array, and the stream the block belongs to. -/
abbrev row : Fin 8448 := Forward.row t.val (lt33 t) i
abbrev side : Fin 2 := Forward.side t.val (lt33 t)

theorem emb0 : ((cfg0.win 0).blk t).view.emb (ix2 i k) = ix2 (row t i) k := by
  obtain ⟨e0, e1⟩ := index0 t
  funext a; apply Fin.ext
  match a with
  | 0 => show win0_0.index t (0 : Fin 2) * 256 + 1 * i.val = 256 * t.val + i.val; omega
  | 1 => show win0_0.index t (1 : Fin 2) * 1024 + 1 * k.val = k.val; omega

theorem emb1 : ((cfg0.win 1).blk t).view.emb (ix2 0 k) = ix2 0 k := by
  obtain ⟨e0, e1⟩ := index1 t
  funext a; apply Fin.ext
  match a with
  | 0 => show win0_1.index t (0 : Fin 2) * 1 + 1 * 0 = 0; omega
  | 1 => show win0_1.index t (1 : Fin 2) * 1024 + 1 * k.val = k.val; omega

theorem emb2 : ((cfg0.win 2).blk t).view.emb (ix3 0 j k) = ix3 (side t) j k := by
  obtain ⟨e0, e1, e2⟩ := index2 t
  funext a; apply Fin.ext
  match a with
  | 0 => show win0_2.index t (0 : Fin 3) * 1 + 1 * 0 = t.val / 32; omega
  | 1 => show win0_2.index t (1 : Fin 3) * 8 + 1 * j.val = j.val; omega
  | 2 => show win0_2.index t (2 : Fin 3) * 1024 + 1 * k.val = k.val; omega

theorem emb3 (j : Fin 4) : ((cfg0.win 3).blk t).view.emb (ix3 j k l) = ix3 j k l := by
  obtain ⟨e0, e1, e2⟩ := index3 t
  funext a; apply Fin.ext
  match a with
  | 0 => show win0_3.index t (0 : Fin 3) * 4 + 1 * j.val = j.val; omega
  | 1 => show win0_3.index t (1 : Fin 3) * 1024 + 1 * k.val = k.val; omega
  | 2 => show win0_3.index t (2 : Fin 3) * 1024 + 1 * l.val = l.val; omega

theorem emb4 : ((cfg0.win 4).blk t).view.emb (ix2 q k) = ix2 q k := by
  obtain ⟨e0, e1⟩ := index4 t
  funext a; apply Fin.ext
  match a with
  | 0 => show win0_4.index t (0 : Fin 2) * 4096 + 1 * q.val = q.val; omega
  | 1 => show win0_4.index t (1 : Fin 2) * 1024 + 1 * k.val = k.val; omega

theorem emb5 : ((cfg0.win 5).blk t).view.emb (ix2 i k) = ix2 (row t i) k := by
  obtain ⟨e0, e1⟩ := index5 t
  funext a; apply Fin.ext
  match a with
  | 0 => show win0_5.index t (0 : Fin 2) * 256 + 1 * i.val = 256 * t.val + i.val; omega
  | 1 => show win0_5.index t (1 : Fin 2) * 1024 + 1 * k.val = k.val; omega

theorem emb6 : ((cfg0.win 6).blk t).view.emb (ix2 i k) = ix2 (row t i) k := by
  obtain ⟨e0, e1⟩ := index6 t
  funext a; apply Fin.ext
  match a with
  | 0 => show win0_6.index t (0 : Fin 2) * 256 + 1 * i.val = 256 * t.val + i.val; omega
  | 1 => show win0_6.index t (1 : Fin 2) * 1024 + 1 * k.val = k.val; omega

theorem emb7 : ((cfg0.win 7).blk t).view.emb (ix2 i q) = ix2 (row t i) q := by
  obtain ⟨e0, e1⟩ := index7 t
  funext a; apply Fin.ext
  match a with
  | 0 => show win0_7.index t (0 : Fin 2) * 256 + 1 * i.val = 256 * t.val + i.val; omega
  | 1 => show win0_7.index t (1 : Fin 2) * 4096 + 1 * q.val = q.val; omega

theorem x_apply : blkX m c t (ix2 i k) = argX m c (ix2 (row t i) k) := by
  show V m c main_arg0 (((cfg0.win 0).blk t).view.emb (ix2 i k)) = _
  rw [emb0, V_main_arg0]

theorem gain_apply : blkGain m c t (ix2 0 k) = argGain m c (ix1 k) := by
  show V m c main_v3 (((cfg0.win 1).blk t).view.emb (ix2 0 k)) = _
  rw [emb1, host_gain]
  pointwise []

theorem modulation_apply : blkMod m c t (ix3 0 j k) = MlpRef.row (argMod m c) j (row t i) k := by
  show V m c main_arg2 (((cfg0.win 2).blk t).view.emb (ix3 0 j k)) = _
  rw [emb2, V_main_arg2]
  exact Forward.side_apply (argMod m c) t.val (lt33 t) i j k

theorem first_apply (j : Fin 4) : blkW1 m c t (ix3 j k l) = argW1 m c (ix2 k (Mlp.chunk j l)) := by
  show V m c main_v2 (((cfg0.win 3).blk t).view.emb (ix3 j k l)) = _
  rw [emb3, host_first]
  pointwise []
  exact congrArg (fun q => argW1 m c (ix2 k q)) (Fin.ext (by show j.val * 1024 + l.val = 1024 * j.val + l.val; omega))

theorem second_apply : blkW2 m c t (ix2 q k) = argW2 m c (ix2 q k) := by
  show V m c main_v4 (((cfg0.win 4).blk t).view.emb (ix2 q k)) = _
  rw [emb4, host_second]
  rfl

end Read

/-- The relu in a row, and the three results as arrays. -/
def root (r : Fin 8448) : Fin 4096 → EReal := FwdRef.root (argX m c) (argGain m c) (argMod m c) (argW1 m c) r
def product (r : Fin 8448) : Fin 1024 → EReal := Forward.product (root m c r) fun q k => argW2 m c (ix2 q k)
def result0 : FVec Ideal S8448x1024 .f32 := fun y => argX m c y + MlpRef.row (argMod m c) 5 (y 0) (y 1) * product m c (y 0) (y 1)
def result1 : FVec Ideal S8448x1024 .bf16 := fun y => product m c (y 0) (y 1)
def result2 : FVec Ideal S8448x4096 .bf16 := fun y => root m c (y 0) (y 1)

theorem root_eq (t : Fin cfg0.N) (i : Fin 256) :
    Forward.root (FwdTile.input i (blkX m c t) (blkGain m c t) (blkMod m c t)) (fun k q => argW1 m c (ix2 k q)) = root m c (row t i) := by
  unfold FwdTile.input root FwdRef.root
  simp only [x_apply, gain_apply, modulation_apply m c t i]

theorem product_eq (t : Fin cfg0.N) (i : Fin 256) :
    Forward.product (Forward.root (FwdTile.input i (blkX m c t) (blkGain m c t) (blkMod m c t)) fun k q => argW1 m c (ix2 k q))
      (fun q k => blkW2 m c t (ix2 q k)) = product m c (row t i) := by
  rw [root_eq, product]
  simp only [second_apply]

/-! What the points write back. -/

theorem flushed_eq5 (t : Fin cfg0.N) (hf : (cfg0.win 5).flush t = true) :
    (dats m 0 c).flushed 5 t = ((cfg0.win 5).blk t).view.read (Elt Ideal) (result0 m c) := by
  rw [flushed5]
  funext y
  obtain ⟨i, k, rfl⟩ : ∃ (i : Fin 256) (k : Fin 1024), y = ix2 i k := ⟨y 0, y 1, funext fun a => match a with | 0 => rfl | 1 => rfl⟩
  show out0_5 (blkX m c t) (blkGain m c t) (blkMod m c t) (blkW1 m c t) (blkW2 m c t) (ix2 i k) = result0 m c (((cfg0.win 5).blk t).view.emb (ix2 i k))
  rw [emb5, FwdTile.out5_apply i k _ _ _ _ _ (fun k q => argW1 m c (ix2 k q)) fun j k l => first_apply m c t k l j, product_eq, x_apply,
    modulation_apply m c t i]
  rfl

theorem flushed_eq6 (t : Fin cfg0.N) (hf : (cfg0.win 6).flush t = true) :
    (dats m 0 c).flushed 6 t = ((cfg0.win 6).blk t).view.read (Elt Ideal) (result1 m c) := by
  rw [flushed6]
  funext y
  obtain ⟨i, k, rfl⟩ : ∃ (i : Fin 256) (k : Fin 1024), y = ix2 i k := ⟨y 0, y 1, funext fun a => match a with | 0 => rfl | 1 => rfl⟩
  show out0_6 (blkX m c t) (blkGain m c t) (blkMod m c t) (blkW1 m c t) (blkW2 m c t) (ix2 i k) = result1 m c (((cfg0.win 6).blk t).view.emb (ix2 i k))
  rw [emb6, FwdTile.out6_apply i k _ _ _ _ _ (fun k q => argW1 m c (ix2 k q)) fun j k l => first_apply m c t k l j, product_eq]
  rfl

theorem flushed_eq7 (t : Fin cfg0.N) (hf : (cfg0.win 7).flush t = true) :
    (dats m 0 c).flushed 7 t = ((cfg0.win 7).blk t).view.read (Elt Ideal) (result2 m c) := by
  rw [flushed7]
  funext y
  obtain ⟨i, q, rfl⟩ : ∃ (i : Fin 256) (q : Fin 4096), y = ix2 i q := ⟨y 0, y 1, funext fun a => match a with | 0 => rfl | 1 => rfl⟩
  show out0_7 (blkX m c t) (blkGain m c t) (blkMod m c t) (blkW1 m c t) (blkW2 m c t) (ix2 i q) = result2 m c (((cfg0.win 7).blk t).view.emb (ix2 i q))
  rw [emb7, FwdTile.out7_apply i _ _ _ _ _ (fun k q => argW1 m c (ix2 k q)) (fun j k l => first_apply m c t k l j), root_eq]
  rfl

/-- The point that writes a row. -/
def point (r : Fin 8448) : Fin cfg0.N := ⟨r.val / 256, lt_of_lt_of_eq (by omega) (show cfg0.N = 33 from N_0).symm⟩

theorem row_point (r : Fin 8448) : row (point r) (Forward.inside r) = r := Forward.row_inside r _

/-- The arrays of the three results after the run. -/
theorem final5 : (dats m 0 c).arrAt 5 cfg0.N = result0 m c :=
  (dats m 0 c).arrAt_eq_of_cover 5 _ (flushed_eq5 m c) fun y => by
    obtain ⟨r, k, rfl⟩ : ∃ (r : Fin 8448) (k : Fin 1024), y = ix2 r k := ⟨y 0, y 1, funext fun a => match a with | 0 => rfl | 1 => rfl⟩
    refine ⟨point r, flush0_5 _, ?_⟩
    have e := ((cfg0.win 5).blk (point r)).view.emb_mem_set (ix2 (Forward.inside r) k)
    rwa [emb5, row_point] at e

theorem final6 : (dats m 0 c).arrAt 6 cfg0.N = result1 m c :=
  (dats m 0 c).arrAt_eq_of_cover 6 _ (flushed_eq6 m c) fun y => by
    obtain ⟨r, k, rfl⟩ : ∃ (r : Fin 8448) (k : Fin 1024), y = ix2 r k := ⟨y 0, y 1, funext fun a => match a with | 0 => rfl | 1 => rfl⟩
    refine ⟨point r, flush0_6 _, ?_⟩
    have e := ((cfg0.win 6).blk (point r)).view.emb_mem_set (ix2 (Forward.inside r) k)
    rwa [emb6, row_point] at e

theorem final7 : (dats m 0 c).arrAt 7 cfg0.N = result2 m c :=
  (dats m 0 c).arrAt_eq_of_cover 7 _ (flushed_eq7 m c) fun y => by
    obtain ⟨r, q, rfl⟩ : ∃ (r : Fin 8448) (q : Fin 4096), y = ix2 r q := ⟨y 0, y 1, funext fun a => match a with | 0 => rfl | 1 => rfl⟩
    refine ⟨point r, flush0_7 _, ?_⟩
    have e := ((cfg0.win 7).blk (point r)).view.emb_mem_set (ix2 (Forward.inside r) q)
    rwa [emb7, row_point] at e

end Cert.FwdFinal

end
-- ==== Proof.FwdClaims.lean ====
/- The claims of the MLP's forward call. The kernel's two programs have the same text, so its frame is its idealized program's at the machine's
   floats; for the value claim both programs are run, and both end at the same output, product and relu. -/
module

public import proofs.«01_k».proof.Defs
public import proofs.«01_k».proof.Proof.Gen.Kernel8
public import proofs.«01_k».proof.Proof.FwdFinal
public import Idealize.ShloMosaic.Adequacy
public import Idealize.ShloMosaic.Init

@[expose] public section

set_option maxRecDepth 65536
set_option maxHeartbeats 4000000

noncomputable section

namespace Cert.FwdClaims

open Idealize.ShloMosaic Idealize.ShloMosaic.TcCoe Idealize.SL.Sem

theorem defs8 : @Cert.Kernel8.defs Bits _ _ = @Cert.Kernel8Ideal.defs Bits _ _ := by
  refine congrArg (Pipeline.defs (Cert.Kernel8Ideal.pcfgs (F := Bits))) ?_
  unfold Cert.Kernel8.defs₀ Cert.Kernel8Ideal.defs₀
  refine congrArg Defs.onTc (funext fun l => funext fun x => ?_)
  match l, x with
  | 0, (_, _) => rfl

theorem frame8 : Cert.quiescent_Kernel8 (hKernel8 := Cert.Kernel8.Gen.facts) := by
  intro m ρ _
  rw [defs8]
  exact Cert.Kernel8Ideal.Gen.frame (F := Bits) m ρ

theorem frame_reference8 : Cert.quiescent_Reference8Ideal (hReference8Ideal := Cert.Reference8Ideal.Gen.facts) := fun m ρ _ =>
  (θ_run Cert.Reference8Ideal.defs _ _).mono (fun r h => ⟨fun c => (h c).2.2.2, sem_eq_zero_of_no_sems (by decide) r.2⟩)
    (Cert.Reference8Ideal.Value.run (F := Ideal) m ρ)

theorem value8 : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => FwdFinal.result0 m c, fun c => FwdFinal.result1 m c, fun c => FwdFinal.result2 m c, ?_, ?_⟩
  · refine (θ_run _ _ _).mono (fun _ h c => ?_) (Cert.Kernel8Ideal.Value.run_blocks (F := Ideal) m ρ)
    obtain ⟨h0, h1, h2, hargs⟩ := h c
    exact ⟨h0.trans (FwdFinal.final5 m c), h1.trans (FwdFinal.final6 m c), h2.trans (FwdFinal.final7 m c), hargs⟩
  · refine (θ_run _ _ _).mono (fun _ h c => ⟨(h c).1.trans ?_, (h c).2.1.trans ?_, (h c).2.2.1.trans ?_, (h c).2.2.2⟩)
      (Cert.Reference8Ideal.Value.run (F := Ideal) m' ρ')
    all_goals obtain ⟨e0, e1, e2, e3, e4⟩ := hagree c
    · simp only [FwdRef.run_eq0, FwdRef.argSaved, FwdRef.argX, FwdRef.argGain, FwdRef.argMod, FwdRef.argW1, FwdRef.argW2]
      rw [e0, e1, e2, e3, e4]
      funext y
      obtain ⟨r, k, rfl⟩ : ∃ (r : Fin 8448) (k : Fin 1024), y = ix2 r k := ⟨y 0, y 1, funext fun a => match a with | 0 => rfl | 1 => rfl⟩
      rw [FwdRef.output_apply, FwdRef.product_apply, MlpRef.gate_apply]
      simp only [FwdRef.saved_apply]
      rfl
    · simp only [FwdRef.run_eq1, FwdRef.argSaved, FwdRef.argX, FwdRef.argGain, FwdRef.argMod, FwdRef.argW1, FwdRef.argW2]
      rw [e0, e1, e2, e3, e4]
      funext y
      obtain ⟨r, k, rfl⟩ : ∃ (r : Fin 8448) (k : Fin 1024), y = ix2 r k := ⟨y 0, y 1, funext fun a => match a with | 0 => rfl | 1 => rfl⟩
      refine (FwdRef.product_apply r k _ _).trans ?_
      simp only [FwdRef.saved_apply]
      rfl
    · refine (show _ = truncf .bf16 (FwdRef.saved _ _ _ _) Cert.Reference8Ideal.Gen.bitsLt_bf16_f32 from rfl).trans ?_
      rw [e0, e1, e2, e3]
      funext y
      obtain ⟨r, q, rfl⟩ : ∃ (r : Fin 8448) (q : Fin 4096), y = ix2 r q := ⟨y 0, y 1, funext fun a => match a with | 0 => rfl | 1 => rfl⟩
      exact FwdRef.saved_apply r q _ _ _ _

end Cert.FwdClaims

end
-- ==== Proof.ProjRef.lean ====
/- The references of the two projections' forward calls, read at an index. -/
module

public import proofs.«01_k».proof.Proof.Gen.Reference9Ideal.Run
public import proofs.«01_k».proof.Proof.Gen.Reference10Ideal.Run
public import proofs.«01_k».proof.Proof.Forward

@[expose] public section

set_option maxRecDepth 65536

noncomputable section

namespace Cert.ProjRef

open Idealize.ShloMosaic Idealize.ShloMosaic.TcCoe Idealize.SL.Sem

section Arrays

open Cert.Reference9Ideal Cert.Reference9Ideal.Gen

/-- The rows of the modulation the projections take, and their input. -/
def shift (w : FVec Ideal S2x8x1024 .f32) : FVec Ideal S8448x1024 .f32 :=
  MlpRef.stream (shapeCast _ (extractStridedSlice S1x1x1024 ![1, 0, 0] w slices_S2x8x1024_S1x1x1024_1_0_0) shapeCasts_S1x1x1024_S1024)
    (shapeCast _ (extractStridedSlice S1x1x1024 ![0, 0, 0] w slices_S2x8x1024_S1x1x1024_0_0_0) shapeCasts_S1x1x1024_S1024)
def scale (w : FVec Ideal S2x8x1024 .f32) : FVec Ideal S8448x1024 .f32 :=
  addf (broadcastInDim S8448x1024 ![] bcast_S_S8448x1024 (constant S_ .f32 0x3F800000#32))
    (MlpRef.stream (shapeCast _ (extractStridedSlice S1x1x1024 ![1, 1, 0] w slices_S2x8x1024_S1x1x1024_1_1_0) shapeCasts_S1x1x1024_S1024)
      (shapeCast _ (extractStridedSlice S1x1x1024 ![0, 1, 0] w slices_S2x8x1024_S1x1x1024_0_1_0) shapeCasts_S1x1x1024_S1024))
def input (x : FVec Ideal S8448x1024 .f32) (gain : FVec Ideal S1024 .f32) (w : FVec Ideal S2x8x1024 .f32) : FVec Ideal S8448x1024 .f32 :=
  MlpRef.hidden x (MlpRef.inverse (MlpRef.squares x)) gain (scale w) (shift w)

theorem shift_apply (w : FVec Ideal S2x8x1024 .f32) (i : Fin 8448) (k : Fin 1024) : shift w (ix2 i k) = MlpRef.row w 0 i k := by
  unfold shift
  rw [MlpRef.stream_apply]
  pointwise [MlpRef.row]

theorem scale_apply (w : FVec Ideal S2x8x1024 .f32) (i : Fin 8448) (k : Fin 1024) : scale w (ix2 i k) = 1 + MlpRef.row w 1 i k := by
  pointwise [scale, MlpRef.stream_apply, MlpRef.row]

theorem input_apply (x : FVec Ideal S8448x1024 .f32) (gain : FVec Ideal S1024 .f32) (w : FVec Ideal S2x8x1024 .f32) (i : Fin 8448) (k : Fin 1024) :
    input x gain w (ix2 i k) = Forward.modulated (fun k => x (ix2 i k)) (fun k => gain (ix1 k)) (MlpRef.row w 1 i) (MlpRef.row w 0 i) k := by
  unfold input
  rw [Forward.hidden_apply, MlpRef.inverse_apply, MlpRef.squares_apply, scale_apply, shift_apply]
  rfl

end Arrays

/-- A projection's result at an index, of the arguments. -/
def result {n : Nat} (x : FVec Ideal ⟨2, ![8448, 1024]⟩ .f32) (gain : FVec Ideal ⟨1, ![1024]⟩ .f32) (w : FVec Ideal ⟨3, ![2, 8, 1024]⟩ .f32)
    (p : FVec Ideal ⟨2, ![1024, n]⟩ .f32) (i : Fin 8448) (q : Fin n) : EReal :=
  Forward.projected (Forward.modulated (fun k => x (ix2 i k)) (fun k => gain (ix1 k)) (MlpRef.row w 1 i) (MlpRef.row w 0 i)) (fun k q => p (ix2 k q)) q

open Cert.Reference9Ideal Cert.Reference9Ideal.Gen in
theorem hin_apply (x : FVec Ideal S8448x1024 .f32) (gain : FVec Ideal S1024 .f32) (w : FVec Ideal S2x8x1024 .f32) (p : FVec Ideal S1024x5120 .f32)
    (i : Fin 8448) (q : Fin 5120) :
    Host.dotGeneral (F := Ideal) dot_S8448x1024_S1024x5120_S8448x5120_1_0_0_1_n_n none (input x gain w) p (ix2 i q) = result x gain w p i q := by
  simp only [result, Forward.projected, ← input_apply]
  generalize input x gain w = h
  pointwise []

open Cert.Reference10Ideal Cert.Reference10Ideal.Gen in
theorem cin_apply (x : FVec Ideal S8448x1024 .f32) (gain : FVec Ideal S1024 .f32) (w : FVec Ideal S2x8x1024 .f32) (p : FVec Ideal S1024x3072 .f32)
    (i : Fin 8448) (q : Fin 3072) :
    Host.dotGeneral (F := Ideal) dot_S8448x1024_S1024x3072_S8448x3072_1_0_0_1_n_n none (input x gain w) p (ix2 i q) = result x gain w p i q := by
  simp only [result, Forward.projected, ← input_apply]
  generalize input x gain w = h
  pointwise []

end Cert.ProjRef

end
-- ==== Proof.HinFinal.lean ====
/- The result of a recurrent layer's input projection after its run: what a point writes back of its blocks, what the host prepares, and the array at the end. -/
module

public import proofs.«01_k».proof.Proof.Gen.Kernel9Ideal.Value
public import proofs.«01_k».proof.Proof.FwdTile
public import proofs.«01_k».proof.Proof.ProjRef

@[expose] public section

set_option maxRecDepth 65536

noncomputable section

namespace Cert.HinFinal

open Idealize.ShloMosaic Idealize.ShloMosaic.TcCoe Idealize.SL.Sem
open Cert.Kernel9Ideal Cert.Kernel9Ideal.Gen Cert.Kernel9Ideal.Value

/-- Entry `l` of chunk `j` of the result's columns. -/
def chunk (j : Fin 4) (l : Fin 1280) : Fin 5120 := ⟨1280 * j.val + l.val, by omega⟩

/-! A point's result, of its blocks. -/

section Tile

variable (i : Fin 256) (k : Fin 1024) (l : Fin 1280)

theorem chunk0_apply (x : Vec Ideal S256x1024 .f32) (g : Vec Ideal S1x1024 .f32) (sh sc : Vec Ideal S1x1x1024 .f32) (a : Vec Ideal S1x1024x1280 .bf16) :
    k0_pay4 x g sh sc a (ix2 i l) = ∑ k : Fin 1024, k0_pay3 x g sh sc (ix2 i k) * a (ix3 0 k l) := by
  unfold k0_pay4
  generalize k0_pay3 x g sh sc = h
  pointwise []

theorem chunk1_apply (x : Vec Ideal S256x1024 .f32) (g : Vec Ideal S1x1024 .f32) (sh sc : Vec Ideal S1x1x1024 .f32) (a : Vec Ideal S1x1024x1280 .bf16) :
    k0_pay5 x g sh sc a (ix2 i l) = ∑ k : Fin 1024, k0_pay3 x g sh sc (ix2 i k) * a (ix3 0 k l) := by
  unfold k0_pay5
  generalize k0_pay3 x g sh sc = h
  pointwise []

theorem chunk2_apply (h : FVec Ideal S256x1024 .bf16) (a : Vec Ideal S1x1024x1280 .bf16) : k0_pay1 h a (ix2 i l) = ∑ k : Fin 1024, h (ix2 i k) * a (ix3 0 k l) := by
  pointwise [k0_pay1]

theorem chunk3_apply (h : FVec Ideal S256x1024 .bf16) (a : Vec Ideal S1x1024x1280 .bf16) : k0_pay2 h a (ix2 i l) = ∑ k : Fin 1024, h (ix2 i k) * a (ix3 0 k l) := by
  pointwise [k0_pay2]

variable (x : Vec Ideal S256x1024 .f32) (gain : Vec Ideal S1x1024 .f32) (w : Vec Ideal S1x8x1024 .f32) (p : Vec Ideal S4x1024x1280 .bf16)

/-- The input of the projection in a row of the block. -/
def input : Fin 1024 → EReal :=
  Forward.modulated (fun k => x (ix2 i k)) (fun k => gain (ix2 0 k)) (fun k => w (ix3 0 1 k)) (fun k => w (ix3 0 0 k))

theorem input_eq : k0_pay3 (View.ld x r0_0) (View.ld gain r0_1) (View.ld w r0_2) (View.ld w r0_3) (ix2 i k) = input i x gain w k := by
  have h0 : ∀ k, View.ld x r0_0 (ix2 i k) = x (ix2 i k) := fun k => Forward.ld2 x 0 0 _ i k i k (Nat.zero_add _) (Nat.zero_add _)
  have h1 : ∀ k, View.ld gain r0_1 (ix2 0 k) = gain (ix2 0 k) := fun k => Forward.ld2 gain 0 0 _ 0 k 0 k (Nat.zero_add _) (Nat.zero_add _)
  have h2 : ∀ k, View.ld w r0_2 (ix3 0 0 k) = w (ix3 0 0 k) := fun k => Forward.ld3 w 0 0 0 _ 0 0 k 0 0 k rfl rfl (Nat.zero_add _)
  have h3 : ∀ k, View.ld w r0_3 (ix3 0 0 k) = w (ix3 0 1 k) := fun k => Forward.ld3 w 0 1 0 _ 0 0 k 0 1 k rfl rfl (Nat.zero_add _)
  refine (FwdTile.input_apply i k _ _ _ _).trans ?_
  simp only [h0, h1, h2, h3]
  rfl

theorem out_apply (v : Fin 1024 → Fin 5120 → EReal) (hv : ∀ j k l, p (ix3 j k l) = v k (chunk j l)) (q : Fin 5120) :
    out0_4 x gain w p (ix2 i q) = Forward.projected (input i x gain w) v q := by
  have a0 : ∀ k l, View.ld p r0_4 (ix3 0 k l) = v k (chunk 0 l) := fun k l => (Forward.ld3 p 0 0 0 _ 0 k l 0 k l rfl (Nat.zero_add _) (Nat.zero_add _)).trans (hv 0 k l)
  have a1 : ∀ k l, View.ld p r0_6 (ix3 0 k l) = v k (chunk 1 l) := fun k l => (Forward.ld3 p 1 0 0 _ 0 k l 1 k l rfl (Nat.zero_add _) (Nat.zero_add _)).trans (hv 1 k l)
  have a2 : ∀ k l, View.ld p r0_8 (ix3 0 k l) = v k (chunk 2 l) := fun k l => (Forward.ld3 p 2 0 0 _ 0 k l 2 k l rfl (Nat.zero_add _) (Nat.zero_add _)).trans (hv 2 k l)
  have a3 : ∀ k l, View.ld p r0_10 (ix3 0 k l) = v k (chunk 3 l) := fun k l => (Forward.ld3 p 3 0 0 _ 0 k l 3 k l rfl (Nat.zero_add _) (Nat.zero_add _)).trans (hv 3 k l)
  refine Forward.columns (fun i q => Forward.projected (input i x gain w) v q) chunk 0 1280 2560 3840 _ _ _ _ (fun l => ?_) (fun l => rfl) (fun l => rfl)
    (fun l => rfl) _ _ _ _ (fun i l => ?_) (fun i l => ?_) (fun i l => ?_) (fun i l => ?_) i q (cover0_4 _ _ _ _ _)
  · rfl
  · simp only [chunk0_apply, input_eq, a0, Forward.projected]
  · simp only [chunk1_apply, input_eq, a1, Forward.projected]
  · simp only [chunk2_apply, k0_pay6, input_eq, a2, Forward.projected]
  · simp only [chunk3_apply, k0_pay6, input_eq, a3, Forward.projected]

end Tile

variable (m : (ℓ : Loc nD τ sig) → Buf (Elt Ideal) ℓ) (c : Dev nD)

/-- The arguments as launched: input, gain, modulation and weight. -/
abbrev argX : FVec Ideal S8448x1024 .f32 := m ((c : Thread nD τ).loc main_arg0)
abbrev argGain : FVec Ideal S1024 .f32 := m ((c : Thread nD τ).loc main_arg1)
abbrev argMod : FVec Ideal S2x8x1024 .f32 := m ((c : Thread nD τ).loc main_arg2)
abbrev argW : FVec Ideal S1024x5120 .f32 := m ((c : Thread nD τ).loc main_arg3)

theorem host_gain : V m c main_v0 = broadcastInDim S1x1024 ![1] bcast_S1024_S1x1024_1 (argGain m c) := by
  simp only [V, List.flatten_cons, List.flatten_nil, List.append_nil, List.cons_append, List.nil_append, hostOps0]
  after_results

theorem host_weight : V m c main_v3 = transpose S4x1024x1280 [1, 0, 2]
    (shapeCast S1024x4x1280 (truncf .bf16 (argW m c) bitsLt_bf16_f32) shapeCasts_S1024x5120_S1024x4x1280) transposes_S1024x4x1280_S4x1024x1280_1_0_2 := by
  simp only [V, List.flatten_cons, List.flatten_nil, List.append_nil, List.cons_append, List.nil_append, hostOps0]
  after_results
  rfl

/-! The blocks of a point, of the arrays. -/

abbrev blkX (t : Fin cfg0.N) : Vec Ideal S256x1024 .f32 := iblk m c 0 t
abbrev blkGain (t : Fin cfg0.N) : Vec Ideal S1x1024 .f32 := iblk m c 1 t
abbrev blkMod (t : Fin cfg0.N) : Vec Ideal S1x8x1024 .f32 := iblk m c 2 t
abbrev blkW (t : Fin cfg0.N) : Vec Ideal S4x1024x1280 .bf16 := iblk m c 3 t

theorem lt33 (t : Fin cfg0.N) : t.val < 33 := lt_of_lt_of_eq t.isLt (show cfg0.N = 33 from N_0)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)

section Read

variable (t : Fin cfg0.N) (i : Fin 256) (k : Fin 1024) (l : Fin 1280) (q : Fin 5120)

abbrev row : Fin 8448 := Forward.row t.val (lt33 t) i

theorem emb0 : ((cfg0.win 0).blk t).view.emb (ix2 i k) = ix2 (row t i) k := by
  obtain ⟨e0, e1⟩ := index0 t
  funext a; apply Fin.ext
  match a with
  | 0 => show win0_0.index t (0 : Fin 2) * 256 + 1 * i.val = 256 * t.val + i.val; omega
  | 1 => show win0_0.index t (1 : Fin 2) * 1024 + 1 * k.val = k.val; omega

theorem emb1 : ((cfg0.win 1).blk t).view.emb (ix2 0 k) = ix2 0 k := by
  obtain ⟨e0, e1⟩ := index1 t
  funext a; apply Fin.ext
  match a with
  | 0 => show win0_1.index t (0 : Fin 2) * 1 + 1 * 0 = 0; omega
  | 1 => show win0_1.index t (1 : Fin 2) * 1024 + 1 * k.val = k.val; omega

theorem emb2 (j : Fin 8) : ((cfg0.win 2).blk t).view.emb (ix3 0 j k) = ix3 (Forward.side t.val (lt33 t)) j k := by
  obtain ⟨e0, e1, e2⟩ := index2 t
  funext a; apply Fin.ext
  match a with
  | 0 => show win0_2.index t (0 : Fin 3) * 1 + 1 * 0 = t.val / 32; omega
  | 1 => show win0_2.index t (1 : Fin 3) * 8 + 1 * j.val = j.val; omega
  | 2 => show win0_2.index t (2 : Fin 3) * 1024 + 1 * k.val = k.val; omega

theorem emb3 (j : Fin 4) : ((cfg0.win 3).blk t).view.emb (ix3 j k l) = ix3 j k l := by
  obtain ⟨e0, e1, e2⟩ := index3 t
  funext a; apply Fin.ext
  match a with
  | 0 => show win0_3.index t (0 : Fin 3) * 4 + 1 * j.val = j.val; omega
  | 1 => show win0_3.index t (1 : Fin 3) * 1024 + 1 * k.val = k.val; omega
  | 2 => show win0_3.index t (2 : Fin 3) * 1280 + 1 * l.val = l.val; omega

theorem emb4 : ((cfg0.win 4).blk t).view.emb (ix2 i q) = ix2 (row t i) q := by
  obtain ⟨e0, e1⟩ := index4 t
  funext a; apply Fin.ext
  match a with
  | 0 => show win0_4.index t (0 : Fin 2) * 256 + 1 * i.val = 256 * t.val + i.val; omega
  | 1 => show win0_4.index t (1 : Fin 2) * 5120 + 1 * q.val = q.val; omega

theorem x_apply : blkX m c t (ix2 i k) = argX m c (ix2 (row t i) k) := by
  show V m c main_arg0 (((cfg0.win 0).blk t).view.emb (ix2 i k)) = _
  rw [emb0, V_main_arg0]

theorem gain_apply : blkGain m c t (ix2 0 k) = argGain m c (ix1 k) := by
  show V m c main_v0 (((cfg0.win 1).blk t).view.emb (ix2 0 k)) = _
  rw [emb1, host_gain]
  pointwise []

theorem modulation_apply (j : Fin 8) : blkMod m c t (ix3 0 j k) = MlpRef.row (argMod m c) j (row t i) k := by
  show V m c main_arg2 (((cfg0.win 2).blk t).view.emb (ix3 0 j k)) = _
  rw [emb2, V_main_arg2]
  exact Forward.side_apply (argMod m c) t.val (lt33 t) i j k

theorem weight_apply (j : Fin 4) : blkW m c t (ix3 j k l) = argW m c (ix2 k (chunk j l)) := by
  show V m c main_v3 (((cfg0.win 3).blk t).view.emb (ix3 j k l)) = _
  rw [emb3, host_weight]
  pointwise []
  exact congrArg (fun q => argW m c (ix2 k q)) (Fin.ext (by show j.val * 1280 + l.val = 1280 * j.val + l.val; omega))

end Read

/-- The projection as an array. -/
def result : FVec Ideal S8448x5120 .f32 := fun y => ProjRef.result (argX m c) (argGain m c) (argMod m c) (argW m c) (y 0) (y 1)

theorem flushed_eq (t : Fin cfg0.N) (hf : (cfg0.win 4).flush t = true) :
    (dats m 0 c).flushed 4 t = ((cfg0.win 4).blk t).view.read (Elt Ideal) (result m c) := by
  rw [flushed4]
  funext y
  obtain ⟨i, q, rfl⟩ : ∃ (i : Fin 256) (q : Fin 5120), y = ix2 i q := ⟨y 0, y 1, funext fun a => match a with | 0 => rfl | 1 => rfl⟩
  show out0_4 (blkX m c t) (blkGain m c t) (blkMod m c t) (blkW m c t) (ix2 i q) = result m c (((cfg0.win 4).blk t).view.emb (ix2 i q))
  rw [emb4, out_apply i _ _ _ _ (fun k q => argW m c (ix2 k q)) (fun j k l => weight_apply m c t k l j), input]
  simp only [x_apply, gain_apply, modulation_apply m c t i]
  rfl

/-- The point that writes a row. -/
def point (r : Fin 8448) : Fin cfg0.N := ⟨r.val / 256, lt_of_lt_of_eq (by omega) (show cfg0.N = 33 from N_0).symm⟩

theorem row_point (r : Fin 8448) : row (point r) (Forward.inside r) = r := Forward.row_inside r _

/-- The array of the result after the run. -/
theorem final : (dats m 0 c).arrAt 4 cfg0.N = result m c :=
  (dats m 0 c).arrAt_eq_of_cover 4 _ (flushed_eq m c) fun y => by
    obtain ⟨r, q, rfl⟩ : ∃ (r : Fin 8448) (q : Fin 5120), y = ix2 r q := ⟨y 0, y 1, funext fun a => match a with | 0 => rfl | 1 => rfl⟩
    refine ⟨point r, flush0_4 _, ?_⟩
    have e := ((cfg0.win 4).blk (point r)).view.emb_mem_set (ix2 (Forward.inside r) q)
    rwa [emb4, row_point] at e

end Cert.HinFinal

end
-- ==== Proof.CinFinal.lean ====
/- The result of a short-convolution layer's input projection after its run: what a point writes back of its blocks, what the host prepares, and the array at the end. -/
module

public import proofs.«01_k».proof.Proof.Gen.Kernel10Ideal.Value
public import proofs.«01_k».proof.Proof.FwdTile
public import proofs.«01_k».proof.Proof.ProjRef

@[expose] public section

set_option maxRecDepth 65536

noncomputable section

namespace Cert.CinFinal

open Idealize.ShloMosaic Idealize.ShloMosaic.TcCoe Idealize.SL.Sem
open Cert.Kernel10Ideal Cert.Kernel10Ideal.Gen Cert.Kernel10Ideal.Value

/-- Entry `l` of chunk `j` of the result's columns. -/
def chunk (j : Fin 4) (l : Fin 768) : Fin 3072 := ⟨768 * j.val + l.val, by omega⟩

/-! A point's result, of its blocks. -/

section Tile

variable (i : Fin 256) (k : Fin 1024) (l : Fin 768)

theorem chunk0_apply (x : Vec Ideal S256x1024 .f32) (g : Vec Ideal S1x1024 .f32) (sh sc : Vec Ideal S1x1x1024 .f32) (a : Vec Ideal S1x1024x768 .bf16) :
    k0_pay5 x g sh sc a (ix2 i l) = ∑ k : Fin 1024, k0_pay4 x g sh sc (ix2 i k) * a (ix3 0 k l) := by
  unfold k0_pay5
  generalize k0_pay4 x g sh sc = h
  pointwise []

theorem chunk1_apply (x : Vec Ideal S256x1024 .f32) (g : Vec Ideal S1x1024 .f32) (sh sc : Vec Ideal S1x1x1024 .f32) (a : Vec Ideal S1x1024x768 .bf16) :
    k0_pay1 (k0_pay6 x g sh sc a) (ix2 i l) = ∑ k : Fin 1024, k0_pay4 x g sh sc (ix2 i k) * a (ix3 0 k l) := by
  unfold k0_pay1 k0_pay6
  generalize k0_pay4 x g sh sc = h
  pointwise []

theorem chunk2_apply (h : FVec Ideal S256x1024 .bf16) (a : Vec Ideal S1x1024x768 .bf16) : k0_pay2 h a (ix2 i l) = ∑ k : Fin 1024, h (ix2 i k) * a (ix3 0 k l) := by
  pointwise [k0_pay2]

theorem chunk3_apply (h : FVec Ideal S256x1024 .bf16) (a : Vec Ideal S1x1024x768 .bf16) : k0_pay3 h a (ix2 i l) = ∑ k : Fin 1024, h (ix2 i k) * a (ix3 0 k l) := by
  pointwise [k0_pay3]

variable (x : Vec Ideal S256x1024 .f32) (gain : Vec Ideal S1x1024 .f32) (w : Vec Ideal S1x8x1024 .f32) (p : Vec Ideal S4x1024x768 .bf16)

/-- The input of the projection in a row of the block. -/
def input : Fin 1024 → EReal :=
  Forward.modulated (fun k => x (ix2 i k)) (fun k => gain (ix2 0 k)) (fun k => w (ix3 0 1 k)) (fun k => w (ix3 0 0 k))

theorem input_eq : k0_pay4 (View.ld x r0_0) (View.ld gain r0_1) (View.ld w r0_2) (View.ld w r0_3) (ix2 i k) = input i x gain w k := by
  have h0 : ∀ k, View.ld x r0_0 (ix2 i k) = x (ix2 i k) := fun k => Forward.ld2 x 0 0 _ i k i k (Nat.zero_add _) (Nat.zero_add _)
  have h1 : ∀ k, View.ld gain r0_1 (ix2 0 k) = gain (ix2 0 k) := fun k => Forward.ld2 gain 0 0 _ 0 k 0 k (Nat.zero_add _) (Nat.zero_add _)
  have h2 : ∀ k, View.ld w r0_2 (ix3 0 0 k) = w (ix3 0 0 k) := fun k => Forward.ld3 w 0 0 0 _ 0 0 k 0 0 k rfl rfl (Nat.zero_add _)
  have h3 : ∀ k, View.ld w r0_3 (ix3 0 0 k) = w (ix3 0 1 k) := fun k => Forward.ld3 w 0 1 0 _ 0 0 k 0 1 k rfl rfl (Nat.zero_add _)
  refine (FwdTile.input_apply i k _ _ _ _).trans ?_
  simp only [h0, h1, h2, h3]
  rfl

theorem out_apply (v : Fin 1024 → Fin 3072 → EReal) (hv : ∀ j k l, p (ix3 j k l) = v k (chunk j l)) (q : Fin 3072) :
    out0_4 x gain w p (ix2 i q) = Forward.projected (input i x gain w) v q := by
  have a0 : ∀ k l, View.ld p r0_4 (ix3 0 k l) = v k (chunk 0 l) := fun k l => (Forward.ld3 p 0 0 0 _ 0 k l 0 k l rfl (Nat.zero_add _) (Nat.zero_add _)).trans (hv 0 k l)
  have a1 : ∀ k l, View.ld p r0_6 (ix3 0 k l) = v k (chunk 1 l) := fun k l => (Forward.ld3 p 1 0 0 _ 0 k l 1 k l rfl (Nat.zero_add _) (Nat.zero_add _)).trans (hv 1 k l)
  have a2 : ∀ k l, View.ld p r0_8 (ix3 0 k l) = v k (chunk 2 l) := fun k l => (Forward.ld3 p 2 0 0 _ 0 k l 2 k l rfl (Nat.zero_add _) (Nat.zero_add _)).trans (hv 2 k l)
  have a3 : ∀ k l, View.ld p r0_10 (ix3 0 k l) = v k (chunk 3 l) := fun k l => (Forward.ld3 p 3 0 0 _ 0 k l 3 k l rfl (Nat.zero_add _) (Nat.zero_add _)).trans (hv 3 k l)
  refine Forward.columns (fun i q => Forward.projected (input i x gain w) v q) chunk 0 768 1536 2304 _ _ _ _ (fun l => ?_) (fun l => rfl) (fun l => rfl)
    (fun l => rfl) _ _ _ _ (fun i l => ?_) (fun i l => ?_) (fun i l => ?_) (fun i l => ?_) i q (cover0_4 _ _ _ _ _)
  · rfl
  · simp only [chunk0_apply, input_eq, a0, Forward.projected]
  · simp only [chunk1_apply, input_eq, a1, Forward.projected]
  · simp only [chunk2_apply, k0_pay7, input_eq, a2, Forward.projected]
  · simp only [chunk3_apply, k0_pay7, input_eq, a3, Forward.projected]

end Tile

variable (m : (ℓ : Loc nD τ sig) → Buf (Elt Ideal) ℓ) (c : Dev nD)

/-- The arguments as launched: input, gain, modulation and weight. -/
abbrev argX : FVec Ideal S8448x1024 .f32 := m ((c : Thread nD τ).loc main_arg0)
abbrev argGain : FVec Ideal S1024 .f32 := m ((c : Thread nD τ).loc main_arg1)
abbrev argMod : FVec Ideal S2x8x1024 .f32 := m ((c : Thread nD τ).loc main_arg2)
abbrev argW : FVec Ideal S1024x3072 .f32 := m ((c : Thread nD τ).loc main_arg3)

theorem host_gain : V m c main_v0 = broadcastInDim S1x1024 ![1] bcast_S1024_S1x1024_1 (argGain m c) := by
  simp only [V, List.flatten_cons, List.flatten_nil, List.append_nil, List.cons_append, List.nil_append, hostOps0]
  after_results

theorem host_weight : V m c main_v3 = transpose S4x1024x768 [1, 0, 2]
    (shapeCast S1024x4x768 (truncf .bf16 (argW m c) bitsLt_bf16_f32) shapeCasts_S1024x3072_S1024x4x768) transposes_S1024x4x768_S4x1024x768_1_0_2 := by
  simp only [V, List.flatten_cons, List.flatten_nil, List.append_nil, List.cons_append, List.nil_append, hostOps0]
  after_results
  rfl

/-! The blocks of a point, of the arrays. -/

abbrev blkX (t : Fin cfg0.N) : Vec Ideal S256x1024 .f32 := iblk m c 0 t
abbrev blkGain (t : Fin cfg0.N) : Vec Ideal S1x1024 .f32 := iblk m c 1 t
abbrev blkMod (t : Fin cfg0.N) : Vec Ideal S1x8x1024 .f32 := iblk m c 2 t
abbrev blkW (t : Fin cfg0.N) : Vec Ideal S4x1024x768 .bf16 := iblk m c 3 t

theorem lt33 (t : Fin cfg0.N) : t.val < 33 := lt_of_lt_of_eq t.isLt (show cfg0.N = 33 from N_0)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)

section Read

variable (t : Fin cfg0.N) (i : Fin 256) (k : Fin 1024) (l : Fin 768) (q : Fin 3072)

abbrev row : Fin 8448 := Forward.row t.val (lt33 t) i

theorem emb0 : ((cfg0.win 0).blk t).view.emb (ix2 i k) = ix2 (row t i) k := by
  obtain ⟨e0, e1⟩ := index0 t
  funext a; apply Fin.ext
  match a with
  | 0 => show win0_0.index t (0 : Fin 2) * 256 + 1 * i.val = 256 * t.val + i.val; omega
  | 1 => show win0_0.index t (1 : Fin 2) * 1024 + 1 * k.val = k.val; omega

theorem emb1 : ((cfg0.win 1).blk t).view.emb (ix2 0 k) = ix2 0 k := by
  obtain ⟨e0, e1⟩ := index1 t
  funext a; apply Fin.ext
  match a with
  | 0 => show win0_1.index t (0 : Fin 2) * 1 + 1 * 0 = 0; omega
  | 1 => show win0_1.index t (1 : Fin 2) * 1024 + 1 * k.val = k.val; omega

theorem emb2 (j : Fin 8) : ((cfg0.win 2).blk t).view.emb (ix3 0 j k) = ix3 (Forward.side t.val (lt33 t)) j k := by
  obtain ⟨e0, e1, e2⟩ := index2 t
  funext a; apply Fin.ext
  match a with
  | 0 => show win0_2.index t (0 : Fin 3) * 1 + 1 * 0 = t.val / 32; omega
  | 1 => show win0_2.index t (1 : Fin 3) * 8 + 1 * j.val = j.val; omega
  | 2 => show win0_2.index t (2 : Fin 3) * 1024 + 1 * k.val = k.val; omega

theorem emb3 (j : Fin 4) : ((cfg0.win 3).blk t).view.emb (ix3 j k l) = ix3 j k l := by
  obtain ⟨e0, e1, e2⟩ := index3 t
  funext a; apply Fin.ext
  match a with
  | 0 => show win0_3.index t (0 : Fin 3) * 4 + 1 * j.val = j.val; omega
  | 1 => show win0_3.index t (1 : Fin 3) * 1024 + 1 * k.val = k.val; omega
  | 2 => show win0_3.index t (2 : Fin 3) * 768 + 1 * l.val = l.val; omega

theorem emb4 : ((cfg0.win 4).blk t).view.emb (ix2 i q) = ix2 (row t i) q := by
  obtain ⟨e0, e1⟩ := index4 t
  funext a; apply Fin.ext
  match a with
  | 0 => show win0_4.index t (0 : Fin 2) * 256 + 1 * i.val = 256 * t.val + i.val; omega
  | 1 => show win0_4.index t (1 : Fin 2) * 3072 + 1 * q.val = q.val; omega

theorem x_apply : blkX m c t (ix2 i k) = argX m c (ix2 (row t i) k) := by
  show V m c main_arg0 (((cfg0.win 0).blk t).view.emb (ix2 i k)) = _
  rw [emb0, V_main_arg0]

theorem gain_apply : blkGain m c t (ix2 0 k) = argGain m c (ix1 k) := by
  show V m c main_v0 (((cfg0.win 1).blk t).view.emb (ix2 0 k)) = _
  rw [emb1, host_gain]
  pointwise []

theorem modulation_apply (j : Fin 8) : blkMod m c t (ix3 0 j k) = MlpRef.row (argMod m c) j (row t i) k := by
  show V m c main_arg2 (((cfg0.win 2).blk t).view.emb (ix3 0 j k)) = _
  rw [emb2, V_main_arg2]
  exact Forward.side_apply (argMod m c) t.val (lt33 t) i j k

theorem weight_apply (j : Fin 4) : blkW m c t (ix3 j k l) = argW m c (ix2 k (chunk j l)) := by
  show V m c main_v3 (((cfg0.win 3).blk t).view.emb (ix3 j k l)) = _
  rw [emb3, host_weight]
  pointwise []
  exact congrArg (fun q => argW m c (ix2 k q)) (Fin.ext (by show j.val * 768 + l.val = 768 * j.val + l.val; omega))

end Read

/-- The projection as an array. -/
def result : FVec Ideal S8448x3072 .bf16 := fun y => ProjRef.result (argX m c) (argGain m c) (argMod m c) (argW m c) (y 0) (y 1)

theorem flushed_eq (t : Fin cfg0.N) (hf : (cfg0.win 4).flush t = true) :
    (dats m 0 c).flushed 4 t = ((cfg0.win 4).blk t).view.read (Elt Ideal) (result m c) := by
  rw [flushed4]
  funext y
  obtain ⟨i, q, rfl⟩ : ∃ (i : Fin 256) (q : Fin 3072), y = ix2 i q := ⟨y 0, y 1, funext fun a => match a with | 0 => rfl | 1 => rfl⟩
  show out0_4 (blkX m c t) (blkGain m c t) (blkMod m c t) (blkW m c t) (ix2 i q) = result m c (((cfg0.win 4).blk t).view.emb (ix2 i q))
  rw [emb4, out_apply i _ _ _ _ (fun k q => argW m c (ix2 k q)) (fun j k l => weight_apply m c t k l j), input]
  simp only [x_apply, gain_apply, modulation_apply m c t i]
  rfl

/-- The point that writes a row. -/
def point (r : Fin 8448) : Fin cfg0.N := ⟨r.val / 256, lt_of_lt_of_eq (by omega) (show cfg0.N = 33 from N_0).symm⟩

theorem row_point (r : Fin 8448) : row (point r) (Forward.inside r) = r := Forward.row_inside r _

/-- The array of the result after the run. -/
theorem final : (dats m 0 c).arrAt 4 cfg0.N = result m c :=
  (dats m 0 c).arrAt_eq_of_cover 4 _ (flushed_eq m c) fun y => by
    obtain ⟨r, q, rfl⟩ : ∃ (r : Fin 8448) (q : Fin 3072), y = ix2 r q := ⟨y 0, y 1, funext fun a => match a with | 0 => rfl | 1 => rfl⟩
    refine ⟨point r, flush0_4 _, ?_⟩
    have e := ((cfg0.win 4).blk (point r)).view.emb_mem_set (ix2 (Forward.inside r) q)
    rwa [emb4, row_point] at e

end Cert.CinFinal

end
-- ==== Proof.ProjClaims.lean ====
/- The claims of the two projections' forward calls. Each kernel's two programs have the same text, so its frame is its idealized program's at the
   machine's floats; for the value claims both programs are run, and both end at the projection of the normed and modulated input. -/
module

public import proofs.«01_k».proof.Defs
public import proofs.«01_k».proof.Proof.Gen.Kernel9
public import proofs.«01_k».proof.Proof.Gen.Kernel10
public import proofs.«01_k».proof.Proof.HinFinal
public import proofs.«01_k».proof.Proof.CinFinal
public import Idealize.ShloMosaic.Adequacy
public import Idealize.ShloMosaic.Init

@[expose] public section

set_option maxRecDepth 65536
set_option maxHeartbeats 4000000

noncomputable section

namespace Cert.ProjClaims

open Idealize.ShloMosaic Idealize.ShloMosaic.TcCoe Idealize.SL.Sem

theorem defs9 : @Cert.Kernel9.defs Bits _ _ = @Cert.Kernel9Ideal.defs Bits _ _ := by
  refine congrArg (Pipeline.defs (Cert.Kernel9Ideal.pcfgs (F := Bits))) ?_
  unfold Cert.Kernel9.defs₀ Cert.Kernel9Ideal.defs₀
  refine congrArg Defs.onTc (funext fun l => funext fun x => ?_)
  match l, x with
  | 0, (_, _) => rfl

theorem defs10 : @Cert.Kernel10.defs Bits _ _ = @Cert.Kernel10Ideal.defs Bits _ _ := by
  refine congrArg (Pipeline.defs (Cert.Kernel10Ideal.pcfgs (F := Bits))) ?_
  unfold Cert.Kernel10.defs₀ Cert.Kernel10Ideal.defs₀
  refine congrArg Defs.onTc (funext fun l => funext fun x => ?_)
  match l, x with
  | 0, (_, _) => rfl

theorem frame9 : Cert.quiescent_Kernel9 (hKernel9 := Cert.Kernel9.Gen.facts) := by
  intro m ρ _
  rw [defs9]
  exact Cert.Kernel9Ideal.Gen.frame (F := Bits) m ρ

theorem frame10 : Cert.quiescent_Kernel10 (hKernel10 := Cert.Kernel10.Gen.facts) := by
  intro m ρ _
  rw [defs10]
  exact Cert.Kernel10Ideal.Gen.frame (F := Bits) m ρ

theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem value9 : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => HinFinal.result m c, ?_, ?_⟩
  · refine (θ_run _ _ _).mono (fun _ h c => ?_) (Cert.Kernel9Ideal.Value.run_blocks (F := Ideal) m ρ)
    exact ⟨(h c).1.trans (HinFinal.final m c), (h c).2⟩
  · refine (θ_run _ _ _).mono (fun _ h c => ⟨(h c).1.trans ?_, (h c).2⟩) (Cert.Reference9Ideal.Value.run (F := Ideal) m' ρ')
    obtain ⟨e0, e1, e2, e3⟩ := hagree c
    rw [e0, e1, e2, e3]
    funext y
    obtain ⟨r, q, rfl⟩ : ∃ (r : Fin 8448) (q : Fin 5120), y = ix2 r q := ⟨y 0, y 1, funext fun a => match a with | 0 => rfl | 1 => rfl⟩
    exact ProjRef.hin_apply _ _ _ _ r q

theorem value10 : Cert.algebraic_Kernel10Ideal_Reference10Ideal (hKernel10Ideal := Cert.Kernel10Ideal.Gen.facts)
    (hReference10Ideal := Cert.Reference10Ideal.Gen.facts) := by
  intro m ρ m' ρ' _ hagree
  refine ⟨fun c => CinFinal.result m c, ?_, ?_⟩
  · refine (θ_run _ _ _).mono (fun _ h c => ?_) (Cert.Kernel10Ideal.Value.run_blocks (F := Ideal) m ρ)
    exact ⟨(h c).1.trans (CinFinal.final m c), (h c).2⟩
  · refine (θ_run _ _ _).mono (fun _ h c => ⟨(h c).1.trans ?_, (h c).2⟩) (Cert.Reference10Ideal.Value.run (F := Ideal) m' ρ')
    obtain ⟨e0, e1, e2, e3⟩ := hagree c
    rw [e0, e1, e2, e3]
    funext y
    obtain ⟨r, q, rfl⟩ : ∃ (r : Fin 8448) (q : Fin 3072), y = ix2 r q := ⟨y 0, y 1, funext fun a => match a with | 0 => rfl | 1 => rfl⟩
    exact ProjRef.cin_apply _ _ _ _ r q

end Cert.ProjClaims

end
-- ==== Proof.Back.lean ====
/- One row of the projections' backward calls: the cotangents of a projection's parts side by side, their product with the weight, and the way back
   through the norm; and how the parts, stored side by side in one block, are read back in other columns. -/
module

public import proofs.«01_k».proof.Proof.Forward
public import Idealize.ShloMosaic.Lib.Pipeline.ValueKit.Acc

@[expose] public section

set_option maxRecDepth 65536

noncomputable section

namespace Cert.Back

open Idealize.ShloMosaic Idealize.ShloMosaic.TcCoe Idealize.SL.Sem

/-- The cotangent of the normed row, of the parts' cotangents `d`. -/
def normed {n : Nat} (d : Fin n → EReal) (w : Fin 1024 → Fin n → EReal) (sc gain : Fin 1024 → EReal) (k : Fin 1024) : EReal :=
  (∑ q, d q * w k q) * (1 + sc k) * gain k

/-- A column in the quarter `j` of the columns. -/
def quarter {n N : Nat} (hN : N = 4 * n) (j : Fin 4) (l : Fin n) : Fin N := ⟨n * j.val + l.val, by
  have hl := l.isLt
  match j with
  | 0 => show n * 0 + l.val < N; omega
  | 1 => show n * 1 + l.val < N; omega
  | 2 => show n * 2 + l.val < N; omega
  | 3 => show n * 3 + l.val < N; omega⟩

/-- A sum over all columns is the sum of the four quarters' sums. -/
theorem sum_quarters {n N : Nat} (hN : N = 4 * n) (f : Fin N → EReal) :
    ∑ q, f q = (∑ l, f (quarter hN 0 l)) + (∑ l, f (quarter hN 1 l)) + (∑ l, f (quarter hN 2 l)) + ∑ l, f (quarter hN 3 l) := by
  subst hN
  have e : ∀ (j : Fin 4) (l : Fin n), finProdFinEquiv (j, l) = quarter rfl j l := fun j l =>
    Fin.ext (by show l.val + n * j.val = n * j.val + l.val; omega)
  rw [← finProdFinEquiv.sum_comp, Fintype.sum_prod_type, Fin.sum_univ_four]
  simp only [e]

/-- The parts side by side: column `q` is column `q % 1024` of part `q / 1024`. -/
def joined {p R N : Nat} (hN : N = 1024 * p) (d : Fin p → FVec Ideal ⟨2, ![R, 1024]⟩ .bf16) (i : Fin R) (q : Fin N) : EReal :=
  d ⟨q.val / 1024, by omega⟩ (ix2 i ⟨q.val % 1024, by omega⟩)

/-- Parts that agree row by row agree side by side. -/
theorem joined_congr {p R R' N : Nat} (hN : N = 1024 * p) (d : Fin p → FVec Ideal ⟨2, ![R, 1024]⟩ .bf16) (d' : Fin p → FVec Ideal ⟨2, ![R', 1024]⟩ .bf16)
    (i : Fin R) (i' : Fin R') (h : ∀ j l, d j (ix2 i l) = d' j (ix2 i' l)) (q : Fin N) : joined hN d i q = joined hN d' i' q := h _ _

/-- A column of a part, in the parts side by side. -/
theorem joined_at {p R N : Nat} (hN : N = 1024 * p) (d : Fin p → FVec Ideal ⟨2, ![R, 1024]⟩ .bf16) (i : Fin R) (j : Fin p) (l : Fin 1024) (q : Fin N)
    (h : 1024 * j.val + l.val = q.val) : d j (ix2 i l) = joined hN d i q := by
  have e1 : (⟨q.val / 1024, by omega⟩ : Fin p) = j := Fin.ext (by show q.val / 1024 = j.val; omega)
  have e2 : (⟨q.val % 1024, by omega⟩ : Fin 1024) = l := Fin.ext (by show q.val % 1024 = l.val; omega)
  exact (congrArg₂ (fun a b => d a (ix2 i b)) e1 e2).symm

/-- A part stored at its columns holds what the parts side by side hold there. -/
theorem piece_eq {p N : Nat} (hN : N = 1024 * p) (d : Fin p → FVec Ideal ⟨2, ![256, 1024]⟩ .bf16) (j : Fin p) (o : Nat) (ho : o = 1024 * j.val)
    (h : ∀ a : Fin 2, (![0, o] : Fin 2 → Nat) a + (![256, 1024] : Fin 2 → Nat) a ≤ (![256, N] : Fin 2 → Nat) a)
    (y : (⟨2, ![256, 1024]⟩ : Shape).Idx) :
    d j y = (fun z : (⟨2, ![256, N]⟩ : Shape).Idx => joined hN d (z 0) (z 1)) ((Rect.unit (s := ⟨2, ![256, N]⟩) ![0, o] ![256, 1024] h).emb y) := by
  obtain ⟨i, l, rfl⟩ : ∃ (i : Fin 256) (l : Fin 1024), y = ix2 i l := ⟨y 0, y 1, funext fun a => match a with | 0 => rfl | 1 => rfl⟩
  have hl := l.isLt
  have hj := j.isLt
  rw [Forward.emb2 0 o h i l i ⟨o + l.val, by omega⟩ (by omega) rfl]
  exact joined_at hN d i j l ⟨o + l.val, by omega⟩ (by show 1024 * j.val + l.val = o + l.val; omega)

/-- A read of the columns from `o` on of a block filled by pieces that agree with `G`. -/
theorem read_columns {e : EltTy} {N n : Nat} {sig : RefSig} {κ : Kind} {sp : Space} (v : View sig κ sp ⟨2, ![256, N]⟩ e)
    (G : (⟨2, ![256, N]⟩ : Shape).Idx → Elt Ideal e) (L : List (View.Piece (Elt Ideal) ⟨2, ![256, N]⟩ e))
    (hL : ∀ p ∈ L, ∀ x : p.1.shape.Idx, p.2 x = G (p.1.emb x)) (cover : ∀ y, ∃ p ∈ L, y ∈ p.1.set) (o : Nat)
    (h : ∀ a : Fin 2, (![0, o] : Fin 2 → Nat) a + (![256, n] : Fin 2 → Nat) a ≤ (![256, N] : Fin 2 → Nat) a)
    (i : Fin 256) (l : Fin n) (q : Fin N) (hq : o + l.val = q.val) :
    v.readCov L (Rect.unit (s := ⟨2, ![256, N]⟩) ![0, o] ![256, n] h).toLoadRect (ix2 i l) = G (ix2 i q) := by
  rw [View.readCov_eq_canon']
  show View.canon L ((Rect.unit (s := ⟨2, ![256, N]⟩) ![0, o] ![256, n] h).emb (ix2 i l)) = _
  rw [Forward.emb2 0 o h i l i q (by omega) hq]
  exact View.canon_apply_of_pieces G L hL _ (cover _)

/-- The index in the array of an index of block `t` of 256 rows. -/
theorem row_emb (t : Nat) (ht : t < 33) (emb : (⟨2, ![256, 1024]⟩ : Shape).Idx → (⟨2, ![8448, 1024]⟩ : Shape).Idx) (a b : Nat) (h : a = t ∧ b = 0)
    (h0 : ∀ y, (emb y 0).val = a * 256 + 1 * (y 0).val) (h1 : ∀ y, (emb y 1).val = b * 1024 + 1 * (y 1).val) (i : Fin 256) (k : Fin 1024) :
    emb (ix2 i k) = ix2 (Forward.row t ht i) k := by
  obtain ⟨e0, e1⟩ := h
  funext p; apply Fin.ext
  match p with
  | 0 => exact (h0 _).trans (by show a * 256 + 1 * i.val = 256 * t + i.val; omega)
  | 1 => exact (h1 _).trans (by show b * 1024 + 1 * k.val = k.val; omega)

/-- The gradient at an index, of the arguments. -/
def gradient {n : Nat} (d : Fin 8448 → Fin n → EReal) (x : FVec Ideal ⟨2, ![8448, 1024]⟩ .f32) (gain : FVec Ideal ⟨1, ![1024]⟩ .f32)
    (w : FVec Ideal ⟨3, ![2, 8, 1024]⟩ .f32) (p : FVec Ideal ⟨2, ![1024, n]⟩ .f32) (ct : FVec Ideal ⟨2, ![8448, 1024]⟩ .f32) (i : Fin 8448) (k : Fin 1024) : EReal :=
  Mlp.throughNorm (fun k => x (ix2 i k)) (fun k => ct (ix2 i k)) (normed (d i) (fun k q => p (ix2 k q)) (MlpRef.row w 1 i) fun k => gain (ix1 k)) k

end Cert.Back

end
-- ==== Proof.HinTile.lean ====
/- What a grid point of a recurrent layer's projection's backward call writes back to the gradient of the input, row by row, of its blocks. -/
module

public import proofs.«01_k».proof.Proof.Gen.Kernel11Ideal.Value
public import proofs.«01_k».proof.Proof.Back

@[expose] public section

set_option maxRecDepth 65536

noncomputable section

namespace Cert.HinTile

open Idealize.ShloMosaic Idealize.ShloMosaic.TcCoe Idealize.SL.Sem
open Cert.Kernel11Ideal Cert.Kernel11Ideal.Gen Cert.Kernel11Ideal.Value

section Read

variable (i : Fin 256) (k : Fin 1024)

theorem gain_apply (g : Vec Ideal S1x1024 .f32) : k0_pay7 g (ix2 0 k) = g (ix2 0 k) := by
  pointwise [k0_pay7]

theorem scale_apply (s : Vec Ideal S1x1x1024 .f32) : k0_pay8 s (ix2 0 k) = s (ix3 0 0 k) := by
  pointwise [k0_pay8]

theorem inverse_apply (x : Vec Ideal S256x1024 .f32) : k0_pay11 (k0_pay10 x) (ix2 i 0) = Mlp.inverse fun k => x (ix2 i k) := by
  pointwise [k0_pay11, k0_pay10, Ideal.multiReduction_add_single, Mlp.inverse, Mlp.meanSquare, Mlp.width, Mlp.eps]

theorem normed_apply (x : Vec Ideal S256x1024 .f32) (s : FVec Ideal S256x1024 .f32) : k0_pay12 x s (ix2 i k) = x (ix2 i k) * k0_pay11 s (ix2 i 0) := by
  unfold k0_pay12
  generalize k0_pay11 s = r
  pointwise []

theorem products_apply (d0 d1 d2 d3 : Vec Ideal S256x1280 .bf16) (w0 w1 w2 w3 : Vec Ideal S1x1024x1280 .bf16) :
    k0_pay17 (k0_pay15 d0 w0 d1 w1) (k0_pay16 d2 w2) d3 w3 (ix2 i k)
      = (∑ l : Fin 1280, d0 (ix2 i l) * w0 (ix3 0 k l)) + (∑ l : Fin 1280, d1 (ix2 i l) * w1 (ix3 0 k l))
        + (∑ l : Fin 1280, d2 (ix2 i l) * w2 (ix3 0 k l)) + ∑ l : Fin 1280, d3 (ix2 i l) * w3 (ix3 0 k l) := by
  pointwise [k0_pay17, k0_pay15, k0_pay16]

theorem modulated_apply (sc : FVec Ideal S1x1024 .f32) (a b : FVec Ideal S256x1024 .f32) (d : Vec Ideal S256x1280 .bf16) (w : Vec Ideal S1x1024x1280 .bf16) :
    k0_pay20 sc a b d w (ix2 i k) = k0_pay17 a b d w (ix2 i k) * (1 + sc (ix2 0 k)) := by
  unfold k0_pay20
  generalize k0_pay17 a b d w = z
  pointwise []

theorem out_apply (g sc : FVec Ideal S1x1024 .f32) (r : FVec Ideal S256x1 .f32) (xn a b : FVec Ideal S256x1024 .f32) (d : Vec Ideal S256x1280 .bf16)
    (w : Vec Ideal S1x1024x1280 .bf16) (ct : FVec Ideal S256x1024 .f32) :
    k0_pay22 g sc r xn a b d w ct (ix2 i k)
      = ct (ix2 i k) + r (ix2 i 0) * (k0_pay20 sc a b d w (ix2 i k) * g (ix2 0 k)
        - xn (ix2 i k) * Ideal.div (∑ l, k0_pay20 sc a b d w (ix2 i l) * g (ix2 0 l) * xn (ix2 i l)) Mlp.width) := by
  unfold k0_pay22
  generalize k0_pay20 sc a b d w = u
  pointwise [Ideal.multiReduction_add_single, Mlp.width]

end Read

/-- The five parts stored side by side. -/
abbrev pieces (d0 d1 d2 d3 d4 : Vec Ideal S256x1024 .bf16) : List (View.Piece (Elt Ideal) S256x5120 .bf16) :=
  [⟨Rect.unit (s := S256x5120) ![0, 4096] ![256, 1024] inb_S256x5120_S256x1024_0_4096, d4⟩,
    ⟨Rect.unit (s := S256x5120) ![0, 3072] ![256, 1024] inb_S256x5120_S256x1024_0_3072, d3⟩,
    ⟨Rect.unit (s := S256x5120) ![0, 2048] ![256, 1024] inb_S256x5120_S256x1024_0_2048, d2⟩,
    ⟨Rect.unit (s := S256x5120) ![0, 1024] ![256, 1024] inb_S256x5120_S256x1024_0_1024, d1⟩,
    ⟨Rect.unit (s := S256x5120) ![0, 0] ![256, 1024] inb_S256x5120_S256x1024_0_0, d0⟩]

theorem columns : 5120 = 1024 * 5 := rfl
theorem quarters : 5120 = 4 * 1280 := rfl

theorem read_apply {κ : Kind} {sp : Space} (v : View sig κ sp S256x5120 .bf16) (d0 d1 d2 d3 d4 : Vec Ideal S256x1024 .bf16) (j : Fin 4)
    (h : ∀ a : Fin 2, (![0, 1280 * j.val] : Fin 2 → Nat) a + (![256, 1280] : Fin 2 → Nat) a ≤ (![256, 5120] : Fin 2 → Nat) a)
    (i : Fin 256) (l : Fin 1280) :
    v.readCov (pieces d0 d1 d2 d3 d4) (Rect.unit (s := S256x5120) ![0, 1280 * j.val] ![256, 1280] h).toLoadRect (ix2 i l)
      = Back.joined columns ![d0, d1, d2, d3, d4] i (Back.quarter quarters j l) :=
  Back.read_columns v (fun z => Back.joined columns ![d0, d1, d2, d3, d4] (z 0) (z 1)) (pieces d0 d1 d2 d3 d4)
    (by
      intro p hp x
      simp only [pieces, List.mem_cons, List.not_mem_nil, or_false] at hp
      have piece := Back.piece_eq columns ![d0, d1, d2, d3, d4]
      rcases hp with rfl | rfl | rfl | rfl | rfl
      · exact piece 4 4096 rfl inb_S256x5120_S256x1024_0_4096 x
      · exact piece 3 3072 rfl inb_S256x5120_S256x1024_0_3072 x
      · exact piece 2 2048 rfl inb_S256x5120_S256x1024_0_2048 x
      · exact piece 1 1024 rfl inb_S256x5120_S256x1024_0_1024 x
      · exact piece 0 0 rfl inb_S256x5120_S256x1024_0_0 x)
    (fun y => View.cover_of_tiledL (pieces d0 d1 d2 d3 d4) S256x1024.size (by sl_kernel_rfl) y) (1280 * j.val) h i l _ rfl

variable (m : (ℓ : Loc nD τ sig) → Buf (Elt Ideal) ℓ) (c : Dev nD) (t : Fin cfg0.N)

/-- The blocks a point is given: the five parts, the weight, the input, the gain, the modulation, the cotangent. -/
abbrev blkD0 : Vec Ideal S256x1024 .bf16 := iblk m c 0 t
abbrev blkD1 : Vec Ideal S256x1024 .bf16 := iblk m c 1 t
abbrev blkD2 : Vec Ideal S256x1024 .bf16 := iblk m c 2 t
abbrev blkD3 : Vec Ideal S256x1024 .bf16 := iblk m c 3 t
abbrev blkD4 : Vec Ideal S256x1024 .bf16 := iblk m c 4 t
abbrev blkW : Vec Ideal S4x1024x1280 .bf16 := iblk m c 5 t
abbrev blkX : Vec Ideal S256x1024 .f32 := iblk m c 6 t
abbrev blkGain : Vec Ideal S1x1024 .f32 := iblk m c 7 t
abbrev blkMod : Vec Ideal S1x8x1024 .f32 := iblk m c 8 t
abbrev blkCt : Vec Ideal S256x1024 .f32 := iblk m c 9 t

/-- A quarter of the parts' columns, and of the weight's. -/
abbrev cols {κ : Kind} {sp : Space} (v : View sig κ sp S256x5120 .bf16) (L : List (View.Piece (Elt Ideal) S256x5120 .bf16)) (o : Nat)
    (h : ∀ a : Fin 2, (![0, o] : Fin 2 → Nat) a + (![256, 1280] : Fin 2 → Nat) a ≤ (![256, 5120] : Fin 2 → Nat) a) : Vec Ideal S256x1280 .bf16 :=
  v.readCov L (Rect.unit (s := S256x5120) ![0, o] ![256, 1280] h).toLoadRect
abbrev slab (w : Vec Ideal S4x1024x1280 .bf16) (j : Nat)
    (h : ∀ a : Fin 3, (![j, 0, 0] : Fin 3 → Nat) a + (![1, 1024, 1280] : Fin 3 → Nat) a ≤ (![4, 1024, 1280] : Fin 3 → Nat) a) : Vec Ideal S1x1024x1280 .bf16 :=
  View.ld w (Rect.unit (s := S4x1024x1280) ![j, 0, 0] ![1, 1024, 1280] h)

/-- The product of the first two quarters, of the third, and of all. -/
def first {κ : Kind} {sp : Space} (v : View sig κ sp S256x5120 .bf16) (L : List (View.Piece (Elt Ideal) S256x5120 .bf16)) (w : Vec Ideal S4x1024x1280 .bf16) :
    FVec Ideal S256x1024 .f32 :=
  k0_pay15 (cols v L 0 inb_S256x5120_S256x1280_0_0) (slab w 0 inb_S4x1024x1280_S1x1024x1280_0_0_0)
    (cols v L 1280 inb_S256x5120_S256x1280_0_1280) (slab w 1 inb_S4x1024x1280_S1x1024x1280_1_0_0)
def third {κ : Kind} {sp : Space} (v : View sig κ sp S256x5120 .bf16) (L : List (View.Piece (Elt Ideal) S256x5120 .bf16)) (w : Vec Ideal S4x1024x1280 .bf16) :
    FVec Ideal S256x1024 .f32 :=
  k0_pay16 (cols v L 2560 inb_S256x5120_S256x1280_0_2560) (slab w 2 inb_S4x1024x1280_S1x1024x1280_2_0_0)
def product {κ : Kind} {sp : Space} (v : View sig κ sp S256x5120 .bf16) (L : List (View.Piece (Elt Ideal) S256x5120 .bf16)) (w : Vec Ideal S4x1024x1280 .bf16) :
    FVec Ideal S256x1024 .f32 :=
  k0_pay17 (first v L w) (third v L w) (cols v L 3840 inb_S256x5120_S256x1280_0_3840) (slab w 3 inb_S4x1024x1280_S1x1024x1280_3_0_0)

/-- What a point writes back, of its blocks. -/
def body {κ : Kind} {sp : Space} (v : View sig κ sp S256x5120 .bf16) (d0 d1 d2 d3 d4 : Vec Ideal S256x1024 .bf16) (w : Vec Ideal S4x1024x1280 .bf16)
    (x : Vec Ideal S256x1024 .f32) (gain : Vec Ideal S1x1024 .f32) (s : Vec Ideal S1x8x1024 .f32) (ct : Vec Ideal S256x1024 .f32) : FVec Ideal S256x1024 .f32 :=
  k0_pay22 (k0_pay7 gain) (k0_pay8 (View.ld s (Rect.unit (s := S1x8x1024) ![0, 1, 0] ![1, 1, 1024] inb_S1x8x1024_S1x1x1024_0_1_0)))
    (k0_pay11 (k0_pay10 x)) (k0_pay12 x (k0_pay10 x)) (first v (pieces d0 d1 d2 d3 d4) w) (third v (pieces d0 d1 d2 d3 d4) w)
    (cols v (pieces d0 d1 d2 d3 d4) 3840 inb_S256x5120_S256x1280_0_3840) (slab w 3 inb_S4x1024x1280_S1x1024x1280_3_0_0) ct

theorem left_eq : (outsAt0 m c t.val t.isLt).1
    = body (ms0_13 t).view (blkD0 m c t) (blkD1 m c t) (blkD2 m c t) (blkD3 m c t) (blkD4 m c t) (blkW m c t) (blkX m c t) (blkGain m c t) (blkMod m c t)
        (blkCt m c t) := by
  by_cases h0 : t.val % 33 = 0
  · rw [outsAt0_A m c t h0]
    frame_out
    rfl
  · rw [outsAt0_B m c t h0]
    frame_out
    rfl

theorem product_apply {κ : Kind} {sp : Space} (b : View sig κ sp S256x5120 .bf16) (d0 d1 d2 d3 d4 : Vec Ideal S256x1024 .bf16)
    (w : Vec Ideal S4x1024x1280 .bf16) (v : Fin 1024 → Fin 5120 → EReal) (hv : ∀ j k l, w (ix3 j k l) = v k (Back.quarter quarters j l))
    (i : Fin 256) (k : Fin 1024) :
    product b (pieces d0 d1 d2 d3 d4) w (ix2 i k) = ∑ q, Back.joined columns ![d0, d1, d2, d3, d4] i q * v k q := by
  have a : ∀ (j : Fin 4) (h : ∀ p : Fin 3, (![j.val, 0, 0] : Fin 3 → Nat) p + (![1, 1024, 1280] : Fin 3 → Nat) p ≤ (![4, 1024, 1280] : Fin 3 → Nat) p)
      (l : Fin 1280), View.ld w (Rect.unit (s := S4x1024x1280) ![j.val, 0, 0] ![1, 1024, 1280] h) (ix3 0 k l) = v k (Back.quarter quarters j l) :=
    fun j h l => (Forward.ld3 w j.val 0 0 h 0 k l j k l rfl (Nat.zero_add _) (Nat.zero_add _)).trans (hv j k l)
  have r := fun (j : Fin 4) h => read_apply b d0 d1 d2 d3 d4 j h i
  unfold product first third
  rw [products_apply, Back.sum_quarters quarters]
  exact congrArg₂ (· + ·) (congrArg₂ (· + ·) (congrArg₂ (· + ·)
    (Finset.sum_congr rfl fun l _ => congrArg₂ (· * ·) (r 0 inb_S256x5120_S256x1280_0_0 l) (a 0 inb_S4x1024x1280_S1x1024x1280_0_0_0 l))
    (Finset.sum_congr rfl fun l _ => congrArg₂ (· * ·) (r 1 inb_S256x5120_S256x1280_0_1280 l) (a 1 inb_S4x1024x1280_S1x1024x1280_1_0_0 l)))
    (Finset.sum_congr rfl fun l _ => congrArg₂ (· * ·) (r 2 inb_S256x5120_S256x1280_0_2560 l) (a 2 inb_S4x1024x1280_S1x1024x1280_2_0_0 l)))
    (Finset.sum_congr rfl fun l _ => congrArg₂ (· * ·) (r 3 inb_S256x5120_S256x1280_0_3840 l) (a 3 inb_S4x1024x1280_S1x1024x1280_3_0_0 l))

theorem body_apply {κ : Kind} {sp : Space} (b : View sig κ sp S256x5120 .bf16) (d0 d1 d2 d3 d4 : Vec Ideal S256x1024 .bf16)
    (w : Vec Ideal S4x1024x1280 .bf16)
    (x : Vec Ideal S256x1024 .f32) (gain : Vec Ideal S1x1024 .f32) (s : Vec Ideal S1x8x1024 .f32) (ct : Vec Ideal S256x1024 .f32)
    (v : Fin 1024 → Fin 5120 → EReal) (hv : ∀ j k l, w (ix3 j k l) = v k (Back.quarter quarters j l)) (i : Fin 256) (k : Fin 1024) :
    body b d0 d1 d2 d3 d4 w x gain s ct (ix2 i k)
      = Mlp.throughNorm (fun k => x (ix2 i k)) (fun k => ct (ix2 i k))
          (Back.normed (Back.joined columns ![d0, d1, d2, d3, d4] i) v (fun k => s (ix3 0 1 k)) fun k => gain (ix2 0 k)) k := by
  have g : ∀ l, View.ld s (Rect.unit (s := S1x8x1024) ![0, 1, 0] ![1, 1, 1024] inb_S1x8x1024_S1x1x1024_0_1_0) (ix3 0 0 l) = s (ix3 0 1 l) :=
    fun l => Forward.ld3 s 0 1 0 inb_S1x8x1024_S1x1x1024_0_1_0 0 0 l 0 1 l rfl rfl (Nat.zero_add _)
  have hp := product_apply b d0 d1 d2 d3 d4 w v hv i
  unfold body Mlp.throughNorm Back.normed
  unfold product at hp
  simp only [out_apply, modulated_apply, gain_apply, scale_apply, inverse_apply, normed_apply, g, hp]

end Cert.HinTile

end
-- ==== Proof.HinBack.lean ====
/- The gradient of the input after the run of a recurrent layer's projection's backward call: what the host prepares, the blocks the points
   are given, and the rows they write back. -/
module

public import proofs.«01_k».proof.Proof.HinTile

@[expose] public section

set_option maxRecDepth 65536

noncomputable section

namespace Cert.HinBack

open Idealize.ShloMosaic Idealize.ShloMosaic.TcCoe Idealize.SL.Sem
open Cert.Kernel11Ideal Cert.Kernel11Ideal.Gen Cert.Kernel11Ideal.Value
open Cert.HinTile (blkD0 blkD1 blkD2 blkD3 blkD4 blkW blkX blkGain blkMod blkCt columns quarters)

variable (m : (ℓ : Loc nD τ sig) → Buf (Elt Ideal) ℓ) (c : Dev nD)

/-- The arguments as launched: the cotangents of the parts, input, gain, modulation, weight and the cotangent that passes the layer by. -/
abbrev argD0 : FVec Ideal S8448x1024 .bf16 := m ((c : Thread nD τ).loc main_arg0)
abbrev argD1 : FVec Ideal S8448x1024 .bf16 := m ((c : Thread nD τ).loc main_arg1)
abbrev argD2 : FVec Ideal S8448x1024 .bf16 := m ((c : Thread nD τ).loc main_arg2)
abbrev argD3 : FVec Ideal S8448x1024 .bf16 := m ((c : Thread nD τ).loc main_arg3)
abbrev argD4 : FVec Ideal S8448x1024 .bf16 := m ((c : Thread nD τ).loc main_arg4)
abbrev argX : FVec Ideal S8448x1024 .f32 := m ((c : Thread nD τ).loc main_arg5)
abbrev argGain : FVec Ideal S1024 .f32 := m ((c : Thread nD τ).loc main_arg6)
abbrev argMod : FVec Ideal S2x8x1024 .f32 := m ((c : Thread nD τ).loc main_arg7)
abbrev argW : FVec Ideal S1024x5120 .f32 := m ((c : Thread nD τ).loc main_arg8)
abbrev argCt : FVec Ideal S8448x1024 .f32 := m ((c : Thread nD τ).loc main_arg9)

theorem host_gain : V m c main_v3 = broadcastInDim S1x1024 ![1] bcast_S1024_S1x1024_1 (argGain m c) := by
  simp only [V, List.flatten_cons, List.flatten_nil, List.append_nil, List.cons_append, List.nil_append, hostOps0]
  after_results

theorem host_weight : V m c main_v2 = transpose S4x1024x1280 [1, 0, 2]
    (shapeCast S1024x4x1280 (truncf .bf16 (argW m c) bitsLt_bf16_f32) shapeCasts_S1024x5120_S1024x4x1280) transposes_S1024x4x1280_S4x1024x1280_1_0_2 := by
  simp only [V, List.flatten_cons, List.flatten_nil, List.append_nil, List.cons_append, List.nil_append, hostOps0]
  after_results
  rfl

/-! The blocks of a point, of the arrays. -/

theorem lt33 (t : Fin cfg0.N) : t.val < 33 := lt_of_lt_of_eq t.isLt (show cfg0.N = 33 from N_0)

theorem index_rows : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_6.index t (0 : Fin 2) = t.val ∧ win0_6.index t (1 : Fin 2) = 0) ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)
theorem index5 : ∀ t : Fin cfg0.N, win0_5.index t (0 : Fin 3) = 0 ∧ win0_5.index t (1 : Fin 3) = 0 ∧ win0_5.index t (2 : Fin 3) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 3) = t.val / 32 ∧ win0_8.index t (1 : Fin 3) = 0 ∧ win0_8.index t (2 : Fin 3) = 0 :=
  (by decide +kernel : ∀ t : Fin grid0.N, _)

section Read

variable (t : Fin cfg0.N) (i : Fin 256) (k : Fin 1024) (l : Fin 1280)

abbrev row : Fin 8448 := Forward.row t.val (lt33 t) i

theorem emb0 : ((cfg0.win 0).blk t).view.emb (ix2 i k) = ix2 (row t i) k :=
  Back.row_emb t.val (lt33 t) ((cfg0.win 0).blk t).view.emb _ _ (index_rows t).1 (fun _ => rfl) (fun _ => rfl) i k
theorem emb1 : ((cfg0.win 1).blk t).view.emb (ix2 i k) = ix2 (row t i) k :=
  Back.row_emb t.val (lt33 t) ((cfg0.win 1).blk t).view.emb _ _ (index_rows t).2.1 (fun _ => rfl) (fun _ => rfl) i k
theorem emb2 : ((cfg0.win 2).blk t).view.emb (ix2 i k) = ix2 (row t i) k :=
  Back.row_emb t.val (lt33 t) ((cfg0.win 2).blk t).view.emb _ _ (index_rows t).2.2.1 (fun _ => rfl) (fun _ => rfl) i k
theorem emb3 : ((cfg0.win 3).blk t).view.emb (ix2 i k) = ix2 (row t i) k :=
  Back.row_emb t.val (lt33 t) ((cfg0.win 3).blk t).view.emb _ _ (index_rows t).2.2.2.1 (fun _ => rfl) (fun _ => rfl) i k
theorem emb4 : ((cfg0.win 4).blk t).view.emb (ix2 i k) = ix2 (row t i) k :=
  Back.row_emb t.val (lt33 t) ((cfg0.win 4).blk t).view.emb _ _ (index_rows t).2.2.2.2.1 (fun _ => rfl) (fun _ => rfl) i k
theorem emb6 : ((cfg0.win 6).blk t).view.emb (ix2 i k) = ix2 (row t i) k :=
  Back.row_emb t.val (lt33 t) ((cfg0.win 6).blk t).view.emb _ _ (index_rows t).2.2.2.2.2.1 (fun _ => rfl) (fun _ => rfl) i k
theorem emb9 : ((cfg0.win 9).blk t).view.emb (ix2 i k) = ix2 (row t i) k :=
  Back.row_emb t.val (lt33 t) ((cfg0.win 9).blk t).view.emb _ _ (index_rows t).2.2.2.2.2.2.1 (fun _ => rfl) (fun _ => rfl) i k
theorem emb10 : ((cfg0.win 10).blk t).view.emb (ix2 i k) = ix2 (row t i) k :=
  Back.row_emb t.val (lt33 t) ((cfg0.win 10).blk t).view.emb _ _ (index_rows t).2.2.2.2.2.2.2 (fun _ => rfl) (fun _ => rfl) i k

theorem emb5 (j : Fin 4) : ((cfg0.win 5).blk t).view.emb (ix3 j k l) = ix3 j k l := by
  obtain ⟨e0, e1, e2⟩ := index5 t
  funext a; apply Fin.ext
  match a with
  | 0 => show win0_5.index t (0 : Fin 3) * 4 + 1 * j.val = j.val; omega
  | 1 => show win0_5.index t (1 : Fin 3) * 1024 + 1 * k.val = k.val; omega
  | 2 => show win0_5.index t (2 : Fin 3) * 1280 + 1 * l.val = l.val; omega

theorem emb7 : ((cfg0.win 7).blk t).view.emb (ix2 0 k) = ix2 0 k := by
  obtain ⟨e0, e1⟩ := index7 t
  funext a; apply Fin.ext
  match a with
  | 0 => show win0_7.index t (0 : Fin 2) * 1 + 1 * 0 = 0; omega
  | 1 => show win0_7.index t (1 : Fin 2) * 1024 + 1 * k.val = k.val; omega

theorem emb8 (j : Fin 8) : ((cfg0.win 8).blk t).view.emb (ix3 0 j k) = ix3 (Forward.side t.val (lt33 t)) j k := by
  obtain ⟨e0, e1, e2⟩ := index8 t
  funext a; apply Fin.ext
  match a with
  | 0 => show win0_8.index t (0 : Fin 3) * 1 + 1 * 0 = t.val / 32; omega
  | 1 => show win0_8.index t (1 : Fin 3) * 8 + 1 * j.val = j.val; omega
  | 2 => show win0_8.index t (2 : Fin 3) * 1024 + 1 * k.val = k.val; omega

theorem d0_apply : blkD0 m c t (ix2 i k) = argD0 m c (ix2 (row t i) k) := by
  show V m c main_arg0 (((cfg0.win 0).blk t).view.emb (ix2 i k)) = _
  rw [emb0, V_main_arg0]

theorem d1_apply : blkD1 m c t (ix2 i k) = argD1 m c (ix2 (row t i) k) := by
  show V m c main_arg1 (((cfg0.win 1).blk t).view.emb (ix2 i k)) = _
  rw [emb1, V_main_arg1]

theorem d2_apply : blkD2 m c t (ix2 i k) = argD2 m c (ix2 (row t i) k) := by
  show V m c main_arg2 (((cfg0.win 2).blk t).view.emb (ix2 i k)) = _
  rw [emb2, V_main_arg2]

theorem d3_apply : blkD3 m c t (ix2 i k) = argD3 m c (ix2 (row t i) k) := by
  show V m c main_arg3 (((cfg0.win 3).blk t).view.emb (ix2 i k)) = _
  rw [emb3, V_main_arg3]

theorem d4_apply : blkD4 m c t (ix2 i k) = argD4 m c (ix2 (row t i) k) := by
  show V m c main_arg4 (((cfg0.win 4).blk t).view.emb (ix2 i k)) = _
  rw [emb4, V_main_arg4]

theorem weight_apply (j : Fin 4) : blkW m c t (ix3 j k l) = argW m c (ix2 k (Back.quarter quarters j l)) := by
  show V m c main_v2 (((cfg0.win 5).blk t).view.emb (ix3 j k l)) = _
  rw [emb5, host_weight]
  pointwise []
  exact congrArg (fun q => argW m c (ix2 k q)) (Fin.ext (by show j.val * 1280 + l.val = 1280 * j.val + l.val; omega))

theorem x_apply : blkX m c t (ix2 i k) = argX m c (ix2 (row t i) k) := by
  show V m c main_arg5 (((cfg0.win 6).blk t).view.emb (ix2 i k)) = _
  rw [emb6, V_main_arg5]

theorem gain_apply : blkGain m c t (ix2 0 k) = argGain m c (ix1 k) := by
  show V m c main_v3 (((cfg0.win 7).blk t).view.emb (ix2 0 k)) = _
  rw [emb7, host_gain]
  pointwise []

theorem modulation_apply (j : Fin 8) : blkMod m c t (ix3 0 j k) = MlpRef.row (argMod m c) j (row t i) k := by
  show V m c main_arg7 (((cfg0.win 8).blk t).view.emb (ix3 0 j k)) = _
  rw [emb8, V_main_arg7]
  exact Forward.side_apply (argMod m c) t.val (lt33 t) i j k

theorem ct_apply : blkCt m c t (ix2 i k) = argCt m c (ix2 (row t i) k) := by
  show V m c main_arg9 (((cfg0.win 9).blk t).view.emb (ix2 i k)) = _
  rw [emb9, V_main_arg9]

/-- The parts of a point's block side by side are the row of the arrays side by side. -/
theorem parts_apply (q : Fin 5120) : Back.joined columns ![blkD0 m c t, blkD1 m c t, blkD2 m c t, blkD3 m c t, blkD4 m c t] i q
    = Back.joined columns ![argD0 m c, argD1 m c, argD2 m c, argD3 m c, argD4 m c] (row t i) q :=
  Back.joined_congr columns _ _ i (row t i) (fun j l => match j with
    | 0 => d0_apply m c t i l
    | 1 => d1_apply m c t i l
    | 2 => d2_apply m c t i l
    | 3 => d3_apply m c t i l
    | 4 => d4_apply m c t i l) q

end Read

/-- The gradient as an array. -/
def result : FVec Ideal S8448x1024 .f32 := fun y =>
  Back.gradient (Back.joined columns ![argD0 m c, argD1 m c, argD2 m c, argD3 m c, argD4 m c]) (argX m c) (argGain m c) (argMod m c) (argW m c) (argCt m c) (y 0) (y 1)

theorem left_apply (t : Fin cfg0.N) (i : Fin 256) (k : Fin 1024) : (outsAt0 m c t.val t.isLt).1 (ix2 i k) = result m c (ix2 (row t i) k) := by
  rw [HinTile.left_eq, HinTile.body_apply _ _ _ _ _ _ _ _ _ _ _ (fun k q => argW m c (ix2 k q)) fun j k l => weight_apply m c t k l j]
  rw [show Back.joined columns ![blkD0 m c t, blkD1 m c t, blkD2 m c t, blkD3 m c t, blkD4 m c t] i = Back.joined columns ![argD0 m c, argD1 m c, argD2 m c, argD3 m c, argD4 m c] (row t i) from
    funext (parts_apply m c t i)]
  simp only [x_apply, gain_apply, modulation_apply m c t i, ct_apply]
  rfl

theorem flushed_eq (t : Fin cfg0.N) (hf : (cfg0.win 10).flush t = true) :
    (dats m 0 c).flushed 10 t = ((cfg0.win 10).blk t).view.read (Elt Ideal) (result m c) := by
  rw [flushed10]
  funext y
  obtain ⟨i, k, rfl⟩ : ∃ (i : Fin 256) (k : Fin 1024), y = ix2 i k := ⟨y 0, y 1, funext fun a => match a with | 0 => rfl | 1 => rfl⟩
  show (outsAt0 m c t.val t.isLt).1 (ix2 i k) = result m c (((cfg0.win 10).blk t).view.emb (ix2 i k))
  rw [emb10, left_apply]

/-- The point that writes a row. -/
def point (r : Fin 8448) : Fin cfg0.N := ⟨r.val / 256, lt_of_lt_of_eq (by omega) (show cfg0.N = 33 from N_0).symm⟩

theorem row_point (r : Fin 8448) : row (point r) (Forward.inside r) = r := Forward.row_inside r _

/-- The array of the gradient after the run. -/
theorem final : (dats m 0 c).arrAt 10 cfg0.N = result m c :=
  (dats m 0 c).arrAt_eq_of_cover 10 _ (flushed_eq m c) fun y => by
    obtain ⟨r, k, rfl⟩ : ∃ (r : Fin 8448) (k : Fin 1024), y = ix2 r k := ⟨y 0, y 1, funext fun a => match a with | 0 => rfl | 1 => rfl⟩
    have e := ((cfg0.win 10).blk (point r)).view.emb_mem_set (ix2 (Forward.inside r) k)
    rw [emb10, row_point] at e
    exact ⟨point r, flush0_10 _, e⟩

end Cert.HinBack

end
-- ==== Proof.CinTile.lean ====
/- What a grid point of a short-convolution layer's projection's backward call writes back to the gradient of the input, row by row, of its blocks. -/
module

public import proofs.«01_k».proof.Proof.Gen.Kernel12Ideal.Value
public import proofs.«01_k».proof.Proof.Back

@[expose] public section

set_option maxRecDepth 65536

noncomputable section

namespace Cert.CinTile

open Idealize.ShloMosaic Idealize.ShloMosaic.TcCoe Idealize.SL.Sem
open Cert.Kernel12Ideal Cert.Kernel12Ideal.Gen Cert.Kernel12Ideal.Value

section Read

variable (i : Fin 256) (k : Fin 1024)

theorem gain_apply (g : Vec Ideal S1x1024 .f32) : k0_pay5 g (ix2 0 k) = g (ix2 0 k) := by
  pointwise [k0_pay5]

theorem scale_apply (s : Vec Ideal S1x1x1024 .f32) : k0_pay6 s (ix2 0 k) = s (ix3 0 0 k) := by
  pointwise [k0_pay6]

theorem inverse_apply (x : Vec Ideal S256x1024 .f32) : k0_pay8 x (ix2 i 0) = Mlp.inverse fun k => x (ix2 i k) := by
  pointwise [k0_pay8, Ideal.multiReduction_add_single, Mlp.inverse, Mlp.meanSquare, Mlp.width, Mlp.eps]

theorem normed_apply (x : Vec Ideal S256x1024 .f32) : k0_pay9 x (ix2 i k) = x (ix2 i k) * k0_pay8 x (ix2 i 0) := by
  unfold k0_pay9
  generalize k0_pay8 x = r
  pointwise []

theorem products_apply (d0 d1 d2 d3 : Vec Ideal S256x768 .bf16) (w0 w1 w2 w3 : Vec Ideal S1x1024x768 .bf16) :
    k0_pay12 d0 w0 d1 w1 d2 w2 d3 w3 (ix2 i k) = (∑ l : Fin 768, d0 (ix2 i l) * w0 (ix3 0 k l)) + (∑ l : Fin 768, d1 (ix2 i l) * w1 (ix3 0 k l))
      + (∑ l : Fin 768, d2 (ix2 i l) * w2 (ix3 0 k l)) + ∑ l : Fin 768, d3 (ix2 i l) * w3 (ix3 0 k l) := by
  pointwise [k0_pay12]

theorem modulated_apply (sc : FVec Ideal S1x1024 .f32) (z : FVec Ideal S256x1024 .f32) : k0_pay15 sc z (ix2 i k) = z (ix2 i k) * (1 + sc (ix2 0 k)) := by
  pointwise [k0_pay15]

theorem out_apply (g sc : FVec Ideal S1x1024 .f32) (r : FVec Ideal S256x1 .f32) (xn z ct : FVec Ideal S256x1024 .f32) :
    k0_pay16 g sc r xn z ct (ix2 i k)
      = ct (ix2 i k) + r (ix2 i 0) * (k0_pay15 sc z (ix2 i k) * g (ix2 0 k)
        - xn (ix2 i k) * Ideal.div (∑ l, k0_pay15 sc z (ix2 i l) * g (ix2 0 l) * xn (ix2 i l)) Mlp.width) := by
  unfold k0_pay16
  generalize k0_pay15 sc z = u
  pointwise [Ideal.multiReduction_add_single, Mlp.width]

end Read

/-- The three parts stored side by side. -/
abbrev pieces (d0 d1 d2 : Vec Ideal S256x1024 .bf16) : List (View.Piece (Elt Ideal) S256x3072 .bf16) :=
  [⟨Rect.unit (s := S256x3072) ![0, 2048] ![256, 1024] inb_S256x3072_S256x1024_0_2048, d2⟩,
    ⟨Rect.unit (s := S256x3072) ![0, 1024] ![256, 1024] inb_S256x3072_S256x1024_0_1024, d1⟩,
    ⟨Rect.unit (s := S256x3072) ![0, 0] ![256, 1024] inb_S256x3072_S256x1024_0_0, d0⟩]

theorem columns : 3072 = 1024 * 3 := rfl
theorem quarters : 3072 = 4 * 768 := rfl

theorem read_apply {κ : Kind} {sp : Space} (v : View sig κ sp S256x3072 .bf16) (d0 d1 d2 : Vec Ideal S256x1024 .bf16) (j : Fin 4)
    (h : ∀ a : Fin 2, (![0, 768 * j.val] : Fin 2 → Nat) a + (![256, 768] : Fin 2 → Nat) a ≤ (![256, 3072] : Fin 2 → Nat) a)
    (i : Fin 256) (l : Fin 768) :
    v.readCov (pieces d0 d1 d2) (Rect.unit (s := S256x3072) ![0, 768 * j.val] ![256, 768] h).toLoadRect (ix2 i l)
      = Back.joined columns ![d0, d1, d2] i (Back.quarter quarters j l) :=
  Back.read_columns v (fun z => Back.joined columns ![d0, d1, d2] (z 0) (z 1)) (pieces d0 d1 d2)
    (by
      intro p hp x
      simp only [pieces, List.mem_cons, List.not_mem_nil, or_false] at hp
      rcases hp with rfl | rfl | rfl
      · exact Back.piece_eq columns ![d0, d1, d2] 2 2048 rfl inb_S256x3072_S256x1024_0_2048 x
      · exact Back.piece_eq columns ![d0, d1, d2] 1 1024 rfl inb_S256x3072_S256x1024_0_1024 x
      · exact Back.piece_eq columns ![d0, d1, d2] 0 0 rfl inb_S256x3072_S256x1024_0_0 x)
    (fun y => View.cover_of_tiledL (pieces d0 d1 d2) S256x1024.size (by sl_kernel_rfl) y) (768 * j.val) h i l _ rfl

variable (m : (ℓ : Loc nD τ sig) → Buf (Elt Ideal) ℓ) (c : Dev nD) (t : Fin cfg0.N)

/-- The blocks a point is given: the three parts, the weight, the input, the gain, the modulation, the cotangent. -/
abbrev blkD0 : Vec Ideal S256x1024 .bf16 := iblk m c 0 t
abbrev blkD1 : Vec Ideal S256x1024 .bf16 := iblk m c 1 t
abbrev blkD2 : Vec Ideal S256x1024 .bf16 := iblk m c 2 t
abbrev blkW : Vec Ideal S4x1024x768 .bf16 := iblk m c 3 t
abbrev blkX : Vec Ideal S256x1024 .f32 := iblk m c 4 t
abbrev blkGain : Vec Ideal S1x1024 .f32 := iblk m c 5 t
abbrev blkMod : Vec Ideal S1x8x1024 .f32 := iblk m c 6 t
abbrev blkCt : Vec Ideal S256x1024 .f32 := iblk m c 7 t

/-- The product of the parts' cotangents with the weight, four quarters of the columns. -/
def product {κ : Kind} {sp : Space} (v : View sig κ sp S256x3072 .bf16) (d0 d1 d2 : Vec Ideal S256x1024 .bf16) (w : Vec Ideal S4x1024x768 .bf16) :
    FVec Ideal S256x1024 .f32 :=
  k0_pay12
    (v.readCov (pieces d0 d1 d2) (Rect.unit (s := S256x3072) ![0, 0] ![256, 768] inb_S256x3072_S256x768_0_0).toLoadRect)
    (View.ld w (Rect.unit (s := S4x1024x768) ![0, 0, 0] ![1, 1024, 768] inb_S4x1024x768_S1x1024x768_0_0_0))
    (v.readCov (pieces d0 d1 d2) (Rect.unit (s := S256x3072) ![0, 768] ![256, 768] inb_S256x3072_S256x768_0_768).toLoadRect)
    (View.ld w (Rect.unit (s := S4x1024x768) ![1, 0, 0] ![1, 1024, 768] inb_S4x1024x768_S1x1024x768_1_0_0))
    (v.readCov (pieces d0 d1 d2) (Rect.unit (s := S256x3072) ![0, 1536] ![256, 768] inb_S256x3072_S256x768_0_1536).toLoadRect)
    (View.ld w (Rect.unit (s := S4x1024x768) ![2, 0, 0] ![1, 1024, 768] inb_S4x1024x768_S1x1024x768_2_0_0))
    (v.readCov (pieces d0 d1 d2) (Rect.unit (s := S256x3072) ![0, 2304] ![256, 768] inb_S256x3072_S256x768_0_2304).toLoadRect)
    (View.ld w (Rect.unit (s := S4x1024x768) ![3, 0, 0] ![1, 1024, 768] inb_S4x1024x768_S1x1024x768_3_0_0))

/-- What a point writes back, of its blocks. -/
def body {κ : Kind} {sp : Space} (v : View sig κ sp S256x3072 .bf16) (d0 d1 d2 : Vec Ideal S256x1024 .bf16) (w : Vec Ideal S4x1024x768 .bf16)
    (x : Vec Ideal S256x1024 .f32) (gain : Vec Ideal S1x1024 .f32) (s : Vec Ideal S1x8x1024 .f32) (ct : Vec Ideal S256x1024 .f32) : FVec Ideal S256x1024 .f32 :=
  k0_pay16 (k0_pay5 gain) (k0_pay6 (View.ld s (Rect.unit (s := S1x8x1024) ![0, 1, 0] ![1, 1, 1024] inb_S1x8x1024_S1x1x1024_0_1_0))) (k0_pay8 x) (k0_pay9 x)
    (product v d0 d1 d2 w) ct

theorem left_eq : (outsAt0 m c t.val t.isLt).1
    = body (ms0_11 t).view (blkD0 m c t) (blkD1 m c t) (blkD2 m c t) (blkW m c t) (blkX m c t) (blkGain m c t) (blkMod m c t) (blkCt m c t) := by
  by_cases h0 : t.val % 33 = 0
  · rw [outsAt0_A m c t h0]
    frame_out
    rfl
  · rw [outsAt0_B m c t h0]
    frame_out
    rfl

theorem product_apply {κ : Kind} {sp : Space} (b : View sig κ sp S256x3072 .bf16) (d0 d1 d2 : Vec Ideal S256x1024 .bf16) (w : Vec Ideal S4x1024x768 .bf16)
    (v : Fin 1024 → Fin 3072 → EReal) (hv : ∀ j k l, w (ix3 j k l) = v k (Back.quarter quarters j l)) (i : Fin 256) (k : Fin 1024) :
    product b d0 d1 d2 w (ix2 i k) = ∑ q, Back.joined columns ![d0, d1, d2] i q * v k q := by
  have a : ∀ (j : Fin 4) (h : ∀ p : Fin 3, (![j.val, 0, 0] : Fin 3 → Nat) p + (![1, 1024, 768] : Fin 3 → Nat) p ≤ (![4, 1024, 768] : Fin 3 → Nat) p)
      (l : Fin 768), View.ld w (Rect.unit (s := S4x1024x768) ![j.val, 0, 0] ![1, 1024, 768] h) (ix3 0 k l) = v k (Back.quarter quarters j l) :=
    fun j h l => (Forward.ld3 w j.val 0 0 h 0 k l j k l rfl (Nat.zero_add _) (Nat.zero_add _)).trans (hv j k l)
  have r := fun (j : Fin 4) h => read_apply b d0 d1 d2 j h i
  unfold product
  rw [products_apply, Back.sum_quarters quarters]
  exact congrArg₂ (· + ·) (congrArg₂ (· + ·) (congrArg₂ (· + ·)
    (Finset.sum_congr rfl fun l _ => congrArg₂ (· * ·) (r 0 inb_S256x3072_S256x768_0_0 l) (a 0 inb_S4x1024x768_S1x1024x768_0_0_0 l))
    (Finset.sum_congr rfl fun l _ => congrArg₂ (· * ·) (r 1 inb_S256x3072_S256x768_0_768 l) (a 1 inb_S4x1024x768_S1x1024x768_1_0_0 l)))
    (Finset.sum_congr rfl fun l _ => congrArg₂ (· * ·) (r 2 inb_S256x3072_S256x768_0_1536 l) (a 2 inb_S4x1024x768_S1x1024x768_2_0_0 l)))
    (Finset.sum_congr rfl fun l _ => congrArg₂ (· * ·) (r 3 inb_S256x3072_S256x768_0_2304 l) (a 3 inb_S4x1024x768_S1x1024x768_3_0_0 l))

theorem body_apply {κ : Kind} {sp : Space} (b : View sig κ sp S256x3072 .bf16) (d0 d1 d2 : Vec Ideal S256x1024 .bf16) (w : Vec Ideal S4x1024x768 .bf16)
    (x : Vec Ideal S256x1024 .f32) (gain : Vec Ideal S1x1024 .f32) (s : Vec Ideal S1x8x1024 .f32) (ct : Vec Ideal S256x1024 .f32)
    (v : Fin 1024 → Fin 3072 → EReal) (hv : ∀ j k l, w (ix3 j k l) = v k (Back.quarter quarters j l)) (i : Fin 256) (k : Fin 1024) :
    body b d0 d1 d2 w x gain s ct (ix2 i k)
      = Mlp.throughNorm (fun k => x (ix2 i k)) (fun k => ct (ix2 i k))
          (Back.normed (Back.joined columns ![d0, d1, d2] i) v (fun k => s (ix3 0 1 k)) fun k => gain (ix2 0 k)) k := by
  have g : ∀ l, View.ld s (Rect.unit (s := S1x8x1024) ![0, 1, 0] ![1, 1, 1024] inb_S1x8x1024_S1x1x1024_0_1_0) (ix3 0 0 l) = s (ix3 0 1 l) :=
    fun l => Forward.ld3 s 0 1 0 inb_S1x8x1024_S1x1x1024_0_1_0 0 0 l 0 1 l rfl rfl (Nat.zero_add _)
  have hp := product_apply b d0 d1 d2 w v hv i
  unfold body Mlp.throughNorm Back.normed
  generalize product b d0 d1 d2 w = z at hp
  simp only [out_apply, modulated_apply, gain_apply, scale_apply, inverse_apply, normed_apply, g, hp]

end Cert.CinTile

end
-- ==== Proof.CinBack.lean ====
/- The gradient of the input after the run of a short-convolution layer's projection's backward call: what the host prepares, the blocks the points
   are given, and the rows they write back. -/
module

public import proofs.«01_k».proof.Proof.CinTile

@[expose] public section

set_option maxRecDepth 65536

noncomputable section

namespace Cert.CinBack

open Idealize.ShloMosaic Idealize.ShloMosaic.TcCoe Idealize.SL.Sem
open Cert.Kernel12Ideal Cert.Kernel12Ideal.Gen Cert.Kernel12Ideal.Value
open Cert.CinTile (blkD0 blkD1 blkD2 blkW blkX blkGain blkMod blkCt columns quarters)

variable (m : (ℓ : Loc nD τ sig) → Buf (Elt Ideal) ℓ) (c : Dev nD)

/-- The arguments as launched: the cotangents of the parts, input, gain, modulation, weight and the cotangent that passes the layer by. -/
abbrev argD0 : FVec Ideal S8448x1024 .bf16 := m ((c : Thread nD τ).loc main_arg0)
abbrev argD1 : FVec Ideal S8448x1024 .bf16 := m ((c : Thread nD τ).loc main_arg1)
abbrev argD2 : FVec Ideal S8448x1024 .bf16 := m ((c : Thread nD τ).loc main_arg2)
abbrev argX : FVec Ideal S8448x1024 .f32 := m ((c : Thread nD τ).loc main_arg3)
abbrev argGain : FVec Ideal S1024 .f32 := m ((c : Thread nD τ).loc main_arg4)
abbrev argMod : FVec Ideal S2x8x1024 .f32 := m ((c : Thread nD τ).loc main_arg5)
abbrev argW : FVec Ideal S1024x3072 .f32 := m ((c : Thread nD τ).loc main_arg6)
abbrev argCt : FVec Ideal S8448x1024 .f32 := m ((c : Thread nD τ).loc main_arg7)

theorem host_gain : V m c main_v3 = broadcastInDim S1x1024 ![1] bcast_S1024_S1x1024_1 (argGain m c) := by
  simp only [V, List.flatten_cons, List.flatten_nil, List.append_nil, List.cons_append, List.nil_append, hostOps0]
  after_results

theorem host_weight : V m c main_v2 = transpose S4x1024x768 [1, 0, 2]
    (shapeCast S1024x4x768 (truncf .bf16 (argW m c) bitsLt_bf16_f32) shapeCasts_S1024x3072_S1024x4x768) transposes_S1024x4x768_S4x1024x768_1_0_2 := by
  simp only [V, List.flatten_cons, List.flatten_nil, List.append_nil, List.cons_append, List.nil_append, hostOps0]
  after_results
  rfl

/-! The blocks of a point, of the arrays. -/

theorem lt33 (t : Fin cfg0.N) : t.val < 33 := lt_of_lt_of_eq t.isLt (show cfg0.N = 33 from N_0)

theorem index_rows : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_4.index t (0 : Fin 2) = t.val ∧ win0_4.index t (1 : Fin 2) = 0) ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 3) = t.val / 32 ∧ win0_6.index t (1 : Fin 3) = 0 ∧ win0_6.index t (2 : Fin 3) = 0 :=
  (by decide +kernel : ∀ t : Fin grid0.N, _)

section Read

variable (t : Fin cfg0.N) (i : Fin 256) (k : Fin 1024) (l : Fin 768)

abbrev row : Fin 8448 := Forward.row t.val (lt33 t) i

theorem emb0 : ((cfg0.win 0).blk t).view.emb (ix2 i k) = ix2 (row t i) k :=
  Back.row_emb t.val (lt33 t) ((cfg0.win 0).blk t).view.emb _ _ (index_rows t).1 (fun _ => rfl) (fun _ => rfl) i k
theorem emb1 : ((cfg0.win 1).blk t).view.emb (ix2 i k) = ix2 (row t i) k :=
  Back.row_emb t.val (lt33 t) ((cfg0.win 1).blk t).view.emb _ _ (index_rows t).2.1 (fun _ => rfl) (fun _ => rfl) i k
theorem emb2 : ((cfg0.win 2).blk t).view.emb (ix2 i k) = ix2 (row t i) k :=
  Back.row_emb t.val (lt33 t) ((cfg0.win 2).blk t).view.emb _ _ (index_rows t).2.2.1 (fun _ => rfl) (fun _ => rfl) i k
theorem emb4 : ((cfg0.win 4).blk t).view.emb (ix2 i k) = ix2 (row t i) k :=
  Back.row_emb t.val (lt33 t) ((cfg0.win 4).blk t).view.emb _ _ (index_rows t).2.2.2.1 (fun _ => rfl) (fun _ => rfl) i k
theorem emb7 : ((cfg0.win 7).blk t).view.emb (ix2 i k) = ix2 (row t i) k :=
  Back.row_emb t.val (lt33 t) ((cfg0.win 7).blk t).view.emb _ _ (index_rows t).2.2.2.2.1 (fun _ => rfl) (fun _ => rfl) i k
theorem emb8 : ((cfg0.win 8).blk t).view.emb (ix2 i k) = ix2 (row t i) k :=
  Back.row_emb t.val (lt33 t) ((cfg0.win 8).blk t).view.emb _ _ (index_rows t).2.2.2.2.2 (fun _ => rfl) (fun _ => rfl) i k

theorem emb3 (j : Fin 4) : ((cfg0.win 3).blk t).view.emb (ix3 j k l) = ix3 j k l := by
  obtain ⟨e0, e1, e2⟩ := index3 t
  funext a; apply Fin.ext
  match a with
  | 0 => show win0_3.index t (0 : Fin 3) * 4 + 1 * j.val = j.val; omega
  | 1 => show win0_3.index t (1 : Fin 3) * 1024 + 1 * k.val = k.val; omega
  | 2 => show win0_3.index t (2 : Fin 3) * 768 + 1 * l.val = l.val; omega

theorem emb5 : ((cfg0.win 5).blk t).view.emb (ix2 0 k) = ix2 0 k := by
  obtain ⟨e0, e1⟩ := index5 t
  funext a; apply Fin.ext
  match a with
  | 0 => show win0_5.index t (0 : Fin 2) * 1 + 1 * 0 = 0; omega
  | 1 => show win0_5.index t (1 : Fin 2) * 1024 + 1 * k.val = k.val; omega

theorem emb6 (j : Fin 8) : ((cfg0.win 6).blk t).view.emb (ix3 0 j k) = ix3 (Forward.side t.val (lt33 t)) j k := by
  obtain ⟨e0, e1, e2⟩ := index6 t
  funext a; apply Fin.ext
  match a with
  | 0 => show win0_6.index t (0 : Fin 3) * 1 + 1 * 0 = t.val / 32; omega
  | 1 => show win0_6.index t (1 : Fin 3) * 8 + 1 * j.val = j.val; omega
  | 2 => show win0_6.index t (2 : Fin 3) * 1024 + 1 * k.val = k.val; omega

theorem d0_apply : blkD0 m c t (ix2 i k) = argD0 m c (ix2 (row t i) k) := by
  show V m c main_arg0 (((cfg0.win 0).blk t).view.emb (ix2 i k)) = _
  rw [emb0, V_main_arg0]

theorem d1_apply : blkD1 m c t (ix2 i k) = argD1 m c (ix2 (row t i) k) := by
  show V m c main_arg1 (((cfg0.win 1).blk t).view.emb (ix2 i k)) = _
  rw [emb1, V_main_arg1]

theorem d2_apply : blkD2 m c t (ix2 i k) = argD2 m c (ix2 (row t i) k) := by
  show V m c main_arg2 (((cfg0.win 2).blk t).view.emb (ix2 i k)) = _
  rw [emb2, V_main_arg2]

theorem weight_apply (j : Fin 4) : blkW m c t (ix3 j k l) = argW m c (ix2 k (Back.quarter quarters j l)) := by
  show V m c main_v2 (((cfg0.win 3).blk t).view.emb (ix3 j k l)) = _
  rw [emb3, host_weight]
  pointwise []
  exact congrArg (fun q => argW m c (ix2 k q)) (Fin.ext (by show j.val * 768 + l.val = 768 * j.val + l.val; omega))

theorem x_apply : blkX m c t (ix2 i k) = argX m c (ix2 (row t i) k) := by
  show V m c main_arg3 (((cfg0.win 4).blk t).view.emb (ix2 i k)) = _
  rw [emb4, V_main_arg3]

theorem gain_apply : blkGain m c t (ix2 0 k) = argGain m c (ix1 k) := by
  show V m c main_v3 (((cfg0.win 5).blk t).view.emb (ix2 0 k)) = _
  rw [emb5, host_gain]
  pointwise []

theorem modulation_apply (j : Fin 8) : blkMod m c t (ix3 0 j k) = MlpRef.row (argMod m c) j (row t i) k := by
  show V m c main_arg5 (((cfg0.win 6).blk t).view.emb (ix3 0 j k)) = _
  rw [emb6, V_main_arg5]
  exact Forward.side_apply (argMod m c) t.val (lt33 t) i j k

theorem ct_apply : blkCt m c t (ix2 i k) = argCt m c (ix2 (row t i) k) := by
  show V m c main_arg7 (((cfg0.win 7).blk t).view.emb (ix2 i k)) = _
  rw [emb7, V_main_arg7]

/-- The parts of a point's block side by side are the row of the arrays side by side. -/
theorem parts_apply (q : Fin 3072) : Back.joined columns ![blkD0 m c t, blkD1 m c t, blkD2 m c t] i q
    = Back.joined columns ![argD0 m c, argD1 m c, argD2 m c] (row t i) q :=
  Back.joined_congr columns _ _ i (row t i) (fun j l => match j with
    | 0 => d0_apply m c t i l
    | 1 => d1_apply m c t i l
    | 2 => d2_apply m c t i l) q

end Read

/-- The gradient as an array. -/
def result : FVec Ideal S8448x1024 .f32 := fun y =>
  Back.gradient (Back.joined columns ![argD0 m c, argD1 m c, argD2 m c]) (argX m c) (argGain m c) (argMod m c) (argW m c) (argCt m c) (y 0) (y 1)

theorem left_apply (t : Fin cfg0.N) (i : Fin 256) (k : Fin 1024) : (outsAt0 m c t.val t.isLt).1 (ix2 i k) = result m c (ix2 (row t i) k) := by
  rw [CinTile.left_eq, CinTile.body_apply _ _ _ _ _ _ _ _ _ (fun k q => argW m c (ix2 k q)) fun j k l => weight_apply m c t k l j]
  rw [show Back.joined columns ![blkD0 m c t, blkD1 m c t, blkD2 m c t] i = Back.joined columns ![argD0 m c, argD1 m c, argD2 m c] (row t i) from
    funext (parts_apply m c t i)]
  simp only [x_apply, gain_apply, modulation_apply m c t i, ct_apply]
  rfl

theorem flushed_eq (t : Fin cfg0.N) (hf : (cfg0.win 8).flush t = true) :
    (dats m 0 c).flushed 8 t = ((cfg0.win 8).blk t).view.read (Elt Ideal) (result m c) := by
  rw [flushed8]
  funext y
  obtain ⟨i, k, rfl⟩ : ∃ (i : Fin 256) (k : Fin 1024), y = ix2 i k := ⟨y 0, y 1, funext fun a => match a with | 0 => rfl | 1 => rfl⟩
  show (outsAt0 m c t.val t.isLt).1 (ix2 i k) = result m c (((cfg0.win 8).blk t).view.emb (ix2 i k))
  rw [emb8, left_apply]

/-- The point that writes a row. -/
def point (r : Fin 8448) : Fin cfg0.N := ⟨r.val / 256, lt_of_lt_of_eq (by omega) (show cfg0.N = 33 from N_0).symm⟩

theorem row_point (r : Fin 8448) : row (point r) (Forward.inside r) = r := Forward.row_inside r _

/-- The array of the gradient after the run. -/
theorem final : (dats m 0 c).arrAt 8 cfg0.N = result m c :=
  (dats m 0 c).arrAt_eq_of_cover 8 _ (flushed_eq m c) fun y => by
    obtain ⟨r, k, rfl⟩ : ∃ (r : Fin 8448) (k : Fin 1024), y = ix2 r k := ⟨y 0, y 1, funext fun a => match a with | 0 => rfl | 1 => rfl⟩
    have e := ((cfg0.win 8).blk (point r)).view.emb_mem_set (ix2 (Forward.inside r) k)
    rw [emb8, row_point] at e
    exact ⟨point r, flush0_8 _, e⟩

end Cert.CinBack

end
-- ==== Proof.BackRef.lean ====
/- The references of the two projections' backward calls, read at an index. -/
module

public import proofs.«01_k».proof.Proof.Gen.Reference11Ideal.Run
public import proofs.«01_k».proof.Proof.Gen.Reference12Ideal.Run
public import proofs.«01_k».proof.Proof.Back
public import proofs.«01_k».proof.Proof.ProjRef

@[expose] public section

set_option maxRecDepth 65536

noncomputable section

namespace Cert.BackRef

open Idealize.ShloMosaic Idealize.ShloMosaic.TcCoe Idealize.SL.Sem

section Arrays

open Cert.Reference2Ideal Cert.Reference2Ideal.Gen

/-- The cotangent of the normed rows, of the product `z` of the parts' cotangents with the weight; and the whole. -/
def normed (z : FVec Ideal S8448x1024 .f32) (gain : FVec Ideal S1024 .f32) (w : FVec Ideal S2x8x1024 .f32) : FVec Ideal S8448x1024 .f32 :=
  mulf (mulf z (ProjRef.scale w)) (broadcastInDim S8448x1024 ![0, 1] bcast_S1x1024_S8448x1024_0_1 (broadcastInDim S1x1024 ![1] bcast_S1024_S1x1024_1 gain))
def whole (z x : FVec Ideal S8448x1024 .f32) (gain : FVec Ideal S1024 .f32) (w : FVec Ideal S2x8x1024 .f32) (ct : FVec Ideal S8448x1024 .f32) :
    FVec Ideal S8448x1024 .f32 :=
  MlpRef.result ct x (normed z gain w) (MlpRef.inverse (MlpRef.squares x))
    (MlpRef.ofSquare x (normed z gain w) (MlpRef.inverse (MlpRef.squares x)) (MlpRef.squares x))

theorem normed_apply (z : FVec Ideal S8448x1024 .f32) (gain : FVec Ideal S1024 .f32) (w : FVec Ideal S2x8x1024 .f32) (i : Fin 8448) (k : Fin 1024) :
    normed z gain w (ix2 i k) = z (ix2 i k) * (1 + MlpRef.row w 1 i k) * gain (ix1 k) := by
  rw [← ProjRef.scale_apply]
  unfold normed
  generalize ProjRef.scale w = s
  pointwise []

theorem whole_apply {n : Nat} (d : Fin 8448 → Fin n → EReal) (p : FVec Ideal ⟨2, ![1024, n]⟩ .f32) (z x : FVec Ideal S8448x1024 .f32)
    (gain : FVec Ideal S1024 .f32) (w : FVec Ideal S2x8x1024 .f32) (ct : FVec Ideal S8448x1024 .f32)
    (hz : ∀ i k, z (ix2 i k) = ∑ q, d i q * p (ix2 k q)) (i : Fin 8448) (k : Fin 1024) :
    whole z x gain w ct (ix2 i k) = Back.gradient d x gain w p ct i k := by
  unfold whole Back.gradient
  rw [MlpRef.result_apply, MlpRef.ofSquare_apply, MlpRef.inverse_apply, MlpRef.squares_apply, ← Mlp.throughNorm_eq]
  simp only [normed_apply, hz]
  rfl

end Arrays

section Cin

open Cert.Reference12Ideal Cert.Reference12Ideal.Gen

def cinParts (d0 d1 d2 : FVec Ideal S8448x1024 .bf16) : FVec Ideal S8448x3072 .bf16 :=
  concatenate S8448x3072 1 [⟨S8448x1024, d0⟩, ⟨S8448x1024, d1⟩, ⟨S8448x1024, d2⟩] concatenates_S8448x1024_S8448x1024_S8448x1024_S8448x3072_d1
def cinProduct (d : FVec Ideal S8448x3072 .bf16) (p : FVec Ideal S1024x3072 .f32) : FVec Ideal S8448x1024 .f32 :=
  Host.dotGeneral dot_S8448x3072_S1024x3072_S8448x1024_1_1_0_0_n_n none (extf .f32 d bitsLt_bf16_f32) p

theorem cin_eq (m : (ℓ : Loc nD τ sig) → Buf (Elt Ideal) ℓ) (c : Dev nD) : Value.res_main_v59 m c
    = whole (cinProduct (cinParts (m ((c.tc : Thread nD τ).loc main_arg0)) (m ((c.tc : Thread nD τ).loc main_arg1)) (m ((c.tc : Thread nD τ).loc main_arg2)))
        (m ((c.tc : Thread nD τ).loc main_arg6))) (m ((c.tc : Thread nD τ).loc main_arg3)) (m ((c.tc : Thread nD τ).loc main_arg4))
        (m ((c.tc : Thread nD τ).loc main_arg5)) (m ((c.tc : Thread nD τ).loc main_arg7)) := rfl

theorem cinParts_apply (d0 d1 d2 : FVec Ideal S8448x1024 .bf16) (h : 3072 = 1024 * 3) (i : Fin 8448) (q : Fin 3072) :
    cinParts d0 d1 d2 (ix2 i q) = Back.joined h ![d0, d1, d2] i q := by
  pointwise [cinParts]
  split
  · rename_i h0
    exact Back.joined_at h ![d0, d1, d2] i 0 ⟨q.val, h0⟩ q (by show 1024 * 0 + q.val = q.val; omega)
  · split
    · rename_i h0 h1
      exact Back.joined_at h ![d0, d1, d2] i 1 ⟨q.val - 1024, h1⟩ q (by show 1024 * 1 + (q.val - 1024) = q.val; omega)
    · rename_i h0 h1
      exact Back.joined_at h ![d0, d1, d2] i 2 ⟨q.val - 1024 - 1024, by omega⟩ q (by show 1024 * 2 + (q.val - 1024 - 1024) = q.val; omega)

theorem cinProduct_apply (d : FVec Ideal S8448x3072 .bf16) (p : FVec Ideal S1024x3072 .f32) (i : Fin 8448) (k : Fin 1024) :
    cinProduct d p (ix2 i k) = ∑ q : Fin 3072, d (ix2 i q) * p (ix2 k q) := by
  pointwise [cinProduct]

end Cin

section Hin

open Cert.Reference11Ideal Cert.Reference11Ideal.Gen

def hinParts (d0 d1 d2 d3 d4 : FVec Ideal S8448x1024 .bf16) : FVec Ideal S8448x5120 .bf16 :=
  concatenate S8448x5120 1 [⟨S8448x1024, d0⟩, ⟨S8448x1024, d1⟩, ⟨S8448x1024, d2⟩, ⟨S8448x1024, d3⟩, ⟨S8448x1024, d4⟩]
    concatenates_S8448x1024_S8448x1024_S8448x1024_S8448x1024_S8448x1024_S8448x5120_d1
def hinProduct (d : FVec Ideal S8448x5120 .bf16) (p : FVec Ideal S1024x5120 .f32) : FVec Ideal S8448x1024 .f32 :=
  Host.dotGeneral dot_S8448x5120_S1024x5120_S8448x1024_1_1_0_0_n_n none (extf .f32 d bitsLt_bf16_f32) p

theorem hin_eq (m : (ℓ : Loc nD τ sig) → Buf (Elt Ideal) ℓ) (c : Dev nD) : Value.res_main_v59 m c
    = whole (hinProduct (hinParts (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
        (m ((c.tc : Thread nD τ).loc main_arg8))) (m ((c.tc : Thread nD τ).loc main_arg5)) (m ((c.tc : Thread nD τ).loc main_arg6))
        (m ((c.tc : Thread nD τ).loc main_arg7)) (m ((c.tc : Thread nD τ).loc main_arg9)) := rfl

theorem hinParts_apply (d0 d1 d2 d3 d4 : FVec Ideal S8448x1024 .bf16) (h : 5120 = 1024 * 5) (i : Fin 8448) (q : Fin 5120) :
    hinParts d0 d1 d2 d3 d4 (ix2 i q) = Back.joined h ![d0, d1, d2, d3, d4] i q := by
  have at' := fun (j : Fin 5) l hq => Back.joined_at h ![d0, d1, d2, d3, d4] i j l q hq
  have hq := q.isLt
  pointwise [hinParts]
  split
  · rename_i h0
    exact at' 0 ⟨q.val, h0⟩ (by show 1024 * 0 + q.val = q.val; omega)
  split
  · rename_i h0 h1
    exact at' 1 ⟨q.val - 1024, h1⟩ (by show 1024 * 1 + (q.val - 1024) = q.val; omega)
  split
  · rename_i h0 h1 h2
    exact at' 2 ⟨q.val - 1024 - 1024, h2⟩ (by show 1024 * 2 + (q.val - 1024 - 1024) = q.val; omega)
  split
  · rename_i h0 h1 h2 h3
    exact at' 3 ⟨q.val - 1024 - 1024 - 1024, h3⟩ (by show 1024 * 3 + (q.val - 1024 - 1024 - 1024) = q.val; omega)
  · rename_i h0 h1 h2 h3
    exact at' 4 ⟨q.val - 1024 - 1024 - 1024 - 1024, by omega⟩ (by show 1024 * 4 + (q.val - 1024 - 1024 - 1024 - 1024) = q.val; omega)

theorem hinProduct_apply (d : FVec Ideal S8448x5120 .bf16) (p : FVec Ideal S1024x5120 .f32) (i : Fin 8448) (k : Fin 1024) :
    hinProduct d p (ix2 i k) = ∑ q : Fin 5120, d (ix2 i q) * p (ix2 k q) := by
  pointwise [hinProduct]

end Hin

end Cert.BackRef

end
-- ==== Proof.BackClaims.lean ====
/- The claims about the two projections' backward calls: their frames (the kernel and its ideal form have the same text, so one run serves both),
   the references' frames, and the values. -/
module

public import proofs.«01_k».proof.Defs
public import proofs.«01_k».proof.Proof.Gen.Kernel11
public import proofs.«01_k».proof.Proof.Gen.Kernel12
public import proofs.«01_k».proof.Proof.HinBack
public import proofs.«01_k».proof.Proof.CinBack
public import proofs.«01_k».proof.Proof.BackRef

@[expose] public section

set_option maxRecDepth 65536
set_option maxHeartbeats 4000000

noncomputable section

namespace Cert.BackClaims

open Idealize.ShloMosaic Idealize.ShloMosaic.TcCoe Idealize.SL.Sem

theorem defs11 : @Cert.Kernel11.defs Bits _ _ = @Cert.Kernel11Ideal.defs Bits _ _ := by
  refine congrArg (Pipeline.defs (Cert.Kernel11Ideal.pcfgs (F := Bits))) ?_
  unfold Cert.Kernel11.defs₀ Cert.Kernel11Ideal.defs₀
  refine congrArg Defs.onTc (funext fun l => funext fun x => ?_)
  match l, x with
  | 0, (_, _) => rfl

theorem defs12 : @Cert.Kernel12.defs Bits _ _ = @Cert.Kernel12Ideal.defs Bits _ _ := by
  refine congrArg (Pipeline.defs (Cert.Kernel12Ideal.pcfgs (F := Bits))) ?_
  unfold Cert.Kernel12.defs₀ Cert.Kernel12Ideal.defs₀
  refine congrArg Defs.onTc (funext fun l => funext fun x => ?_)
  match l, x with
  | 0, (_, _) => rfl

theorem frame11 : Cert.quiescent_Kernel11 (hKernel11 := Cert.Kernel11.Gen.facts) := by
  intro m ρ _
  rw [defs11]
  exact Cert.Kernel11Ideal.Gen.frame (F := Bits) m ρ

theorem frame12 : Cert.quiescent_Kernel12 (hKernel12 := Cert.Kernel12.Gen.facts) := by
  intro m ρ _
  rw [defs12]
  exact Cert.Kernel12Ideal.Gen.frame (F := Bits) m ρ

theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem value11 : Cert.algebraic_Kernel11Ideal_Reference11Ideal (hKernel11Ideal := Cert.Kernel11Ideal.Gen.facts)
    (hReference11Ideal := Cert.Reference11Ideal.Gen.facts) := by
  intro m ρ m' ρ' _ hagree
  refine ⟨fun c => HinBack.result m c, ?_, ?_⟩
  · refine (θ_run _ _ _).mono (fun _ h c => ?_) (Cert.Kernel11Ideal.Value.run_blocks (F := Ideal) m ρ)
    obtain ⟨h1, -, -, -, hargs⟩ := h c
    exact ⟨h1.trans (HinBack.final m c), hargs⟩
  · refine (θ_run _ _ _).mono (fun _ h c => ⟨(h c).1.trans ?_, (h c).2⟩) (Cert.Reference11Ideal.Value.run (F := Ideal) m' ρ')
    obtain ⟨e0, e1, e2, e3, e4, e5, e6, e7, e8, e9⟩ := hagree c
    rw [BackRef.hin_eq, e0, e1, e2, e3, e4, e5, e6, e7, e8, e9]
    funext y
    obtain ⟨r, k, rfl⟩ : ∃ (r : Fin 8448) (k : Fin 1024), y = ix2 r k := ⟨y 0, y 1, funext fun a => match a with | 0 => rfl | 1 => rfl⟩
    exact BackRef.whole_apply _ _ _ _ _ _ _ (fun i k => by
      rw [BackRef.hinProduct_apply]
      exact Finset.sum_congr rfl fun q _ => congrArg (· * _) (BackRef.hinParts_apply _ _ _ _ _ HinTile.columns i q)) r k

theorem value12 : Cert.algebraic_Kernel12Ideal_Reference12Ideal (hKernel12Ideal := Cert.Kernel12Ideal.Gen.facts)
    (hReference12Ideal := Cert.Reference12Ideal.Gen.facts) := by
  intro m ρ m' ρ' _ hagree
  refine ⟨fun c => CinBack.result m c, ?_, ?_⟩
  · refine (θ_run _ _ _).mono (fun _ h c => ?_) (Cert.Kernel12Ideal.Value.run_blocks (F := Ideal) m ρ)
    obtain ⟨h1, -, -, -, hargs⟩ := h c
    exact ⟨h1.trans (CinBack.final m c), hargs⟩
  · refine (θ_run _ _ _).mono (fun _ h c => ⟨(h c).1.trans ?_, (h c).2⟩) (Cert.Reference12Ideal.Value.run (F := Ideal) m' ρ')
    obtain ⟨e0, e1, e2, e3, e4, e5, e6, e7⟩ := hagree c
    rw [BackRef.cin_eq, e0, e1, e2, e3, e4, e5, e6, e7]
    funext y
    obtain ⟨r, k, rfl⟩ : ∃ (r : Fin 8448) (k : Fin 1024), y = ix2 r k := ⟨y 0, y 1, funext fun a => match a with | 0 => rfl | 1 => rfl⟩
    exact BackRef.whole_apply _ _ _ _ _ _ _ (fun i k => by
      rw [BackRef.cinProduct_apply]
      exact Finset.sum_congr rfl fun q _ => congrArg (· * _) (BackRef.cinParts_apply _ _ _ CinTile.columns i q)) r k

end Cert.BackClaims

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_below_infinity
public import proofs.«01_k».proof.Proof.KernelValue
public import proofs.«01_k».proof.Proof.RefValue
public import proofs.«01_k».proof.Proof.Bound
public import proofs.«01_k».proof.Proof.GradClaims
public import proofs.«01_k».proof.Proof.Gen.Kernel2
public import proofs.«01_k».proof.Proof.Gen.Kernel2Ideal.Value
public import proofs.«01_k».proof.Proof.Gen.Reference2Ideal.Run
public import proofs.«01_k».proof.Proof.MlpClaims
public import proofs.«01_k».proof.Proof.Gen.Kernel8
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12Ideal.Value
public import proofs.«01_k».proof.Proof.Gen.Reference12Ideal.Run
public import proofs.«01_k».proof.Proof.FwdClaims
public import proofs.«01_k».proof.Proof.ProjClaims
public import proofs.«01_k».proof.Proof.BackClaims
public import Idealize.ShloMosaic.Adequacy
public import Idealize.ShloMosaic.Init

@[expose] public section

set_option maxRecDepth 65536

noncomputable section

namespace Cert.Proof

open Idealize.ShloMosaic Idealize.ShloMosaic.TcCoe Idealize.SL.Sem

/-- The reference leaves its arguments unchanged, and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's two results are the reference's. -/
theorem value : Cert.algebraic_KernelIdeal_ReferenceIdeal_pre_below_infinity (hKernelIdeal := Cert.KernelIdeal.Gen.facts)
    (hReferenceIdeal := Cert.ReferenceIdeal.Gen.facts) (hPre_below_infinity := Cert.Pre_below_infinity.Gen.facts) := by
  intro m ρ m' ρ' hpre hagree
  refine ⟨fun c => Cert.Chunk.dvAll (Cert.Blocks.argP m c) (Cert.Blocks.argB m c) (Cert.Blocks.argO m c) (Cert.Blocks.argS m c),
    fun c => Cert.Chunk.dqAll (Cert.Blocks.argP m c) (Cert.Blocks.argB m c) (Cert.Blocks.argO m c) (Cert.Blocks.argS m c), ?_, ?_⟩
  · refine (θ_run _ _ _).mono (fun _ h c => ?_) (Cert.KernelIdeal.Value.run_blocks (F := Ideal) m ρ)
    have hb := Cert.Bound.below hpre c
    obtain ⟨-, h1, h2, -, hargs⟩ := h c
    exact ⟨h1.trans (Cert.KernelValue.final_dv hb), h2.trans (Cert.KernelValue.final_dq hb), hargs⟩
  · refine (θ_run _ _ _).mono (fun _ h c => ?_) (Cert.RefRun.run_record (F := Ideal) m' ρ')
    obtain ⟨h1, h2, hargs⟩ := h c
    obtain ⟨e0, e1, e2, e3⟩ := hagree c
    refine ⟨h1.trans ?_, h2.trans ?_, hargs⟩
    · rw [Cert.RefValue.record_eq m' c 132, e0, e1, e2, e3]
      exact Cert.RefValue.dv_eq ..
    · rw [Cert.RefValue.record_eq m' c 132, e0, e1, e2, e3]
      exact Cert.RefValue.dq_eq ..

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_below_infinity.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  MlpClaims.frame2, fun m ρ _ => Cert.Kernel2Ideal.Gen.frame m ρ, MlpClaims.frame_reference2,
  GradClaims.frame3, fun m ρ _ => Cert.Kernel3Ideal.Gen.frame m ρ, GradClaims.frame_reference3,
  GradClaims.frame4, fun m ρ _ => Cert.Kernel4Ideal.Gen.frame m ρ, GradClaims.frame_reference4,
  GradClaims.frame5, fun m ρ _ => Cert.Kernel5Ideal.Gen.frame m ρ, GradClaims.frame_reference5,
  GradClaims.frame6, fun m ρ _ => Cert.Kernel6Ideal.Gen.frame m ρ, GradClaims.frame_reference6,
  GradClaims.frame7, fun m ρ _ => Cert.Kernel7Ideal.Gen.frame m ρ, GradClaims.frame_reference7,
  FwdClaims.frame8, fun m ρ _ => Cert.Kernel8Ideal.Gen.frame m ρ, FwdClaims.frame_reference8,
  ProjClaims.frame9, fun m ρ _ => Cert.Kernel9Ideal.Gen.frame m ρ, ProjClaims.frame_reference9,
  ProjClaims.frame10, fun m ρ _ => Cert.Kernel10Ideal.Gen.frame m ρ, ProjClaims.frame_reference10,
  BackClaims.frame11, fun m ρ _ => Cert.Kernel11Ideal.Gen.frame m ρ, BackClaims.frame_reference11,
  BackClaims.frame12, fun m ρ _ => Cert.Kernel12Ideal.Gen.frame m ρ, BackClaims.frame_reference12,
  IdealRules.named_const.statement Cert.KernelIdeal.κ "log2e" .f32 0x3FB8AA3B#32 (((Real.log 2)⁻¹ : ℝ) : EReal) rfl,
  value,
  trivial, MlpClaims.value2,
  trivial, GradClaims.value3,
  trivial, GradClaims.value4,
  trivial, GradClaims.value5,
  trivial, GradClaims.value6,
  trivial, GradClaims.value7,
  trivial, FwdClaims.value8,
  trivial, ProjClaims.value9,
  trivial, ProjClaims.value10,
  trivial, BackClaims.value11,
  trivial, BackClaims.value12⟩

end Cert.Proof

end
